-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![65536, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![65536, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x4096x128 : Shape := ⟨3, ![2, 4096, 128]⟩
abbrev S2 : Shape := ⟨1, ![2]⟩
abbrev S_ : Shape := ⟨0, ![]⟩
abbrev S1 : Shape := ⟨1, ![1]⟩
abbrev S4096x128 : Shape := ⟨2, ![4096, 128]⟩
abbrev S4096x1 : Shape := ⟨2, ![4096, 1]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S256x1x1 : Shape := ⟨3, ![256, 1, 1]⟩
abbrev S128x2x16x128 : Shape := ⟨4, ![128, 2, 16, 128]⟩
abbrev S128x1x16x128 : Shape := ⟨4, ![128, 1, 16, 128]⟩
abbrev S128x16x128 : Shape := ⟨3, ![128, 16, 128]⟩
abbrev S128x1x1 : Shape := ⟨3, ![128, 1, 1]⟩
abbrev S64x2x32x128 : Shape := ⟨4, ![64, 2, 32, 128]⟩
abbrev S64x1x32x128 : Shape := ⟨4, ![64, 1, 32, 128]⟩
abbrev S64x32x128 : Shape := ⟨3, ![64, 32, 128]⟩
abbrev S64x1x1 : Shape := ⟨3, ![64, 1, 1]⟩
abbrev S32x2x64x128 : Shape := ⟨4, ![32, 2, 64, 128]⟩
abbrev S32x1x64x128 : Shape := ⟨4, ![32, 1, 64, 128]⟩
abbrev S32x64x128 : Shape := ⟨3, ![32, 64, 128]⟩
abbrev S32x1x1 : Shape := ⟨3, ![32, 1, 1]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S16x1x1 : Shape := ⟨3, ![16, 1, 1]⟩
abbrev S8x2x256x128 : Shape := ⟨4, ![8, 2, 256, 128]⟩
abbrev S8x1x256x128 : Shape := ⟨4, ![8, 1, 256, 128]⟩
abbrev S8x256x128 : Shape := ⟨3, ![8, 256, 128]⟩
abbrev S8x1x1 : Shape := ⟨3, ![8, 1, 1]⟩
abbrev S4x2x512x128 : Shape := ⟨4, ![4, 2, 512, 128]⟩
abbrev S4x1x512x128 : Shape := ⟨4, ![4, 1, 512, 128]⟩
abbrev S4x512x128 : Shape := ⟨3, ![4, 512, 128]⟩
abbrev S4x1x1 : Shape := ⟨3, ![4, 1, 1]⟩
abbrev S2x2x1024x128 : Shape := ⟨4, ![2, 2, 1024, 128]⟩
abbrev S2x1x1024x128 : Shape := ⟨4, ![2, 1, 1024, 128]⟩
abbrev S2x1024x128 : Shape := ⟨3, ![2, 1024, 128]⟩
abbrev S2x1x1 : Shape := ⟨3, ![2, 1, 1]⟩
abbrev S1x2x2048x128 : Shape := ⟨4, ![1, 2, 2048, 128]⟩
abbrev S1x1x2048x128 : Shape := ⟨4, ![1, 1, 2048, 128]⟩
abbrev S1x2048x128 : Shape := ⟨3, ![1, 2048, 128]⟩
abbrev S1x1x1 : Shape := ⟨3, ![1, 1, 1]⟩
abbrev S1x4096x128 : Shape := ⟨3, ![1, 4096, 128]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S2x4096x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 3 → Bool
  | ⟨0, _⟩ => true
  | ⟨1, _⟩ => true
  | ⟨2, _⟩ => true
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 3 6 bufScoped semScoped dmaSemScoped tileCredit tileCredit_eq_zero tileCredit_pos

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v17 : BitVec 32 := Scalar.xori v2 c1_i32_6
  let c1_i32_9 : BitVec 32 := 1#32
  let v20 : BitVec 32 := Scalar.muli v17 c1_i32_9
  let v21 : BitVec 32 := Scalar.addi c0_i32_10 v20
  v21.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v22 : BitVec 32 := Scalar.xori v2 c1_i32_11
  let c1_i32_14 : BitVec 32 := 1#32
  let v25 : BitVec 32 := Scalar.muli v22 c1_i32_14
  let v26 : BitVec 32 := Scalar.addi c0_i32_15 v25
  v26.toNat
@[reducible] def k0_t1_loop : Scf.Loop 32 :=
  let c0_i32_16 : BitVec 32 := 0#32
  let c8_i32 : BitVec 32 := 8#32
  let v27 : BitVec 32 := Scalar.addi c0_i32_16 c8_i32
  let c1_i32_17 : BitVec 32 := 1#32
  ⟨c0_i32_16, v27, c1_i32_17⟩
def k0_off1 (k0_t1 : Fin k0_t1_loop.trips) : Fin 2 → Nat :=
  let c0 : Index := 0#32
  let c0_i32_16 : BitVec 32 := 0#32
  let c1_i32_17 : BitVec 32 := 1#32
  let arg7 : BitVec 32 := Scf.iv c0_i32_16 c1_i32_17 k0_t1
  let c128_i32 : BitVec 32 := 128#32
  let v30 : BitVec 32 := Scalar.muli arg7 c128_i32
  let v31 : Index := Scalar.indexCast v30
  ![0, v31.toNat]
@[reducible] def k0_t2_loop : Scf.Loop 32 :=
  let c0_i32_19 : BitVec 32 := 0#32
  let c16_i32_20 : BitVec 32 := 16#32
  let v28 : BitVec 32 := Scalar.addi c0_i32_19 c16_i32_20
  let c1_i32_21 : BitVec 32 := 1#32
  ⟨c0_i32_19, v28, c1_i32_21⟩
def k0_cond1 (d0 : Dev nD) (k0_t2 : Fin k0_t2_loop.trips) : BitVec 1 :=
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let v_true : BitVec 1 := 1#1
  let v57 : BitVec 1 := Scalar.xori v16 v_true
  let v58 : BitVec 1 := Scalar.ori v40 v57
  let v67 : BitVec 32 := Scalar.extui v58
  let c0_i32_45 : BitVec 32 := 0#32
  let v68 : BitVec 1 := Scalar.cmpi .ne v67 c0_i32_45
  v68

@[reducible] def k0_t3_loop : Scf.Loop 32 :=
  let c0_i32_46 : BitVec 32 := 0#32
  let c8_i32_47 : BitVec 32 := 8#32
  let v69 : BitVec 32 := Scalar.addi c0_i32_46 c8_i32_47
  let c1_i32_48 : BitVec 32 := 1#32
  ⟨c0_i32_46, v69, c1_i32_48⟩
def k0_cond3 (k0_t3 : Fin k0_t3_loop.trips) : BitVec 1 :=
  let c0_i32_46 : BitVec 32 := 0#32
  let c1_i32_48 : BitVec 32 := 1#32
  let arg8 : BitVec 32 := Scf.iv c0_i32_46 c1_i32_48 k0_t3
  let c2_i32_107 : BitVec 32 := 2#32
  let v291 : BitVec 1 := Scalar.cmpi .slt arg8 c2_i32_107
  let v292 : BitVec 32 := Scalar.extui v291
  let c0_i32_108 : BitVec 32 := 0#32
  let v293 : BitVec 1 := Scalar.cmpi .ne v292 c0_i32_108
  v293

def k0_off2 (k0_t2 : Fin k0_t2_loop.trips) : Fin 1 → Nat :=
  let c0_i32_19 : BitVec 32 := 0#32
  let c1_i32_21 : BitVec 32 := 1#32
  let arg7 : BitVec 32 := Scf.iv c0_i32_19 c1_i32_21 k0_t2
  let c2_i32_123 : BitVec 32 := 2#32
  let c0_i32_124 : BitVec 32 := 0#32
  let v317 : BitVec 1 := Scalar.cmpi .eq c2_i32_123 c0_i32_124
  let c1_i32_125 : BitVec 32 := 1#32
  let v318 : BitVec 32 := Scalar.select v317 c1_i32_125 c2_i32_123
  let v319 : BitVec 32 := Scalar.remsi arg7 v318
  let c0_i32_127 : BitVec 32 := 0#32
  let v321 : BitVec 1 := Scalar.cmpi .slt v319 c0_i32_127
  let c0_i32_128 : BitVec 32 := 0#32
  let v322 : BitVec 1 := Scalar.cmpi .slt v318 c0_i32_128
  let v323 : BitVec 1 := Scalar.xori v321 v322
  let c0_i32_126 : BitVec 32 := 0#32
  let v320 : BitVec 1 := Scalar.cmpi .ne v319 c0_i32_126
  let v324 : BitVec 1 := Scalar.andi v323 v320
  let v325 : BitVec 32 := Scalar.addi v319 v318
  let v326 : BitVec 32 := Scalar.select v324 v325 v319
  ![v326.toNat]
def k0_off3 (k0_t3 : Fin k0_t3_loop.trips) : Fin 1 → Nat :=
  let c0_i32_46 : BitVec 32 := 0#32
  let c1_i32_48 : BitVec 32 := 1#32
  let arg8 : BitVec 32 := Scf.iv c0_i32_46 c1_i32_48 k0_t3
  let c2_i32_109 : BitVec 32 := 2#32
  let c0_i32_110 : BitVec 32 := 0#32
  let v294 : BitVec 1 := Scalar.cmpi .eq c2_i32_109 c0_i32_110
  let c1_i32_111 : BitVec 32 := 1#32
  let v295 : BitVec 32 := Scalar.select v294 c1_i32_111 c2_i32_109
  let v296 : BitVec 32 := Scalar.remsi arg8 v295
  let c0_i32_113 : BitVec 32 := 0#32
  let v298 : BitVec 1 := Scalar.cmpi .slt v296 c0_i32_113
  let c0_i32_114 : BitVec 32 := 0#32
  let v299 : BitVec 1 := Scalar.cmpi .slt v295 c0_i32_114
  let v300 : BitVec 1 := Scalar.xori v298 v299
  let c0_i32_112 : BitVec 32 := 0#32
  let v297 : BitVec 1 := Scalar.cmpi .ne v296 c0_i32_112
  let v301 : BitVec 1 := Scalar.andi v300 v297
  let v302 : BitVec 32 := Scalar.addi v296 v295
  let v303 : BitVec 32 := Scalar.select v301 v302 v296
  ![v303.toNat]
def k0_off4 (k0_t3 : Fin k0_t3_loop.trips) : Fin 3 → Nat :=
  let c0_i32_46 : BitVec 32 := 0#32
  let c1_i32_48 : BitVec 32 := 1#32
  let arg8 : BitVec 32 := Scf.iv c0_i32_46 c1_i32_48 k0_t3
  let c2_i32_109 : BitVec 32 := 2#32
  let c0_i32_110 : BitVec 32 := 0#32
  let v294 : BitVec 1 := Scalar.cmpi .eq c2_i32_109 c0_i32_110
  let c1_i32_111 : BitVec 32 := 1#32
  let v295 : BitVec 32 := Scalar.select v294 c1_i32_111 c2_i32_109
  let v296 : BitVec 32 := Scalar.remsi arg8 v295
  let c0_i32_113 : BitVec 32 := 0#32
  let v298 : BitVec 1 := Scalar.cmpi .slt v296 c0_i32_113
  let c0_i32_114 : BitVec 32 := 0#32
  let v299 : BitVec 1 := Scalar.cmpi .slt v295 c0_i32_114
  let v300 : BitVec 1 := Scalar.xori v298 v299
  let c0_i32_112 : BitVec 32 := 0#32
  let v297 : BitVec 1 := Scalar.cmpi .ne v296 c0_i32_112
  let v301 : BitVec 1 := Scalar.andi v300 v297
  let v302 : BitVec 32 := Scalar.addi v296 v295
  let v303 : BitVec 32 := Scalar.select v301 v302 v296
  let c0_i32_118 : BitVec 32 := 0#32
  let c0_i32_119 : BitVec 32 := 0#32
  ![v303.toNat, 0, 0]
def k0_off5 (k0_t3 : Fin k0_t3_loop.trips) : Fin 2 → Nat :=
  let c0_i32_120 : BitVec 32 := 0#32
  let c0_i32_46 : BitVec 32 := 0#32
  let c1_i32_48 : BitVec 32 := 1#32
  let arg8 : BitVec 32 := Scf.iv c0_i32_46 c1_i32_48 k0_t3
  let c128_i32_115 : BitVec 32 := 128#32
  let v304 : BitVec 32 := Scalar.muli arg8 c128_i32_115
  ![0, v304.toNat]
def k0_dev3 (d0 : Dev nD) (k0_t2 : Fin k0_t2_loop.trips) : Nat :=
  let c0_i32_117 : BitVec 32 := 0#32
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let v41 : BitVec 32 := Scalar.xori v2 c1_i32_34
  let c2_i32_35 : BitVec 32 := 2#32
  let c0_i32_36 : BitVec 32 := 0#32
  let v42 : BitVec 1 := Scalar.cmpi .eq c2_i32_35 c0_i32_36
  let c1_i32_37 : BitVec 32 := 1#32
  let v43 : BitVec 32 := Scalar.select v42 c1_i32_37 c2_i32_35
  let v44 : BitVec 32 := Scalar.remsi v2 v43
  let c0_i32_39 : BitVec 32 := 0#32
  let v46 : BitVec 1 := Scalar.cmpi .slt v44 c0_i32_39
  let c0_i32_40 : BitVec 32 := 0#32
  let v47 : BitVec 1 := Scalar.cmpi .slt v43 c0_i32_40
  let v48 : BitVec 1 := Scalar.xori v46 v47
  let c0_i32_38 : BitVec 32 := 0#32
  let v45 : BitVec 1 := Scalar.cmpi .ne v44 c0_i32_38
  let v49 : BitVec 1 := Scalar.andi v48 v45
  let v50 : BitVec 32 := Scalar.addi v44 v43
  let v51 : BitVec 32 := Scalar.select v49 v50 v44
  let c0_i32_41 : BitVec 32 := 0#32
  let v52 : BitVec 1 := Scalar.cmpi .eq v51 c0_i32_41
  let c1_i32_42 : BitVec 32 := 1#32
  let v53 : BitVec 32 := Scalar.subi v2 c1_i32_42
  let c1_i32_43 : BitVec 32 := 1#32
  let v54 : BitVec 32 := Scalar.addi v2 c1_i32_43
  let v55 : BitVec 32 := Scalar.select v52 v53 v54
  let v56 : BitVec 32 := Scalar.select v40 v41 v55
  let c1_i32_116 : BitVec 32 := 1#32
  let v305 : BitVec 32 := Scalar.muli v56 c1_i32_116
  let v306 : BitVec 32 := Scalar.addi c0_i32_117 v305
  v306.toNat
def k0_cond4 (k0_t3 : Fin k0_t3_loop.trips) : BitVec 1 :=
  let c0_i32_46 : BitVec 32 := 0#32
  let c1_i32_48 : BitVec 32 := 1#32
  let arg8 : BitVec 32 := Scf.iv c0_i32_46 c1_i32_48 k0_t3
  let c1_i32_121 : BitVec 32 := 1#32
  let v314 : BitVec 1 := Scalar.cmpi .sge arg8 c1_i32_121
  let v315 : BitVec 32 := Scalar.extui v314
  let c0_i32_122 : BitVec 32 := 0#32
  let v316 : BitVec 1 := Scalar.cmpi .ne v315 c0_i32_122
  v316

def k0_off6 (k0_t3 : Fin k0_t3_loop.trips) : Fin 1 → Nat :=
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c2_i32_124 : BitVec 32 := 2#32
  let c0_i32_125 : BitVec 32 := 0#32
  let v318 : BitVec 1 := Scalar.cmpi .eq c2_i32_124 c0_i32_125
  let c1_i32_126 : BitVec 32 := 1#32
  let v319 : BitVec 32 := Scalar.select v318 c1_i32_126 c2_i32_124
  let v320 : BitVec 32 := Scalar.remsi v317 v319
  let c0_i32_128 : BitVec 32 := 0#32
  let v322 : BitVec 1 := Scalar.cmpi .slt v320 c0_i32_128
  let c0_i32_129 : BitVec 32 := 0#32
  let v323 : BitVec 1 := Scalar.cmpi .slt v319 c0_i32_129
  let v324 : BitVec 1 := Scalar.xori v322 v323
  let c0_i32_127 : BitVec 32 := 0#32
  let v321 : BitVec 1 := Scalar.cmpi .ne v320 c0_i32_127
  let v325 : BitVec 1 := Scalar.andi v324 v321
  let v326 : BitVec 32 := Scalar.addi v320 v319
  let v327 : BitVec 32 := Scalar.select v325 v326 v320
  ![v327.toNat]
def k0_off7 (k0_t3 : Fin k0_t3_loop.trips) : Fin 2 → Nat :=
  let c0_i32_132 : BitVec 32 := 0#32
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c128_i32_130 : BitVec 32 := 128#32
  let v328 : BitVec 32 := Scalar.muli v317 c128_i32_130
  ![0, v328.toNat]
def k0_off8 (k0_t3 : Fin k0_t3_loop.trips) : Fin 3 → Nat :=
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c2_i32_124 : BitVec 32 := 2#32
  let c0_i32_125 : BitVec 32 := 0#32
  let v318 : BitVec 1 := Scalar.cmpi .eq c2_i32_124 c0_i32_125
  let c1_i32_126 : BitVec 32 := 1#32
  let v319 : BitVec 32 := Scalar.select v318 c1_i32_126 c2_i32_124
  let v320 : BitVec 32 := Scalar.remsi v317 v319
  let c0_i32_128 : BitVec 32 := 0#32
  let v322 : BitVec 1 := Scalar.cmpi .slt v320 c0_i32_128
  let c0_i32_129 : BitVec 32 := 0#32
  let v323 : BitVec 1 := Scalar.cmpi .slt v319 c0_i32_129
  let v324 : BitVec 1 := Scalar.xori v322 v323
  let c0_i32_127 : BitVec 32 := 0#32
  let v321 : BitVec 1 := Scalar.cmpi .ne v320 c0_i32_127
  let v325 : BitVec 1 := Scalar.andi v324 v321
  let v326 : BitVec 32 := Scalar.addi v320 v319
  let v327 : BitVec 32 := Scalar.select v325 v326 v320
  let c0_i32_133 : BitVec 32 := 0#32
  let c0_i32_134 : BitVec 32 := 0#32
  ![v327.toNat, 0, 0]
def k0_off9 (k0_t3 : Fin k0_t3_loop.trips) : Fin 3 → Nat :=
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c2_i32_148 : BitVec 32 := 2#32
  let c0_i32_149 : BitVec 32 := 0#32
  let v353 : BitVec 1 := Scalar.cmpi .eq c2_i32_148 c0_i32_149
  let c1_i32_150 : BitVec 32 := 1#32
  let v354 : BitVec 32 := Scalar.select v353 c1_i32_150 c2_i32_148
  let v355 : BitVec 32 := Scalar.remsi v317 v354
  let c0_i32_152 : BitVec 32 := 0#32
  let v357 : BitVec 1 := Scalar.cmpi .slt v355 c0_i32_152
  let c0_i32_153 : BitVec 32 := 0#32
  let v358 : BitVec 1 := Scalar.cmpi .slt v354 c0_i32_153
  let v359 : BitVec 1 := Scalar.xori v357 v358
  let c0_i32_151 : BitVec 32 := 0#32
  let v356 : BitVec 1 := Scalar.cmpi .ne v355 c0_i32_151
  let v360 : BitVec 1 := Scalar.andi v359 v356
  let v361 : BitVec 32 := Scalar.addi v355 v354
  let v362 : BitVec 32 := Scalar.select v360 v361 v355
  let v363 : Index := Scalar.indexCast v362
  let c0_154 : Index := 0#32
  let c0_155 : Index := 0#32
  ![v363.toNat, 0, 0]
def k0_off10 (k0_t3 : Fin k0_t3_loop.trips) : Fin 2 → Nat :=
  let c0_157 : Index := 0#32
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c128_i32_147 : BitVec 32 := 128#32
  let v352 : BitVec 32 := Scalar.muli v317 c128_i32_147
  let v368 : Index := Scalar.indexCast v352
  ![0, v368.toNat]
def k0_cond5 (k0_t3 : Fin k0_t3_loop.trips) : BitVec 1 :=
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c5_i32_177 : BitVec 32 := 5#32
  let v529 : BitVec 1 := Scalar.cmpi .sle v317 c5_i32_177
  let v530 : BitVec 32 := Scalar.extui v529
  let c0_i32_178 : BitVec 32 := 0#32
  let v531 : BitVec 1 := Scalar.cmpi .ne v530 c0_i32_178
  v531

def k0_dev4 (d0 : Dev nD) (k0_t2 : Fin k0_t2_loop.trips) : Nat :=
  let c0_i32_183 : BitVec 32 := 0#32
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let v41 : BitVec 32 := Scalar.xori v2 c1_i32_34
  let c2_i32_35 : BitVec 32 := 2#32
  let c0_i32_36 : BitVec 32 := 0#32
  let v42 : BitVec 1 := Scalar.cmpi .eq c2_i32_35 c0_i32_36
  let c1_i32_37 : BitVec 32 := 1#32
  let v43 : BitVec 32 := Scalar.select v42 c1_i32_37 c2_i32_35
  let v44 : BitVec 32 := Scalar.remsi v2 v43
  let c0_i32_39 : BitVec 32 := 0#32
  let v46 : BitVec 1 := Scalar.cmpi .slt v44 c0_i32_39
  let c0_i32_40 : BitVec 32 := 0#32
  let v47 : BitVec 1 := Scalar.cmpi .slt v43 c0_i32_40
  let v48 : BitVec 1 := Scalar.xori v46 v47
  let c0_i32_38 : BitVec 32 := 0#32
  let v45 : BitVec 1 := Scalar.cmpi .ne v44 c0_i32_38
  let v49 : BitVec 1 := Scalar.andi v48 v45
  let v50 : BitVec 32 := Scalar.addi v44 v43
  let v51 : BitVec 32 := Scalar.select v49 v50 v44
  let c0_i32_41 : BitVec 32 := 0#32
  let v52 : BitVec 1 := Scalar.cmpi .eq v51 c0_i32_41
  let c1_i32_42 : BitVec 32 := 1#32
  let v53 : BitVec 32 := Scalar.subi v2 c1_i32_42
  let c1_i32_43 : BitVec 32 := 1#32
  let v54 : BitVec 32 := Scalar.addi v2 c1_i32_43
  let v55 : BitVec 32 := Scalar.select v52 v53 v54
  let v56 : BitVec 32 := Scalar.select v40 v41 v55
  let c1_i32_182 : BitVec 32 := 1#32
  let v536 : BitVec 32 := Scalar.muli v56 c1_i32_182
  let v537 : BitVec 32 := Scalar.addi c0_i32_183 v536
  v537.toNat
def k0_cond6 (d0 : Dev nD) (k0_t2 : Fin k0_t2_loop.trips) (k0_t3 : Fin k0_t3_loop.trips) : BitVec 1 :=
  let c0_i32_46 : BitVec 32 := 0#32
  let c1_i32_48 : BitVec 32 := 1#32
  let arg8 : BitVec 32 := Scf.iv c0_i32_46 c1_i32_48 k0_t3
  let c1_i32_123 : BitVec 32 := 1#32
  let v317 : BitVec 32 := Scalar.subi arg8 c1_i32_123
  let c5_i32_177 : BitVec 32 := 5#32
  let v529 : BitVec 1 := Scalar.cmpi .sle v317 c5_i32_177
  let true_179 : BitVec 1 := 1#1
  let v532 : BitVec 1 := Scalar.xori v529 true_179
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c13_i32 : BitVec 32 := 13#32
  let v64 : BitVec 1 := Scalar.cmpi .sle arg7 c13_i32
  let c14_i32 : BitVec 32 := 14#32
  let v65 : BitVec 1 := Scalar.cmpi .sle arg7 c14_i32
  let v66 : BitVec 1 := Scalar.select v16 v64 v65
  let v533 : BitVec 1 := Scalar.andi v532 v66
  let v534 : BitVec 32 := Scalar.extui v533
  let c0_i32_180 : BitVec 32 := 0#32
  let v535 : BitVec 1 := Scalar.cmpi .ne v534 c0_i32_180
  v535

def k0_off11 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c2_i32_181 : BitVec 32 := 2#32
  let c0_i32_182 : BitVec 32 := 0#32
  let v536 : BitVec 1 := Scalar.cmpi .eq c2_i32_181 c0_i32_182
  let c1_i32_183 : BitVec 32 := 1#32
  let v537 : BitVec 32 := Scalar.select v536 c1_i32_183 c2_i32_181
  let v538 : BitVec 32 := Scalar.remsi arg7 v537
  let c0_i32_185 : BitVec 32 := 0#32
  let v540 : BitVec 1 := Scalar.cmpi .slt v538 c0_i32_185
  let c0_i32_186 : BitVec 32 := 0#32
  let v541 : BitVec 1 := Scalar.cmpi .slt v537 c0_i32_186
  let v542 : BitVec 1 := Scalar.xori v540 v541
  let c0_i32_184 : BitVec 32 := 0#32
  let v539 : BitVec 1 := Scalar.cmpi .ne v538 c0_i32_184
  let v543 : BitVec 1 := Scalar.andi v542 v539
  let v544 : BitVec 32 := Scalar.addi v538 v537
  let v545 : BitVec 32 := Scalar.select v543 v544 v538
  let c1_i32_187 : BitVec 32 := 1#32
  let v546 : BitVec 32 := Scalar.addi arg7 c1_i32_187
  let c2_i32_188 : BitVec 32 := 2#32
  let c0_i32_189 : BitVec 32 := 0#32
  let v547 : BitVec 1 := Scalar.cmpi .eq c2_i32_188 c0_i32_189
  let c1_i32_190 : BitVec 32 := 1#32
  let v548 : BitVec 32 := Scalar.select v547 c1_i32_190 c2_i32_188
  let v549 : BitVec 32 := Scalar.remsi v546 v548
  let c0_i32_192 : BitVec 32 := 0#32
  let v551 : BitVec 1 := Scalar.cmpi .slt v549 c0_i32_192
  let c0_i32_193 : BitVec 32 := 0#32
  let v552 : BitVec 1 := Scalar.cmpi .slt v548 c0_i32_193
  let v553 : BitVec 1 := Scalar.xori v551 v552
  let c0_i32_191 : BitVec 32 := 0#32
  let v550 : BitVec 1 := Scalar.cmpi .ne v549 c0_i32_191
  let v554 : BitVec 1 := Scalar.andi v553 v550
  let v555 : BitVec 32 := Scalar.addi v549 v548
  let v556 : BitVec 32 := Scalar.select v554 v555 v549
  let v557 : BitVec 32 := Scalar.select v16 v545 v556
  ![v557.toNat]
def k0_dev5 (d0 : Dev nD) (k0_t2 : Fin k0_t2_loop.trips) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let c1_i32_34 : BitVec 32 := 1#32
  let v41 : BitVec 32 := Scalar.xori v2 c1_i32_34
  let c2_i32_35 : BitVec 32 := 2#32
  let c0_i32_36 : BitVec 32 := 0#32
  let v42 : BitVec 1 := Scalar.cmpi .eq c2_i32_35 c0_i32_36
  let c1_i32_37 : BitVec 32 := 1#32
  let v43 : BitVec 32 := Scalar.select v42 c1_i32_37 c2_i32_35
  let v44 : BitVec 32 := Scalar.remsi v2 v43
  let c0_i32_39 : BitVec 32 := 0#32
  let v46 : BitVec 1 := Scalar.cmpi .slt v44 c0_i32_39
  let c0_i32_40 : BitVec 32 := 0#32
  let v47 : BitVec 1 := Scalar.cmpi .slt v43 c0_i32_40
  let v48 : BitVec 1 := Scalar.xori v46 v47
  let c0_i32_38 : BitVec 32 := 0#32
  let v45 : BitVec 1 := Scalar.cmpi .ne v44 c0_i32_38
  let v49 : BitVec 1 := Scalar.andi v48 v45
  let v50 : BitVec 32 := Scalar.addi v44 v43
  let v51 : BitVec 32 := Scalar.select v49 v50 v44
  let c0_i32_41 : BitVec 32 := 0#32
  let v52 : BitVec 1 := Scalar.cmpi .eq v51 c0_i32_41
  let c1_i32_42 : BitVec 32 := 1#32
  let v53 : BitVec 32 := Scalar.subi v2 c1_i32_42
  let c1_i32_43 : BitVec 32 := 1#32
  let v54 : BitVec 32 := Scalar.addi v2 c1_i32_43
  let v55 : BitVec 32 := Scalar.select v52 v53 v54
  let v56 : BitVec 32 := Scalar.select v40 v41 v55
  let c2_i32_44 : BitVec 32 := 2#32
  let v61 : BitVec 32 := Scalar.muli c2_i32_44 v2
  let v62 : BitVec 32 := Scalar.subi v61 v56
  let v63 : BitVec 32 := Scalar.select v16 v56 v62
  let c1_i32_195 : BitVec 32 := 1#32
  let v560 : BitVec 32 := Scalar.muli v63 c1_i32_195
  let v561 : BitVec 32 := Scalar.addi c0_i32_196 v560
  v561.toNat
def k0_off12 : Fin 1 → Nat :=
  let c7_i32 : BitVec 32 := 7#32
  let c2_i32_50 : BitVec 32 := 2#32
  let c0_i32_51 : BitVec 32 := 0#32
  let v70 : BitVec 1 := Scalar.cmpi .eq c2_i32_50 c0_i32_51
  let c1_i32_52 : BitVec 32 := 1#32
  let v71 : BitVec 32 := Scalar.select v70 c1_i32_52 c2_i32_50
  let v72 : BitVec 32 := Scalar.remsi c7_i32 v71
  let c0_i32_54 : BitVec 32 := 0#32
  let v74 : BitVec 1 := Scalar.cmpi .slt v72 c0_i32_54
  let c0_i32_55 : BitVec 32 := 0#32
  let v75 : BitVec 1 := Scalar.cmpi .slt v71 c0_i32_55
  let v76 : BitVec 1 := Scalar.xori v74 v75
  let c0_i32_53 : BitVec 32 := 0#32
  let v73 : BitVec 1 := Scalar.cmpi .ne v72 c0_i32_53
  let v77 : BitVec 1 := Scalar.andi v76 v73
  let v78 : BitVec 32 := Scalar.addi v72 v71
  let v79 : BitVec 32 := Scalar.select v77 v78 v72
  ![v79.toNat]
def k0_off13 : Fin 2 → Nat :=
  let c0_i32_58 : BitVec 32 := 0#32
  let c7_i32_56 : BitVec 32 := 7#32
  let c128_i32 : BitVec 32 := 128#32
  let v80 : BitVec 32 := Scalar.muli c7_i32_56 c128_i32
  ![0, v80.toNat]
def k0_off14 : Fin 3 → Nat :=
  let c7_i32 : BitVec 32 := 7#32
  let c2_i32_50 : BitVec 32 := 2#32
  let c0_i32_51 : BitVec 32 := 0#32
  let v70 : BitVec 1 := Scalar.cmpi .eq c2_i32_50 c0_i32_51
  let c1_i32_52 : BitVec 32 := 1#32
  let v71 : BitVec 32 := Scalar.select v70 c1_i32_52 c2_i32_50
  let v72 : BitVec 32 := Scalar.remsi c7_i32 v71
  let c0_i32_54 : BitVec 32 := 0#32
  let v74 : BitVec 1 := Scalar.cmpi .slt v72 c0_i32_54
  let c0_i32_55 : BitVec 32 := 0#32
  let v75 : BitVec 1 := Scalar.cmpi .slt v71 c0_i32_55
  let v76 : BitVec 1 := Scalar.xori v74 v75
  let c0_i32_53 : BitVec 32 := 0#32
  let v73 : BitVec 1 := Scalar.cmpi .ne v72 c0_i32_53
  let v77 : BitVec 1 := Scalar.andi v76 v73
  let v78 : BitVec 32 := Scalar.addi v72 v71
  let v79 : BitVec 32 := Scalar.select v77 v78 v72
  let c0_i32_59 : BitVec 32 := 0#32
  let c0_i32_60 : BitVec 32 := 0#32
  ![v79.toNat, 0, 0]
def k0_off15 : Fin 3 → Nat :=
  let c7_i32_77 : BitVec 32 := 7#32
  let c2_i32_78 : BitVec 32 := 2#32
  let c0_i32_79 : BitVec 32 := 0#32
  let v105 : BitVec 1 := Scalar.cmpi .eq c2_i32_78 c0_i32_79
  let c1_i32_80 : BitVec 32 := 1#32
  let v106 : BitVec 32 := Scalar.select v105 c1_i32_80 c2_i32_78
  let v107 : BitVec 32 := Scalar.remsi c7_i32_77 v106
  let c0_i32_82 : BitVec 32 := 0#32
  let v109 : BitVec 1 := Scalar.cmpi .slt v107 c0_i32_82
  let c0_i32_83 : BitVec 32 := 0#32
  let v110 : BitVec 1 := Scalar.cmpi .slt v106 c0_i32_83
  let v111 : BitVec 1 := Scalar.xori v109 v110
  let c0_i32_81 : BitVec 32 := 0#32
  let v108 : BitVec 1 := Scalar.cmpi .ne v107 c0_i32_81
  let v112 : BitVec 1 := Scalar.andi v111 v108
  let v113 : BitVec 32 := Scalar.addi v107 v106
  let v114 : BitVec 32 := Scalar.select v112 v113 v107
  let v115 : Index := Scalar.indexCast v114
  let c0 : Index := 0#32
  let c0_84 : Index := 0#32
  ![v115.toNat, 0, 0]
def k0_off16 : Fin 2 → Nat :=
  let c0_85 : Index := 0#32
  let c7_i32_75 : BitVec 32 := 7#32
  let c128_i32_76 : BitVec 32 := 128#32
  let v104 : BitVec 32 := Scalar.muli c7_i32_75 c128_i32_76
  let v120 : Index := Scalar.indexCast v104
  ![0, v120.toNat]
def k0_cond7 : BitVec 1 :=
  let c7_i32_101 : BitVec 32 := 7#32
  let c5_i32 : BitVec 32 := 5#32
  let v281 : BitVec 1 := Scalar.cmpi .sle c7_i32_101 c5_i32
  let v282 : BitVec 32 := Scalar.extui v281
  let c0_i32_102 : BitVec 32 := 0#32
  let v283 : BitVec 1 := Scalar.cmpi .ne v282 c0_i32_102
  v283

def k0_dev6 (d0 : Dev nD) (k0_t2 : Fin k0_t2_loop.trips) : Nat :=
  let c0_i32_107 : BitVec 32 := 0#32
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_34 : BitVec 32 := 1#32
  let v41 : BitVec 32 := Scalar.xori v2 c1_i32_34
  let c2_i32_35 : BitVec 32 := 2#32
  let c0_i32_36 : BitVec 32 := 0#32
  let v42 : BitVec 1 := Scalar.cmpi .eq c2_i32_35 c0_i32_36
  let c1_i32_37 : BitVec 32 := 1#32
  let v43 : BitVec 32 := Scalar.select v42 c1_i32_37 c2_i32_35
  let v44 : BitVec 32 := Scalar.remsi v2 v43
  let c0_i32_39 : BitVec 32 := 0#32
  let v46 : BitVec 1 := Scalar.cmpi .slt v44 c0_i32_39
  let c0_i32_40 : BitVec 32 := 0#32
  let v47 : BitVec 1 := Scalar.cmpi .slt v43 c0_i32_40
  let v48 : BitVec 1 := Scalar.xori v46 v47
  let c0_i32_38 : BitVec 32 := 0#32
  let v45 : BitVec 1 := Scalar.cmpi .ne v44 c0_i32_38
  let v49 : BitVec 1 := Scalar.andi v48 v45
  let v50 : BitVec 32 := Scalar.addi v44 v43
  let v51 : BitVec 32 := Scalar.select v49 v50 v44
  let c0_i32_41 : BitVec 32 := 0#32
  let v52 : BitVec 1 := Scalar.cmpi .eq v51 c0_i32_41
  let c1_i32_42 : BitVec 32 := 1#32
  let v53 : BitVec 32 := Scalar.subi v2 c1_i32_42
  let c1_i32_43 : BitVec 32 := 1#32
  let v54 : BitVec 32 := Scalar.addi v2 c1_i32_43
  let v55 : BitVec 32 := Scalar.select v52 v53 v54
  let v56 : BitVec 32 := Scalar.select v40 v41 v55
  let c1_i32_106 : BitVec 32 := 1#32
  let v288 : BitVec 32 := Scalar.muli v56 c1_i32_106
  let v289 : BitVec 32 := Scalar.addi c0_i32_107 v288
  v289.toNat
def k0_cond8 (d0 : Dev nD) (k0_t2 : Fin k0_t2_loop.trips) : BitVec 1 :=
  let c7_i32_101 : BitVec 32 := 7#32
  let c5_i32 : BitVec 32 := 5#32
  let v281 : BitVec 1 := Scalar.cmpi .sle c7_i32_101 c5_i32
  let true_103 : BitVec 1 := 1#1
  let v284 : BitVec 1 := Scalar.xori v281 true_103
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c13_i32 : BitVec 32 := 13#32
  let v64 : BitVec 1 := Scalar.cmpi .sle arg7 c13_i32
  let c14_i32 : BitVec 32 := 14#32
  let v65 : BitVec 1 := Scalar.cmpi .sle arg7 c14_i32
  let v66 : BitVec 1 := Scalar.select v16 v64 v65
  let v285 : BitVec 1 := Scalar.andi v284 v66
  let v286 : BitVec 32 := Scalar.extui v285
  let c0_i32_104 : BitVec 32 := 0#32
  let v287 : BitVec 1 := Scalar.cmpi .ne v286 c0_i32_104
  v287

def k0_off17 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c2_i32_105 : BitVec 32 := 2#32
  let c0_i32_106 : BitVec 32 := 0#32
  let v288 : BitVec 1 := Scalar.cmpi .eq c2_i32_105 c0_i32_106
  let c1_i32_107 : BitVec 32 := 1#32
  let v289 : BitVec 32 := Scalar.select v288 c1_i32_107 c2_i32_105
  let v290 : BitVec 32 := Scalar.remsi arg7 v289
  let c0_i32_109 : BitVec 32 := 0#32
  let v292 : BitVec 1 := Scalar.cmpi .slt v290 c0_i32_109
  let c0_i32_110 : BitVec 32 := 0#32
  let v293 : BitVec 1 := Scalar.cmpi .slt v289 c0_i32_110
  let v294 : BitVec 1 := Scalar.xori v292 v293
  let c0_i32_108 : BitVec 32 := 0#32
  let v291 : BitVec 1 := Scalar.cmpi .ne v290 c0_i32_108
  let v295 : BitVec 1 := Scalar.andi v294 v291
  let v296 : BitVec 32 := Scalar.addi v290 v289
  let v297 : BitVec 32 := Scalar.select v295 v296 v290
  let c1_i32_111 : BitVec 32 := 1#32
  let v298 : BitVec 32 := Scalar.addi arg7 c1_i32_111
  let c2_i32_112 : BitVec 32 := 2#32
  let c0_i32_113 : BitVec 32 := 0#32
  let v299 : BitVec 1 := Scalar.cmpi .eq c2_i32_112 c0_i32_113
  let c1_i32_114 : BitVec 32 := 1#32
  let v300 : BitVec 32 := Scalar.select v299 c1_i32_114 c2_i32_112
  let v301 : BitVec 32 := Scalar.remsi v298 v300
  let c0_i32_116 : BitVec 32 := 0#32
  let v303 : BitVec 1 := Scalar.cmpi .slt v301 c0_i32_116
  let c0_i32_117 : BitVec 32 := 0#32
  let v304 : BitVec 1 := Scalar.cmpi .slt v300 c0_i32_117
  let v305 : BitVec 1 := Scalar.xori v303 v304
  let c0_i32_115 : BitVec 32 := 0#32
  let v302 : BitVec 1 := Scalar.cmpi .ne v301 c0_i32_115
  let v306 : BitVec 1 := Scalar.andi v305 v302
  let v307 : BitVec 32 := Scalar.addi v301 v300
  let v308 : BitVec 32 := Scalar.select v306 v307 v301
  let v309 : BitVec 32 := Scalar.select v16 v297 v308
  ![v309.toNat]
def k0_dev7 (d0 : Dev nD) (k0_t2 : Fin k0_t2_loop.trips) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .eq v2 c0_i32_5
  let c15_i32 : BitVec 32 := 15#32
  let v15 : BitVec 1 := Scalar.cmpi .eq v2 c15_i32
  let v16 : BitVec 1 := Scalar.ori v14 v15
  let c0_i32_19 : BitVec 32 := 0#32
  let c1_i32_21 : BitVec 32 := 1#32
  let arg7 : BitVec 32 := Scf.iv c0_i32_19 c1_i32_21 k0_t2
  let c2_i32_27 : BitVec 32 := 2#32
  let c0_i32_28 : BitVec 32 := 0#32
  let v30 : BitVec 1 := Scalar.cmpi .eq c2_i32_27 c0_i32_28
  let c1_i32_29 : BitVec 32 := 1#32
  let v31 : BitVec 32 := Scalar.select v30 c1_i32_29 c2_i32_27
  let v32 : BitVec 32 := Scalar.remsi arg7 v31
  let c0_i32_31 : BitVec 32 := 0#32
  let v34 : BitVec 1 := Scalar.cmpi .slt v32 c0_i32_31
  let c0_i32_32 : BitVec 32 := 0#32
  let v35 : BitVec 1 := Scalar.cmpi .slt v31 c0_i32_32
  let v36 : BitVec 1 := Scalar.xori v34 v35
  let c0_i32_30 : BitVec 32 := 0#32
  let v33 : BitVec 1 := Scalar.cmpi .ne v32 c0_i32_30
  let v37 : BitVec 1 := Scalar.andi v36 v33
  let v38 : BitVec 32 := Scalar.addi v32 v31
  let v39 : BitVec 32 := Scalar.select v37 v38 v32
  let c0_i32_33 : BitVec 32 := 0#32
  let v40 : BitVec 1 := Scalar.cmpi .eq v39 c0_i32_33
  let c1_i32_34 : BitVec 32 := 1#32
  let v41 : BitVec 32 := Scalar.xori v2 c1_i32_34
  let c2_i32_35 : BitVec 32 := 2#32
  let c0_i32_36 : BitVec 32 := 0#32
  let v42 : BitVec 1 := Scalar.cmpi .eq c2_i32_35 c0_i32_36
  let c1_i32_37 : BitVec 32 := 1#32
  let v43 : BitVec 32 := Scalar.select v42 c1_i32_37 c2_i32_35
  let v44 : BitVec 32 := Scalar.remsi v2 v43
  let c0_i32_39 : BitVec 32 := 0#32
  let v46 : BitVec 1 := Scalar.cmpi .slt v44 c0_i32_39
  let c0_i32_40 : BitVec 32 := 0#32
  let v47 : BitVec 1 := Scalar.cmpi .slt v43 c0_i32_40
  let v48 : BitVec 1 := Scalar.xori v46 v47
  let c0_i32_38 : BitVec 32 := 0#32
  let v45 : BitVec 1 := Scalar.cmpi .ne v44 c0_i32_38
  let v49 : BitVec 1 := Scalar.andi v48 v45
  let v50 : BitVec 32 := Scalar.addi v44 v43
  let v51 : BitVec 32 := Scalar.select v49 v50 v44
  let c0_i32_41 : BitVec 32 := 0#32
  let v52 : BitVec 1 := Scalar.cmpi .eq v51 c0_i32_41
  let c1_i32_42 : BitVec 32 := 1#32
  let v53 : BitVec 32 := Scalar.subi v2 c1_i32_42
  let c1_i32_43 : BitVec 32 := 1#32
  let v54 : BitVec 32 := Scalar.addi v2 c1_i32_43
  let v55 : BitVec 32 := Scalar.select v52 v53 v54
  let v56 : BitVec 32 := Scalar.select v40 v41 v55
  let c2_i32_44 : BitVec 32 := 2#32
  let v61 : BitVec 32 := Scalar.muli c2_i32_44 v2
  let v62 : BitVec 32 := Scalar.subi v61 v56
  let v63 : BitVec 32 := Scalar.select v16 v56 v62
  let c1_i32_119 : BitVec 32 := 1#32
  let v312 : BitVec 32 := Scalar.muli v63 c1_i32_119
  let v313 : BitVec 32 := Scalar.addi c0_i32_120 v312
  v313.toNat
@[reducible] def k0_t4_loop : Scf.Loop 32 :=
  let c0_i32_23 : BitVec 32 := 0#32
  let c8_i32_24 : BitVec 32 := 8#32
  let v29 : BitVec 32 := Scalar.addi c0_i32_23 c8_i32_24
  let c1_i32_25 : BitVec 32 := 1#32
  ⟨c0_i32_23, v29, c1_i32_25⟩
def k0_off18 (k0_t4 : Fin k0_t4_loop.trips) : Fin 2 → Nat :=
  let c0 : Index := 0#32
  let c0_i32_23 : BitVec 32 := 0#32
  let c1_i32_25 : BitVec 32 := 1#32
  let arg7 : BitVec 32 := Scf.iv c0_i32_23 c1_i32_25 k0_t4
  let c128_i32 : BitVec 32 := 128#32
  let v30 : BitVec 32 := Scalar.muli arg7 c128_i32
  let v31 : Index := Scalar.indexCast v30
  ![0, v31.toNat]
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x1024, .f32⟩
  | .hbm, ⟨2, _⟩ => ⟨S65536x1024, .f32⟩
  | .hbm, ⟨3, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Arith.lean ====
/- The phases of the exchange in plain arithmetic: who is paired with whom, which devices take part in which
   phase, and how the phases a device takes part in are counted. Nothing here speaks of the program. -/
module

public import Idealize.ShloMosaic.Lib.Rounds

@[expose] public section

namespace SortK

/-- One of the sixteen devices. -/
abbrev Dv := Fin 16

/-- The two ends of the line: they sit out every odd phase. -/
def edge (d : Dv) : Bool := d == 0 || d == 15

/-- The device paired with `d` in phase `p`: its even or odd neighbour, an end with itself in an odd phase. -/
def partner (p : ℕ) (d : Dv) : Dv :=
  if p % 2 = 0 then (if d.val % 2 = 0 then d + 1 else d - 1)
  else if edge d then d else if d.val % 2 = 1 then d + 1 else d - 1

/-- Device `d` exchanges in phase `p`. -/
def active (p : ℕ) (d : Dv) : Bool := p % 2 == 0 || !edge d

/-- How many of the phases before `p` device `d` takes part in. -/
def ac (d : Dv) (p : ℕ) : ℕ := if edge d then (p + 1) / 2 else p

/-- How many phases device `d` takes part in. -/
def A (d : Dv) : ℕ := if edge d then 8 else 16

/-- The `a`-th phase `d` takes part in. -/
def actPhase (d : Dv) (a : ℕ) : ℕ := if edge d then 2 * a else a

/-- The next phase `d` takes part in after phase `p`. -/
def nextP (d : Dv) (p : ℕ) : ℕ := if edge d then p + 2 else p + 1

theorem partner_mod (p : ℕ) (d : Dv) : partner p d = partner (p % 2) d := by
  unfold partner; simp

theorem active_mod (p : ℕ) (d : Dv) : active p d = active (p % 2) d := by
  unfold active; simp

theorem two_cases {P : ℕ → Prop} (p : ℕ) (hm : P p ↔ P (p % 2)) (h0 : P 0) (h1 : P 1) : P p := by
  rw [hm]; rcases Nat.mod_two_eq_zero_or_one p with h | h <;> rw [h] <;> assumption

theorem partner_partner (p : ℕ) (d : Dv) : partner p (partner p d) = d := by
  rw [partner_mod p, partner_mod p]
  rcases Nat.mod_two_eq_zero_or_one p with h | h <;> rw [h] <;> revert d <;> decide

theorem partner_involutive (p : ℕ) : Function.Involutive (partner p) := partner_partner p

theorem active_partner (p : ℕ) (d : Dv) : active p (partner p d) = active p d := by
  rw [active_mod p (partner p d), active_mod p d, partner_mod p d]
  rcases Nat.mod_two_eq_zero_or_one p with h | h <;> rw [h] <;> revert d <;> decide

theorem active_zero (d : Dv) : active 0 d = true := rfl

theorem actPhase_ac {p : ℕ} {d : Dv} (h : active p d = true) : actPhase d (ac d p) = p := by
  unfold active at h; unfold actPhase ac
  by_cases he : edge d = true
  · simp [he] at h; simp [he]; omega
  · simp [he]

theorem ac_actPhase (d : Dv) (a : ℕ) : ac d (actPhase d a) = a := by
  unfold actPhase ac; split <;> omega

theorem active_actPhase (d : Dv) (a : ℕ) : active (actPhase d a) d = true := by
  unfold actPhase active
  by_cases he : edge d = true
  · simp [he]
  · simp [he]

theorem ac_lt {p : ℕ} (hp : p < 16) {d : Dv} (h : active p d = true) : ac d p < A d := by
  unfold active at h; unfold ac A
  by_cases he : edge d = true
  · simp [he] at h; simp [he]; omega
  · simp [he, hp]

theorem actPhase_lt {d : Dv} {a : ℕ} (h : a < A d) : actPhase d a < 16 := by
  unfold A at h; unfold actPhase; split at h <;> simp_all <;> omega

theorem ac_succ_active {p : ℕ} {d : Dv} (h : active p d = true) : ac d (p + 1) = ac d p + 1 := by
  unfold active at h; unfold ac
  by_cases he : edge d = true
  · simp [he] at h; simp [he]; omega
  · simp [he]

theorem ac_succ_inactive {p : ℕ} {d : Dv} (h : ¬ active p d = true) : ac d (p + 1) = ac d p := by
  unfold active at h; unfold ac
  by_cases he : edge d = true
  · simp [he] at h; simp [he]; omega
  · simp [he] at h

theorem ac_zero (d : Dv) : ac d 0 = 0 := by unfold ac; split <;> rfl

theorem ac_end (d : Dv) : ac d 16 = A d := by unfold ac A; split <;> rfl

theorem ac_mono (d : Dv) {p q : ℕ} (h : p ≤ q) : ac d p ≤ ac d q := by unfold ac; split <;> omega

theorem ac_le_A {d : Dv} {p : ℕ} (h : p ≤ 16) : ac d p ≤ A d := ac_end d ▸ ac_mono d h

/-- There is a next phase exactly when the phases are not used up. -/
theorem nextP_lt_iff {d : Dv} {p : ℕ} (h : active p d = true) : ac d (p + 1) < A d ↔ nextP d p < 16 := by
  unfold active at h; unfold nextP ac A
  by_cases he : edge d = true
  · simp [he] at h; simp [he]; omega
  · simp [he]

theorem active_nextP {d : Dv} {p : ℕ} (h : active p d = true) : active (nextP d p) d = true := by
  unfold active at *; unfold nextP
  by_cases he : edge d = true
  · simp [he] at h; simp [he, h]
  · simp [he]

theorem ac_nextP {d : Dv} {p : ℕ} (h : active p d = true) : ac d (nextP d p) = ac d p + 1 := by
  unfold active at h; unfold ac nextP
  by_cases he : edge d = true
  · simp [he] at h; simp [he]; omega
  · simp [he]

theorem lt_nextP (d : Dv) (p : ℕ) : p < nextP d p := by unfold nextP; split <;> omega

theorem nextP_le (d : Dv) (p : ℕ) : nextP d p ≤ p + 2 := by unfold nextP; split <;> omega

/-- Two phases of the same parity, one after the other, differ by at least one turn of every device. -/
theorem ac_step {d : Dv} {p q : ℕ} (h : p + 2 ≤ q) : ac d p + 1 ≤ ac d q := by
  unfold ac; split <;> omega

theorem actPhase_inj (d : Dv) : Function.Injective (actPhase d) := fun a b h => by
  rw [← ac_actPhase d a, h, ac_actPhase]

theorem edge_parity {d : Dv} {p : ℕ} (he : edge d = true) (h : active p d = true) : p % 2 = 0 := by
  unfold active at h; simp [he] at h; exact h

end SortK
-- ==== Proof.Machine.Vs.lean ====
/- What the chunks hold, phase by phase, in the terms of the program's own operations. -/
module

public import proofs.«01_k».proof.Proof.Machine.Body
public import proofs.«01_k».proof.Proof.Machine.Split

@[expose] public section

noncomputable section

namespace Cert.Kernel.Sort

open Cert.Kernel Cert.Kernel.Gen SortK
open Idealize.ShloMosaic Idealize.ShloMosaic.TcCoe

variable {F : FTy → Type} [FloatOps F]

/-- Chunk `c` of device `d` before phase `p`, the devices' blocks being `X`. -/
def Vs (X : Dev nD → Vec F S4096x1024 .bf16) : ℕ → Dev nD → ℕ → Vec F S4096x128 .bf16
  | 0, d, c => sortV (od d) (colsOf (X d) c)
  | p + 1, d, c => if active p d = true then consV (tm p d) (unsq (Vs X p (partner p d) c)) (Vs X p d c) else Vs X p d c

/-- The block a device ends with. -/
def finalOf (X : Dev nD → Vec F S4096x1024 .bf16) (d : Dev nD) : Vec F S4096x1024 .bf16 :=
  wholeOf fun c => finV (od d) (Vs X 16 d c)

theorem vs_steps (X : Dev nD → Vec F S4096x1024 .bf16) : Steps (Vs X) where
  act p d c _ _ h := by rw [Vs, if_pos h]
  idle p d c h := by rw [Vs, if_neg h]

end Cert.Kernel.Sort
end
-- ==== Proof.Ideal.Common.lean ====
/- What the parts of the proof share: the resource algebra, the buffers' pieces, the kernel's semaphore cells with the
   schedule of what lands on them and what each landing hands over, what each device owes, and the levels of the waits.

   A device keeps eight pieces (chunks of 128 lanes) of its block. In each phase it sends every chunk to its partner,
   through one of two landing slots of the partner, and merges what arrives. Before a slot is written again its reader
   says so: within a phase by a signal on the partner's `intra` cell, across phases by a signal on the `inter` cell of
   the phase's parity. -/
module

public import proofs.«01_k».proof.Proof.Arith
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Tactic
public import Idealize.ShloMosaic.Lib.Release

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf kernel pipe)

variable {F : FTy → Type} [FloatOps F]

/-! ## The resource algebra -/

/-- A landing slot: its device and which of the two. -/
abbrev Key : Type := Dev nD × Fin 2

/-- The proof's component: the pipeline's rounds, the kernel's rounds (duties named by numbers) and the landing slots. -/
abbrev UU : Type := URounds (GSem nD τ sig) Unit × (URounds (GSem nD τ sig) ℕ × USlots Key)

local notation "𝕄" => MT nD τ sig ℕ (Elt F) ℕ UU ℕ

/-- The pipeline's copy of the rounds library, -/
def EP : Emb (URounds (GSem nD τ sig) Unit) (MT nD τ sig ℕ (Elt F) ℕ UU ℕ) :=
  (Emb.inl : Emb (URounds (GSem nD τ sig) Unit) UU).trans (uEmb (nD := nD) (sig := sig) (Ix := ℕ) (Val := Elt F) (Name := ℕ) (U := UU) (Lvl := ℕ)).toEmb
/-- the kernel's, -/
def ER : Emb (URounds (GSem nD τ sig) ℕ) (MT nD τ sig ℕ (Elt F) ℕ UU ℕ) :=
  ((Emb.inl : Emb (URounds (GSem nD τ sig) ℕ) (URounds (GSem nD τ sig) ℕ × USlots Key)).trans (Emb.inr : Emb _ UU)).trans
    (uEmb (nD := nD) (sig := sig) (Ix := ℕ) (Val := Elt F) (Name := ℕ) (U := UU) (Lvl := ℕ)).toEmb
/-- and the landing slots. -/
def ES : Emb (USlots Key) (MT nD τ sig ℕ (Elt F) ℕ UU ℕ) :=
  ((Emb.inr : Emb (USlots Key) (URounds (GSem nD τ sig) ℕ × USlots Key)).trans (Emb.inr : Emb _ UU)).trans
    (uEmb (nD := nD) (sig := sig) (Ix := ℕ) (Val := Elt F) (Name := ℕ) (U := UU) (Lvl := ℕ)).toEmb

instance EP_landsIn : (EP : Emb _ 𝕄).LandsIn (upEmb : UEmb _ 𝕄) := by unfold EP; infer_instance
instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## Buffers and their pieces -/

/-- The staging buffer of the input block, the one of the result, and the landing buffer, whole. -/
abbrev xM : Memref sig .tc .vmem S4096x1024 .bf16 := Memref.whole cc0_stg0_0
abbrev oM : Memref sig .tc .vmem S4096x1024 .bf16 := Memref.whole cc0_stg1_0
abbrev rM : Memref sig .tc .vmem S2x4096x128 .bf16 := Memref.whole cc0_scratch0

/-- Where chunk `c` of a block starts. -/
def offC (c : ℕ) : Fin 2 → ℕ := ![0, 128 * (c % 8)]
/-- Where landing slot `s` starts. -/
def offS (s : ℕ) : Fin 3 → ℕ := ![s % 2, 0, 0]
/-- Where semaphore `s` of a pair lies. -/
def offP (s : ℕ) : Fin 1 → ℕ := ![s % 2]

theorem offC_inb (c : ℕ) : ∀ a, offC c a + S4096x128.size a ≤ S4096x1024.size a := by
  intro a; have h := Nat.mod_lt c (by decide : 0 < 8)
  match a with
  | ⟨0, _⟩ => show 0 + 4096 ≤ 4096; omega
  | ⟨1, _⟩ => show 128 * (c % 8) + 128 ≤ 1024; omega
theorem offS_inb (s : ℕ) : ∀ a, offS s a + S1x4096x128.size a ≤ S2x4096x128.size a := by
  intro a; have h := Nat.mod_lt s (by decide : 0 < 2)
  match a with
  | ⟨0, _⟩ => show s % 2 + 1 ≤ 2; omega
  | ⟨1, _⟩ => show 0 + 4096 ≤ 4096; omega
  | ⟨2, _⟩ => show 0 + 128 ≤ 128; omega
theorem offP_inb (s : ℕ) : ∀ a, offP s a + S1.size a ≤ S2.size a := by
  intro a; have h := Nat.mod_lt s (by decide : 0 < 2)
  match a with
  | ⟨0, _⟩ => show s % 2 + 1 ≤ 2; omega

/-- Chunk `c` of the result's staging buffer. -/
abbrev oC (c : ℕ) : Memref sig .tc .vmem S4096x128 .bf16 :=
  oM.slice (Rect.unit (s := S4096x1024) (offC c) S4096x128.size (offC_inb c)) (fun _ => rfl)
/-- Landing slot `s`. -/
abbrev rS (s : ℕ) : Memref sig .tc .vmem S4096x128 .bf16 :=
  (rM.slice (Rect.unit (s := S2x4096x128) (offS s) S1x4096x128.size (offS_inb s)) (fun _ => rfl)).squeeze S4096x128 squeezes_S1x4096x128_S4096x128

/-- The semaphores of slot `s`: of the sends out of this device, and of the landings in it; -/
abbrev sendS (s : ℕ) : DmaSem sig := ((cc0_scratch1.slice (Rect.unit (s := S2) (offP s) S1.size (offP_inb s))).squeeze S_ squeezes_S1_S_).sem
abbrev recvS (s : ℕ) : DmaSem sig := ((cc0_scratch2.slice (Rect.unit (s := S2) (offP s) S1.size (offP_inb s))).squeeze S_ squeezes_S1_S_).sem
/-- the one of the signals within a phase, and the two of the signals across phases. -/
abbrev intraS : Sem sig := cc0_scratch3.sem
abbrev interS (s : ℕ) : Sem sig := ((cc0_scratch4.slice (Rect.unit (s := S2) (offP s) S1.size (offP_inb s))).squeeze S_ squeezes_S1_S_).sem

theorem offC_mod (c : ℕ) : offC c = offC (c % 8) := by unfold offC; rw [Nat.mod_mod]
theorem offS_mod (s : ℕ) : offS s = offS (s % 2) := by unfold offS; rw [Nat.mod_mod]
theorem offP_mod (s : ℕ) : offP s = offP (s % 2) := by unfold offP; rw [Nat.mod_mod]

theorem sendS_mod (s : ℕ) : sendS s = sendS (s % 2) := by
  unfold sendS; rw [SemArray.slice_unit_congr _ (offP_mod s) (offP_inb s) (offP_inb (s % 2))]
theorem recvS_mod (s : ℕ) : recvS s = recvS (s % 2) := by
  unfold recvS; rw [SemArray.slice_unit_congr _ (offP_mod s) (offP_inb s) (offP_inb (s % 2))]
theorem interS_mod (s : ℕ) : interS s = interS (s % 2) := by
  unfold interS; rw [SemArray.slice_unit_congr _ (offP_mod s) (offP_inb s) (offP_inb (s % 2))]
theorem rS_mod (s : ℕ) : rS s = rS (s % 2) := by
  unfold rS; rw [Memref.slice_unit_congr _ (offS_mod s) (offS_inb s) (offS_inb (s % 2))]

theorem sendS_val (s : ℕ) : (sendS s).val = 2 + s % 2 := by
  rw [sendS_mod]; rcases Nat.mod_two_eq_zero_or_one s with h | h <;> rw [h] <;> decide +kernel
theorem recvS_val (s : ℕ) : (recvS s).val = 4 + s % 2 := by
  rw [recvS_mod]; rcases Nat.mod_two_eq_zero_or_one s with h | h <;> rw [h] <;> decide +kernel
theorem interS_val (s : ℕ) : (interS s).val = 1 + s % 2 := by
  rw [interS_mod]; rcases Nat.mod_two_eq_zero_or_one s with h | h <;> rw [h] <;> decide +kernel
theorem intraS_val : (intraS).val = 0 := by decide +kernel

/-! ## The cells -/

abbrev sendC (d : Dev nD) (s : ℕ) : GSem nD τ sig := ((d : Thread nD τ), .dma (sendS s))
abbrev recvC (d : Dev nD) (s : ℕ) : GSem nD τ sig := ((d : Thread nD τ), .dma (recvS s))
abbrev intraC (d : Dev nD) : GSem nD τ sig := ((d : Thread nD τ), .reg intraS)
abbrev interC (d : Dev nD) (s : ℕ) : GSem nD τ sig := ((d : Thread nD τ), .reg (interS s))

/-- The kernel's own semaphores. -/
abbrev osem : Fin 7 → SemLoc sig := fun
  | 0 => .dma (sendS 0) | 1 => .dma (sendS 1) | 2 => .dma (recvS 0) | 3 => .dma (recvS 1)
  | 4 => .reg intraS | 5 => .reg (interS 0) | 6 => .reg (interS 1)
/-- The kernel's cells: device and which of the seven. -/
abbrev kcell (ck : Dev nD × Fin 7) : GSem nD τ sig := ((ck.1 : Thread nD τ), osem ck.2)

/-- What the copy of one chunk credits. -/
abbrev N : ℕ := (rS 0).view.dmaCredit
theorem N_pos : 0 < N := View.dmaCredit_pos _ (by decide)

/-! ## What the landings hand over -/

/-- Landing slot `s` of device `u` is free for its write number `n + 1`, and round `n` of its landing cell is open. -/
def Fwit (u : Dev nD) (s n : ℕ) : sProp 𝕄 :=
  iprop(released ES (u, Fin.ofNat 2 s) (n + 1) ∗ reached ER (recvC u s) n)

variable (V : ℕ → Dev nD → ℕ → Vec F S4096x128 .bf16)

/-- Chunk `c` of the result's staging buffer of device `d` holding `v`. -/
abbrev chunkAt (d : Dev nD) (c : ℕ) (v : Vec F S4096x128 .bf16) : sProp 𝕄 :=
  owns (Ix := ℕ) (Name := ℕ) (U := UU) (Lvl := ℕ) (d : Thread nD τ) (oC c) fullShare v
/-- Landing slot `s` of device `d` holding `v`. -/
abbrev slotAt (d : Dev nD) (s : ℕ) (v : Vec F S4096x128 .bf16) : sProp 𝕄 :=
  owns (Ix := ℕ) (Name := ℕ) (U := UU) (Lvl := ℕ) (d : Thread nD τ) (rS s) fullShare v
/-- Landing slot `s` of device `d` holding anything. -/
abbrev slotAny (d : Dev nD) (s : ℕ) : sProp 𝕄 :=
  slot (Ix := ℕ) (Val := Elt F) (Name := ℕ) (U := UU) (Lvl := ℕ) ((rS s).view.loc (d : Thread nD τ)) (rS s).view.set

/-- A landing on slot `s` of `q`, round `n`: the slot holding the partner's chunk, and that the partner is in the phase. -/
def recvPay (q : Dev nD) (s n : ℕ) : sProp 𝕄 :=
  iprop(slotAt q s (V (actPhase q (n / 4)) (partner (actPhase q (n / 4)) q) (2 * (n % 4) + s))
    ∗ reached ER (intraC (partner (actPhase q (n / 4)) q)) (ac (partner (actPhase q (n / 4)) q) (actPhase q (n / 4))))
/-- The read-out of slot `s`'s send of `d`, round `n`: the chunk back. -/
def sendPay (d : Dev nD) (s n : ℕ) : sProp 𝕄 :=
  chunkAt d (2 * (n % 4) + s) (V (actPhase d (n / 4)) d (2 * (n % 4) + s))
/-- The partner's two slots once it has consumed `j` chunks of the phase in which it has been `a` times before. -/
def twoF (u : Dev nD) (n₀ n₁ : ℕ) : sProp 𝕄 := iprop(Fwit u 0 n₀ ∗ Fwit u 1 n₁)
/-- A signal within the phase of `q`'s round `a`, number `i`. -/
def intraPay (q : Dev nD) (a i : ℕ) : sProp 𝕄 :=
  twoF (F := F) (partner (actPhase q a) q) (4 * ac (partner (actPhase q a) q) (actPhase q a) + (i + 2) / 2)
    (4 * ac (partner (actPhase q a) q) (actPhase q a) + (i + 1) / 2)
/-- The phase the `i`-th signal of parity `par` is for. -/
def interP (par i : ℕ) : ℕ := par + 2 * (i / 2)
/-- A signal across phases. -/
def interPay (t : Dev nD) (par i : ℕ) : sProp 𝕄 :=
  twoF (F := F) (partner (interP par i) t) (4 * ac (partner (interP par i) t) (interP par i))
    (4 * ac (partner (interP par i) t) (interP par i) + i % 2 - 1)

instance Fwit_persistent (u : Dev nD) (s n : ℕ) : BI.Persistent (Fwit (F := F) u s n) := by unfold Fwit; infer_instance
instance Fwit_storable (u : Dev nD) (s n : ℕ) : BI.Storable (upEmb : UEmb _ 𝕄) (Fwit (F := F) u s n) := by unfold Fwit; infer_instance
instance twoF_persistent (u : Dev nD) (a b : ℕ) : BI.Persistent (twoF (F := F) u a b) := by unfold twoF; infer_instance
instance twoF_storable (u : Dev nD) (a b : ℕ) : BI.Storable (upEmb : UEmb _ 𝕄) (twoF (F := F) u a b) := by unfold twoF; infer_instance
instance recvPay_storable (q : Dev nD) (s n : ℕ) : BI.Storable (upEmb : UEmb _ 𝕄) (recvPay V q s n) := by unfold recvPay; infer_instance
instance sendPay_storable (q : Dev nD) (s n : ℕ) : BI.Storable (upEmb : UEmb _ 𝕄) (sendPay V q s n) := by unfold sendPay; infer_instance
instance intraPay_persistent (q : Dev nD) (a i : ℕ) : BI.Persistent (intraPay (F := F) q a i) := by unfold intraPay; infer_instance
instance intraPay_storable (q : Dev nD) (a i : ℕ) : BI.Storable (upEmb : UEmb _ 𝕄) (intraPay (F := F) q a i) := by unfold intraPay; infer_instance
instance interPay_persistent (q : Dev nD) (a i : ℕ) : BI.Persistent (interPay (F := F) q a i) := by unfold interPay; infer_instance
instance interPay_storable (q : Dev nD) (a i : ℕ) : BI.Storable (upEmb : UEmb _ 𝕄) (interPay (F := F) q a i) := by unfold interPay; infer_instance

omit [FloatOps F] in
theorem Fwit_mono (u : Dev nD) (s : ℕ) {n n' : ℕ} (h : n' ≤ n) : Fwit (F := F) u s n ⊢ Fwit u s n' := by
  unfold Fwit
  exact BI.sep_mono (released_mono ES (by omega)) (Rounds.reached_mono ER h)

/-! ## The schedule -/

/-- The duties of a cell's round: a copy's landing or read-out is one duty of the copy's credit; a phase's six signals are
    duties of one round of the `intra` cell; all signals across phases of one parity are duties of one round. -/
def Rd : Rounds.Schedule (GSem nD τ sig) ℕ 𝕄 where
  duties g r :=
    if g.1.2 = .tc then
      match g.2 with
      | .dma q => if 2 ≤ q.val ∧ r < 4 * A g.1.1 then {0} else ∅
      | .reg q =>
        if q.val = 0 then (if r < A g.1.1 then Finset.range 6 else ∅)
        else (if r = 0 ∧ (q.val = 1 ∨ edge g.1.1 = false) then Finset.range 16 else ∅)
    else ∅
  unitless _ := False
  amount g _ _ := match g.2 with | .dma _ => N | .reg _ => 1
  payload g r i :=
    match g.2 with
    | .dma q => if q.val < 4 then sendPay V g.1.1 (q.val % 2) r else recvPay V g.1.1 (q.val % 2) r
    | .reg q => if q.val = 0 then intraPay g.1.1 r i else interPay g.1.1 (q.val - 1) i
  amount_pos g _ _ _ := by
    rcases g with ⟨t, (q | q)⟩
    · exact Nat.one_pos
    · exact N_pos

instance Rd_payload_storable (g : GSem nD τ sig) (r : ℕ) (i : ℕ) :
    BI.Storable (upEmb : UEmb _ 𝕄) ((Rd V).payload g r i) := by
  rcases g with ⟨t, (q | q)⟩
  · show BI.Storable upEmb (if q.val = 0 then intraPay t.1 r i else interPay t.1 (q.val - 1) i)
    split <;> infer_instance
  · show BI.Storable upEmb (if q.val < 4 then sendPay V t.1 (q.val % 2) r else recvPay V t.1 (q.val % 2) r)
    split <;> infer_instance

section Sched
variable (d : Dev nD) (s : ℕ)

omit [FloatOps F] in
theorem duties_dma (q : DmaSem sig) (r : ℕ) :
    (Rd V).duties ((d : Thread nD τ), .dma q) r = if 2 ≤ q.val ∧ r < 4 * A d then {0} else ∅ := by
  dsimp only [Rd]; exact if_pos rfl
omit [FloatOps F] in
theorem duties_reg (q : Sem sig) (r : ℕ) :
    (Rd V).duties ((d : Thread nD τ), .reg q) r = if q.val = 0 then (if r < A d then Finset.range 6 else ∅)
        else (if r = 0 ∧ (q.val = 1 ∨ edge d = false) then Finset.range 16 else ∅) := by
  dsimp only [Rd]; exact if_pos rfl

omit [FloatOps F] in
theorem duties_send {r : ℕ} (h : r < 4 * A d) : (Rd V).duties (sendC d s) r = {0} := by
  rw [duties_dma, if_pos ⟨by rw [sendS_val]; omega, h⟩]
omit [FloatOps F] in
theorem duties_recv {r : ℕ} (h : r < 4 * A d) : (Rd V).duties (recvC d s) r = {0} := by
  rw [duties_dma, if_pos ⟨by rw [recvS_val]; omega, h⟩]
omit [FloatOps F] in
theorem duties_intra {r : ℕ} (h : r < A d) : (Rd V).duties (intraC d) r = Finset.range 6 := by
  rw [duties_reg, if_pos intraS_val, if_pos h]
omit [FloatOps F] in
theorem duties_inter (h : s % 2 = 0 ∨ edge d = false) : (Rd V).duties (interC d s) 0 = Finset.range 16 := by
  rw [duties_reg, if_neg (by rw [interS_val]; omega), if_pos ⟨rfl, by rw [interS_val]; exact h.imp_left (by omega)⟩]

omit [FloatOps F] in
theorem duties_send_end : ∀ r, 4 * A d ≤ r → (Rd V).duties (sendC d s) r = ∅ := fun r h => by
  rw [duties_dma, if_neg (by omega)]
omit [FloatOps F] in
theorem duties_recv_end : ∀ r, 4 * A d ≤ r → (Rd V).duties (recvC d s) r = ∅ := fun r h => by
  rw [duties_dma, if_neg (by omega)]
omit [FloatOps F] in
theorem duties_intra_end : ∀ r, A d ≤ r → (Rd V).duties (intraC d) r = ∅ := fun r h => by
  rw [duties_reg, if_pos intraS_val, if_neg (by omega)]
omit [FloatOps F] in
theorem duties_inter_end : ∀ r, 1 ≤ r → (Rd V).duties (interC d s) r = ∅ := fun r h => by
  rw [duties_reg, if_neg (by rw [interS_val]; omega), if_neg (by omega)]
omit [FloatOps F] in
theorem duties_inter_edge (h : s % 2 = 1) (he : edge d = true) : ∀ r, 0 ≤ r → (Rd V).duties (interC d s) r = ∅ := fun r _ => by
  rw [duties_reg, if_neg (by rw [interS_val]; omega), if_neg (by rw [interS_val, he, h]; simp)]

omit [FloatOps F] in
theorem expect_send {r : ℕ} (h : r < 4 * A d) : (Rd V).expect (sendC d s) r = N := by
  unfold Schedule.expect Schedule.amountOf; rw [duties_send V d s h, Finset.sum_singleton]; rfl
omit [FloatOps F] in
theorem expect_recv {r : ℕ} (h : r < 4 * A d) : (Rd V).expect (recvC d s) r = N := by
  unfold Schedule.expect Schedule.amountOf; rw [duties_recv V d s h, Finset.sum_singleton]; rfl
omit [FloatOps F] in
theorem expect_intra {r : ℕ} (h : r < A d) : (Rd V).expect (intraC d) r = 6 := by
  unfold Schedule.expect Schedule.amountOf; rw [duties_intra V d h]; rfl
omit [FloatOps F] in
theorem expect_inter (h : s % 2 = 0 ∨ edge d = false) : (Rd V).expect (interC d s) 0 = 16 := by
  unfold Schedule.expect Schedule.amountOf; rw [duties_inter V d s h]; rfl

omit [FloatOps F] in
theorem payload_send (r i : ℕ) (hs : s < 2) : (Rd V).payload (sendC d s) r i = sendPay V d s r := by
  dsimp only [Rd]
  rw [if_pos (by rw [sendS_val]; omega), sendS_val, show (2 + s % 2) % 2 = s by omega]
omit [FloatOps F] in
theorem payload_recv (r i : ℕ) (hs : s < 2) : (Rd V).payload (recvC d s) r i = recvPay V d s r := by
  dsimp only [Rd]
  rw [if_neg (by rw [recvS_val]; omega), recvS_val, show (4 + s % 2) % 2 = s by omega]
omit [FloatOps F] in
theorem payload_intra (r i : ℕ) : (Rd V).payload (intraC d) r i = intraPay d r i := by
  dsimp only [Rd]; exact if_pos intraS_val
omit [FloatOps F] in
theorem payload_inter (r i : ℕ) : (Rd V).payload (interC d s) r i = interPay d (s % 2) i := by
  dsimp only [Rd]
  rw [if_neg (by rw [interS_val]; omega), interS_val, show 1 + s % 2 - 1 = s % 2 by omega]

end Sched

/-! ## What a device owes, and the levels -/

/-- The landing of chunk `c` of phase `p` on the partner. -/
def copyE (d : Dev nD) (p c : ℕ) : CellTallies nD τ sig ℕ :=
  tallyAt (recvC (partner p d) (c % 2)) (32 * p + 2 * c + 4) N
/-- The `j`-th signal across phases for phase `P`. -/
def grantE (d : Dev nD) (P j : ℕ) : CellTallies nD τ sig ℕ :=
  tallyAt (interC (partner P d) (P % 2)) (32 * P + 1 + j) 1
/-- The signal after chunk `i` of phase `p` is consumed. -/
def sigE (d : Dev nD) (p i : ℕ) : CellTallies nD τ sig ℕ :=
  if i < 6 then tallyAt (intraC (partner p d)) (32 * p + 2 * i + 7) 1
  else if nextP d p < 16 then grantE d (nextP d p) (i - 6) else 0
/-- What is owed in phase `p` from copy `c` and signal `k` on. -/
def rem (d : Dev nD) (p c k : ℕ) : CellTallies nD τ sig ℕ :=
  (∑ i ∈ Finset.Ico c 8, copyE d p i) + ∑ i ∈ Finset.Ico k 8, sigE d p i
/-- What is owed from phase `p` on. -/
def Ow (d : Dev nD) (p : ℕ) : CellTallies nD τ sig ℕ :=
  ∑ i ∈ Finset.Ico p 16, if active i d = true then rem d i 0 0 else 0
/-- What a device owes at the start: all phases, and the two signals by which it opens its slots. -/
def O₀ (d : Dev nD) : CellTallies nD τ sig ℕ := (Ow d 0 + grantE d 0 1) + grantE d 0 0

/-- Every TensorCore cell has the indices below 1000 levelled, each at itself. -/
def L (g : GSem nD τ sig) : Finset ℕ := if g.1.2 = .tc then Finset.range 1000 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 1000 := if_pos rfl

/-- Everything owed lies above level `B`. -/
def Above (B : ℕ) (O : CellTallies nD τ sig ℕ) : Prop := ∀ g i, 0 < O g i → g.1.2 = .tc ∧ B < i ∧ i < 1000

theorem Above.zero (B : ℕ) : Above B 0 := fun g i h => absurd h (Nat.lt_irrefl 0)
theorem Above.add {B : ℕ} {O O' : CellTallies nD τ sig ℕ} (h : Above B O) (h' : Above B O') : Above B (O + O') := fun g i hg => by
  rw [Pi.add_apply, Finsupp.add_apply] at hg
  by_cases h0 : 0 < O g i
  · exact h g i h0
  · exact h' g i (by omega)
theorem Above.sum {B : ℕ} {I : Type} [DecidableEq I] (s : Finset I) (f : I → CellTallies nD τ sig ℕ) (h : ∀ i ∈ s, Above B (f i)) :
    Above B (∑ i ∈ s, f i) := by
  induction s using Finset.induction_on with
  | empty => rw [Finset.sum_empty]; exact .zero B
  | insert a s ha ih =>
    rw [Finset.sum_insert ha]
    exact (h a (Finset.mem_insert_self a s)).add (ih fun i hi => h i (Finset.mem_insert_of_mem hi))
theorem Above.tally {B : ℕ} (c : Dev nD) (sm : SemLoc sig) (i k : ℕ) (h : B < i) (h' : i < 1000) :
    Above B (tallyAt ((c : Thread nD τ), sm) i k) := fun g j hg => by
  rw [tallyAt_apply] at hg
  by_cases hh : g = ((c : Thread nD τ), sm) ∧ j = i
  · rw [hh.1, hh.2]; exact ⟨rfl, h, h'⟩
  · rw [if_neg hh] at hg; exact absurd hg (Nat.lt_irrefl 0)
theorem Above.mono {B B' : ℕ} {O : CellTallies nD τ sig ℕ} (h : Above B O) (hB : B' ≤ B) : Above B' O := fun g i hg =>
  ⟨(h g i hg).1, lt_of_le_of_lt hB (h g i hg).2.1, (h g i hg).2.2⟩

theorem above_copy {B p c : ℕ} (d : Dev nD) (hp : p < 16) (hc : c < 8) (h : B < 32 * p + 2 * c + 4) : Above B (copyE d p c) :=
  .tally _ _ _ _ h (by omega)
theorem above_grant {B P j : ℕ} (d : Dev nD) (hp : P < 16) (hj : j < 2) (h : B < 32 * P + 1 + j) : Above B (grantE d P j) :=
  .tally _ _ _ _ h (by omega)
theorem above_sig {B p i : ℕ} (d : Dev nD) (hp : p < 16) (hi : i < 8) (h : B < 32 * p + 2 * i + 7) : Above B (sigE d p i) := by
  unfold sigE
  have := lt_nextP d p
  split
  · exact .tally _ _ _ _ h (by omega)
  · split
    · exact above_grant d (by assumption) (by omega) (by omega)
    · exact .zero B
theorem above_rem {B p c k : ℕ} (d : Dev nD) (hp : p < 16) (h : B < 32 * p + 2 * c + 4) (h' : B < 32 * p + 2 * k + 7) : Above B (rem d p c k) := by
  unfold rem
  refine .add (.sum _ _ fun i hi => ?_) (.sum _ _ fun i hi => ?_)
  · rw [Finset.mem_Ico] at hi; exact above_copy d hp hi.2 (by omega)
  · rw [Finset.mem_Ico] at hi; exact above_sig d hp hi.2 (by omega)
theorem above_Ow {B p : ℕ} (d : Dev nD) (h : B < 32 * p + 4) : Above B (Ow d p) := by
  unfold Ow
  refine .sum _ _ fun i hi => ?_
  rw [Finset.mem_Ico] at hi
  split
  · exact above_rem d hi.2 (by omega) (by omega)
  · exact .zero B

omit [FloatOps F] in
/-- A wait at index `i` is allowed while everything owed lies above `i`. -/
theorem mayWait (c : Dev nD) (sm : SemLoc sig) (i : ℕ) (hi : i < 1000) {O : CellTallies nD τ sig ℕ} (h : Above i O) :
    (levAts L lv : sProp 𝕄) ⊢ MayWait (c : Thread nD τ) sm i O :=
  MayOwe.of_cut (L := L) (lev := lv) i
    (fun p hp => by rw [Finset.mem_singleton.mp hp, L_tc]; exact Finset.mem_range.mpr hi)
    (fun g u hg => by unfold L; rw [if_pos (h g u hg).1]; exact Finset.mem_range.mpr (h g u hg).2.2)
    (fun p hp => by rw [Finset.mem_singleton.mp hp]; exact le_rfl)
    (fun g u hg => (h g u hg).2.1)

/-- The kernel's variants: none. -/
abbrev 𝒱₀ : Variants := Variants.none

end Cert.KernelIdeal.Sort

end
-- ==== Proof.Ideal.Effects.lean ====
/- One lemma per effect of the body: a copy out, the waits for its read-out and for what arrives, the waits for a signal of
   either kind and the signals themselves, the accesses of a chunk and of a landing slot. Each is stated for whatever
   terms the body names its devices, slots and chunks by, given that they are the ones meant. -/
module

public import proofs.«01_k».proof.Proof.Ideal.Common
public import Idealize.SL.BI.BigOpNat

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (V : ℕ → Dev nD → ℕ → Vec F S4096x128 .bf16) (K : Dev nD × Fin 7 → ℕ) (ιs : Key → ℕ)

/-- The weakest precondition of a program on device `d`. -/
abbrev WP (d : Dev nD) {α : Type} (p : Prog (TpuEff nD τ sig (Elt F) Λ₀ .tc) α) (Q : α → sProp 𝕄) : sProp 𝕄 :=
  wp Idealize.ShloMosaic.frame (wpE (defs₀ (F := F)) 𝒱₀ (d : Thread nD τ) none) Set.univ p Q

/-! ## The invariants -/

omit [FloatOps F] in
theorem bigSep_join {I : Type} [DecidableEq I] {s t : Finset I} (h : t ⊆ s) {Φ : I → sProp 𝕄} :
    iprop(bigSep t Φ ∗ bigSep (s \ t) Φ) ⊢ bigSep s Φ := Entails.of_eq (bigSep_sdiff_split h).symm

omit [FloatOps F] in
theorem big_elim {I : Type} [DecidableEq I] {s : Finset I} {i : I} (h : i ∈ s) {Φ : I → sProp 𝕄} : bigSep s Φ ⊢ iprop(Φ i) := bigSep_elim h

/-- Every cell's and every slot's invariant, and the levels. -/
def Invs : sProp 𝕄 :=
  iprop(bigSep Finset.univ (fun ck : Dev nD × Fin 7 => cellInv ER (Rd V) (K ck) (kcell ck))
    ∗ bigSep Finset.univ (fun k : Key => slotInv ES (ιs k) k (slotAny (F := F) k.1 k.2.val))
    ∗ levAts L lv)

instance Invs_persistent : BI.Persistent (Invs V K ιs) := by unfold Invs; infer_instance

/-- The place of a cell in its device's seven. -/
def kSend (s : ℕ) : Fin 7 := if s % 2 = 0 then 0 else 1
def kRecv (s : ℕ) : Fin 7 := if s % 2 = 0 then 2 else 3
def kInter (s : ℕ) : Fin 7 := if s % 2 = 0 then 5 else 6

theorem kSend_cell (d : Dev nD) (s : ℕ) : kcell (d, kSend s) = sendC d s := by
  unfold kcell sendC kSend; rw [sendS_mod s]
  rcases Nat.mod_two_eq_zero_or_one s with h | h <;> rw [h] <;> rfl
theorem kRecv_cell (d : Dev nD) (s : ℕ) : kcell (d, kRecv s) = recvC d s := by
  unfold kcell recvC kRecv; rw [recvS_mod s]
  rcases Nat.mod_two_eq_zero_or_one s with h | h <;> rw [h] <;> rfl
theorem kInter_cell (d : Dev nD) (s : ℕ) : kcell (d, kInter s) = interC d s := by
  unfold kcell interC kInter; rw [interS_mod s]
  rcases Nat.mod_two_eq_zero_or_one s with h | h <;> rw [h] <;> rfl

theorem inv_cell (ck : Dev nD × Fin 7) : Invs V K ιs ⊢ cellInv ER (Rd V) (K ck) (kcell ck) := by
  unfold Invs; iintro ⟨H, -, -⟩; iapply (big_elim (Φ := fun ck : Dev nD × Fin 7 => cellInv ER (Rd V) (K ck) (kcell ck)) (Finset.mem_univ ck)); iexact H
theorem inv_send (d : Dev nD) (s : ℕ) : Invs V K ιs ⊢ cellInv ER (Rd V) (K (d, kSend s)) (sendC d s) := by
  rw [← kSend_cell]; exact inv_cell V K ιs _
theorem inv_recv (d : Dev nD) (s : ℕ) : Invs V K ιs ⊢ cellInv ER (Rd V) (K (d, kRecv s)) (recvC d s) := by
  rw [← kRecv_cell]; exact inv_cell V K ιs _
theorem inv_intra (d : Dev nD) : Invs V K ιs ⊢ cellInv ER (Rd V) (K (d, 4)) (intraC d) := inv_cell V K ιs (d, 4)
theorem inv_inter (d : Dev nD) (s : ℕ) : Invs V K ιs ⊢ cellInv ER (Rd V) (K (d, kInter s)) (interC d s) := by
  rw [← kInter_cell]; exact inv_cell V K ιs _
theorem inv_slot (d : Dev nD) (s : ℕ) (hs : s < 2) :
    Invs V K ιs ⊢ slotInv ES (ιs (d, Fin.ofNat 2 s)) (d, Fin.ofNat 2 s) (slotAny (F := F) d s) := by
  unfold Invs; iintro ⟨-, H, -⟩
  ihave H' := (big_elim (Finset.mem_univ (d, Fin.ofNat 2 s))) $$ H
  rw [show ((Fin.ofNat 2 s : Fin 2).val) = s from Nat.mod_eq_of_lt hs]
  iexact H'
theorem inv_mayWait (d : Dev nD) (sm : SemLoc sig) (i : ℕ) (hi : i < 1000) {O : CellTallies nD τ sig ℕ} (h : Above i O) :
    Invs V K ιs ⊢ MayWait (d : Thread nD τ) sm i O := by
  unfold Invs; iintro ⟨-, -, H⟩
  iapply (mayWait d sm i hi h); iexact H

/-- What a device owes, whatever it has waited for. -/
def owesE (d : Dev nD) (O : CellTallies nD τ sig ℕ) : sProp 𝕄 := iprop(∃ W, owes (d : Thread nD τ) O W)

/-! ## Waiting unit by unit on a round of signals -/

/-- The owner of a cell whose round `R` is `Nn` unit duties, having taken `m` units: which duties have landed, as far as
    it knows, and their payloads. -/
def UPos (P : ℕ → sProp 𝕄) (g : GSem nD τ sig) (R Nn m : ℕ) : sProp 𝕄 :=
  iprop(∃ S : Finset ℕ, ⌜S ⊆ Finset.range Nn ∧ m + (Finset.range Nn \ S).card ≤ Nn⌝ ∗ atPos ER g R S m ∗ bigSep S P)

omit [FloatOps F] in
theorem upos_start (P : ℕ → sProp 𝕄) (g : GSem nD τ sig) (R Nn : ℕ) : atPos ER g R ∅ 0 ⊢ UPos P g R Nn 0 := by
  unfold UPos
  iintro H
  iexists ∅
  isplitr
  · ipureintro; exact ⟨Finset.empty_subset _, by rw [Finset.sdiff_empty, Finset.card_range, Nat.zero_add]⟩
  isplitl [H]; · iexact H
  rw [bigSep_empty]; iempintro

omit [FloatOps F] in
/-- After `m + 1` units some duty numbered at least `m` has landed. -/
theorem upos_get (P : ℕ → sProp 𝕄) [∀ i, BI.Persistent (P i)] (g : GSem nD τ sig) (R Nn m : ℕ) (hm : m < Nn) :
    UPos P g R Nn (m + 1) ⊢ iprop(UPos P g R Nn (m + 1) ∗ ∃ i, ⌜m ≤ i ∧ i < Nn⌝ ∗ P i) := by
  unfold UPos
  iintro ⟨%S, %hS, Hat, #HP⟩
  have hex : ∃ i ∈ S, m ≤ i := by
    by_contra hc
    push Not at hc
    have h1 : S ⊆ Finset.range m := fun i hi => Finset.mem_range.mpr (hc i hi)
    have h2 := Finset.card_le_card h1
    have h3 := Finset.card_sdiff_add_card_eq_card hS.1
    rw [Finset.card_range] at h2 h3
    have := hS.2
    omega
  obtain ⟨i, hi, hmi⟩ := hex
  isplitl [Hat]
  · iexists S
    isplitr; · ipureintro; exact hS
    isplitl [Hat]; · iexact Hat
    iexact HP
  iexists i
  isplitr; · ipureintro; exact ⟨hmi, Finset.mem_range.mp (hS.1 hi)⟩
  iapply (big_elim hi); iexact HP

omit [FloatOps F] in
/-- All units taken: the next round. -/
theorem upos_close (P : ℕ → sProp 𝕄) (κ : ℕ) (g : GSem nD τ sig) (R Nn : ℕ) (hd : (Rd V).duties g R = Finset.range Nn) (hx : (Rd V).expect g R = Nn) :
    iprop(cellInv ER (Rd V) κ g ∗ UPos P g R Nn Nn) ⊢ iprop(|={Set.univ}=> (atPos ER g (R + 1) ∅ 0 ∗ reached ER g (R + 1))) := by
  unfold UPos
  iintro ⟨Hi, %S, %hS, Hat, -⟩
  have hc : (Finset.range Nn \ S).card = 0 := by have := hS.2; omega
  iapply (fupd_skip ER (Rd V) (T := S) (by rw [hd]; exact Finset.sdiff_eq_empty_iff_subset.mp (Finset.card_eq_zero.mp hc)) hx.symm (Set.mem_univ κ))
  isplitl [Hi]; · iexact Hi
  iexact Hat

/-- The wait for one unit. -/
theorem upos_wait (P : ℕ → sProp 𝕄) (d : Dev nD) (κ : ℕ) (sm : SemLoc sig) (R Nn m ι : ℕ)
    (hd : (Rd V).duties ((d : Thread nD τ), sm) R = Finset.range Nn) (hx : (Rd V).expect ((d : Thread nD τ), sm) R = Nn)
    (hP : ∀ i, (Rd V).payload ((d : Thread nD τ), sm) R i = P i)
    {α : Type} {w : TpuEff nD τ sig (Elt F) Λ₀ .tc PUnit} {k : PUnit → Prog (TpuEff nD τ sig (Elt F) Λ₀ .tc) α} {Q : α → sProp 𝕄}
    (hw : ∀ Kt : PUnit → sProp 𝕄, wpE (defs₀ (F := F)) 𝒱₀ (d : Thread nD τ) none Set.univ w Kt = waitSpec (d : Thread nD τ) Set.univ sm 1 Kt)
    (O : CellTallies nD τ sig ℕ) (hι : ι < 1000) (hO : Above ι O) (hi : Invs V K ιs ⊢ cellInv ER (Rd V) κ ((d : Thread nD τ), sm)) :
    iprop(Invs V K ιs ∗ cred (tallyAt ((d : Thread nD τ), sm) ι 1) ∗ owesE (F := F) d O
        ∗ UPos P ((d : Thread nD τ), sm) R Nn m)
      ⊢ iprop(((owesE (F := F) d O ∗ UPos P ((d : Thread nD τ), sm) R Nn (m + 1)) -∗ WP d (k ⟨⟩) Q) -∗ WP d (.op w k) Q) := by
  unfold UPos owesE
  iintro ⟨#HI, Hc, ⟨%W, Ho⟩, %S, %hS, Hat, HP⟩ Hk
  iapply (Rounds.wp_wait 𝒱₀ ER (Rd V) (d : Thread nD τ) none hw (Set.mem_univ κ) {(sm, ι)} (cr := Finsupp.single ι 1)
    (by rw [Util.total_single]) (image_single_subset sm ι 1) (O := O) (W := W) (R := R) (m := m) (T := S)) $$ [Hc Ho Hat]
  · isplitr; · iapply hi; iexact HI
    isplitl [Hc]; · iexact Hc
    isplitl [Ho]; · iexact Ho
    isplitr; · iapply (inv_mayWait V K ιs d sm ι hι hO); iexact HI
    iexact Hat
  iintro %S' ⟨%hS', Ho, Hat, HP'⟩
  iapply Hk
  isplitl [Ho]; · iexists _; iexact Ho
  iexists S'
  isplitr
  · ipureintro; rw [← hd]; exact ⟨hS'.2.1, by rw [hx] at hS'; exact hS'.2.2⟩
  isplitl [Hat]; · iexact Hat
  iapply (bigSep_join hS'.1)
  isplitl [HP]; · iexact HP
  rw [bigSep_congr (fun i _ => (hP i).symm)]
  iexact HP'

/-! ## Accesses -/

section Access
variable (d : Dev nD)

/-- A landed slot as the body loads it. -/
def unsq (v : Vec F S4096x128 .bf16) : Vec F S1x4096x128 .bf16 := fun i => v ((Shape.reshapeEquiv (s := S1x4096x128) (s' := S4096x128) (by decide)).symm i)

theorem wp_loadChunk (c : ℕ) (v : Vec F S4096x128 .bf16) {off : Fin 2 → ℕ} (ho : off = offC c) (inb : ∀ a, off a + S4096x128.size a ≤ S4096x1024.size a)
    {α : Type} {hl : (oM : Memref sig .tc .vmem S4096x1024 .bf16).view.LoadsAt (Rect.unit (s := S4096x1024) off S4096x128.size inb).toLoadRect} {k : Vec F S4096x128 .bf16 → Prog (TpuEff nD τ sig (Elt F) Λ₀ .tc) α} {Q : α → sProp 𝕄} :
    chunkAt d c v ⊢ iprop((chunkAt d c v -∗ WP d (k v) Q)
      -∗ WP d (.op (.load oM (Rect.unit (s := S4096x1024) off S4096x128.size inb).toLoadRect hl) k) Q) := by
  subst ho
  unfold chunkAt owns
  iintro ⟨%f, %hf, H⟩ Hk
  iapply (wp_load_rect 𝒱₀ (d : Thread nD τ) none Set.univ (m := oM) (r := Rect.unit (s := S4096x1024) (offC c) S4096x128.size inb) (Finset.Subset.refl _)) $$ H
  iintro H
  rw [show (oM.access (Rect.unit (s := S4096x1024) (offC c) S4096x128.size inb)).read (Elt F) f = v from hf]
  iapply Hk
  iexists f
  isplitr; · ipureintro; exact hf
  iexact H

theorem wp_storeChunk (c : ℕ) (v w : Vec F S4096x128 .bf16) {off : Fin 2 → ℕ} (ho : off = offC c) (inb : ∀ a, off a + S4096x128.size a ≤ S4096x1024.size a)
    {α : Type} {hx} {hm} {k : PUnit → Prog (TpuEff nD τ sig (Elt F) Λ₀ .tc) α} {Q : α → sProp 𝕄} :
    chunkAt d c v ⊢ iprop((chunkAt d c w -∗ WP d (k ⟨⟩) Q)
      -∗ WP d (.op (.store oM (Rect.unit (s := S4096x1024) off S4096x128.size inb) w Finset.univ hx hm) k) Q) := by
  subst ho
  unfold chunkAt owns
  iintro ⟨%f, %hf, H⟩ Hk
  iapply (wp_store 𝒱₀ (d : Thread nD τ) none Set.univ (m := oM) (r := Rect.unit (s := S4096x1024) (offC c) S4096x128.size inb) (Mk := Finset.univ)
    (S := (oC c).view.set) (f := f) (Finset.Subset.refl _)) $$ H
  iintro H
  iapply Hk
  iexists ((oC c).view.write (Elt F) f w Finset.univ)
  isplitr; · ipureintro; exact View.read_write_univ _ _
  iexact H

theorem wp_loadSlot (s : ℕ) (v : Vec F S4096x128 .bf16) {off : Fin 3 → ℕ} (ho : off = offS s) (inb : ∀ a, off a + S1x4096x128.size a ≤ S2x4096x128.size a)
    {α : Type} {hl : (rM : Memref sig .tc .vmem S2x4096x128 .bf16).view.LoadsAt (Rect.unit (s := S2x4096x128) off S1x4096x128.size inb).toLoadRect} {k : Vec F S1x4096x128 .bf16 → Prog (TpuEff nD τ sig (Elt F) Λ₀ .tc) α} {Q : α → sProp 𝕄} :
    slotAt d s v ⊢ iprop((slotAt d s v -∗ WP d (k (unsq v)) Q)
      -∗ WP d (.op (.load rM (Rect.unit (s := S2x4096x128) off S1x4096x128.size inb).toLoadRect hl) k) Q) := by
  subst ho
  unfold slotAt owns
  iintro ⟨%f, %hf, H⟩ Hk
  iapply (wp_load_rect 𝒱₀ (d : Thread nD τ) none Set.univ (m := rM) (r := Rect.unit (s := S2x4096x128) (offS s) S1x4096x128.size inb)
    (S := (rS s).view.set) (f := f) (by exact (View.set_reshape _ _).symm.subset)) $$ H
  iintro H
  rw [show (rM.access (Rect.unit (s := S2x4096x128) (offS s) S1x4096x128.size inb)).read (Elt F) f = unsq v from by
    rw [← hf]; unfold unsq; funext i
    show _ = (rM.access (Rect.unit (s := S2x4096x128) (offS s) S1x4096x128.size inb)).read (Elt F) f (Shape.reshapeEquiv _ (Equiv.symm _ i))
    rw [Equiv.apply_symm_apply]]
  iapply Hk
  iexists f
  isplitr; · ipureintro; exact hf
  iexact H
end Access

/-! ## Copies -/

theorem credit_oC (c : ℕ) : (oC c).view.dmaCredit = N := rfl
theorem credit_rS (s : ℕ) : (rS s).view.dmaCredit = N := rfl

theorem div_round (a c : ℕ) (hc : c < 8) : (4 * a + c / 2) / 4 = a ∧ (4 * a + c / 2) % 4 = c / 2 ∧ 2 * (c / 2) + c % 2 = c := by omega

omit [FloatOps F] in
theorem owns_of_read (t : Thread nD τ) {s : Shape} {e : EltTy} (m : Memref sig t.2.kind .vmem s e) {X : s.Idx → Elt F e} (f : m.view.ty.Contents (Elt F))
    (h : m.view.read (Elt F) f = X) : (m.view.loc t ↦[m.view.set]{fullShare} f : sProp 𝕄) ⊢ owns t m fullShare X := by
  subst h; exact owns_intro _ _ _ _

/-- The copy of chunk `c` in phase `p`. -/
theorem wp_copy (d n : Dev nD) (p c : ℕ) (hp : p < 16) (ha : active p d = true) (hc : c < 8) (hn : n = partner p d)
    {src : Memref sig .tc .vmem S4096x128 .bf16} {dst : Memref sig (Dev.tc n : Thread nD τ).2.kind .vmem S4096x128 .bf16} {sS sR : DmaSem sig}
    (hsrc : src = oC c) (hdst : dst = rS (c % 2)) (hsS : sS = sendS (c % 2)) (hsR : sR = recvS (c % 2))
    {hsc} {h₁} {h₂} {h₃} {α : Type} {k : PUnit → Prog (TpuEff nD τ sig (Elt F) Λ₀ .tc) α} {Q : α → sProp 𝕄} (O : CellTallies nD τ sig ℕ) :
    iprop(Invs V K ιs ∗ chunkAt d c (V p d c) ∗ Fwit (F := F) (partner p d) (c % 2) (4 * ac (partner p d) p + c / 2)
        ∗ writeTok ES (partner p d, Fin.ofNat 2 (c % 2)) (4 * ac (partner p d) p + c / 2 + 1)
        ∗ reached ER (intraC d) (ac d p) ∗ owesE (F := F) d (O + copyE d p c)
        ∗ dutyTok ER (sendC d (c % 2)) (4 * ac d p + c / 2) 0 ∗ reached ER (sendC d (c % 2)) (4 * ac d p + c / 2)
        ∗ dutyTok ER (recvC (partner p d) (c % 2)) (4 * ac (partner p d) p + c / 2) 0)
      ⊢ iprop(((cred (tallyAt (sendC d (c % 2)) 0 N) ∗ owesE (F := F) d O) -∗ WP d (k ⟨⟩) Q)
        -∗ WP d (.op (.enqueueDma src (.remote (Dev.tc n : Thread nD τ) dst (.dma sS) hsc) (.dma sR) h₁ h₂ h₃) k) Q) := by
  subst hn hsrc hdst hsS hsR
  have haq : active p (partner p d) = true := (active_partner p d).trans ha
  have hd := ac_lt hp ha
  have hq := ac_lt hp haq
  have hs : c % 2 < 2 := by omega
  iintro ⟨#HI, Hc, #HF, Hw, #Hr, Ho, Hts, #Hrs, Htr⟩ Hk
  unfold Fwit chunkAt owns owesE
  icases HF with ⟨#Hrel, #Hrq⟩
  icases Hc with ⟨%f, %hf, Hc⟩
  icases Ho with ⟨%W, Ho⟩
  imod (slot_take ES (ι := ιs (partner p d, Fin.ofNat 2 (c % 2))) (S := slotAny (F := F) (partner p d) (c % 2)) (Set.mem_univ _) _) $$ [Hw] with Hs
  · isplitr; · iapply (inv_slot V K ιs (partner p d) (c % 2) hs); iexact HI
    isplitr; · iexact Hrel
    iexact Hw
  unfold slotAny slot
  icases Hs with ⟨%fd, Hs⟩
  iapply (wp_send_pointsTo_with 𝒱₀ ER (Rd V) (d : Thread nD τ) none (κ₁ := K (d, kSend (c % 2))) (κ₂ := K (partner p d, kRecv (c % 2)))
    (sS := .dma (sendS (c % 2))) (sem := .dma (recvS (c % 2))) (r₁ := 4 * ac d p + c / 2) (r₂ := 4 * ac (partner p d) p + c / 2) (d₁ := 0) (d₂ := 0) (fs := f) (fd := fd)
    (F := reached ER (intraC d) (ac d p))
    (by rw [duties_send V d _ (by omega)]; exact Finset.mem_singleton_self _)
    (by rw [duties_recv V _ _ (by omega)]; exact Finset.mem_singleton_self _)
    (32 * p + 2 * c + 4) 0 N (credit_rS (c % 2)) rfl rfl O rfl (W := W)
    (by
      rw [payload_send V d _ _ _ hs]; unfold sendPay chunkAt
      rw [(div_round _ c hc).1, (div_round _ c hc).2.1, (div_round 0 c hc).2.2, actPhase_ac ha, ← hf]
      exact owns_intro _ _ _ _)
    (by
      rw [payload_recv V _ _ _ _ hs]; unfold recvPay slotAt
      rw [(div_round _ c hc).1, (div_round _ c hc).2.1, (div_round 0 c hc).2.2, actPhase_ac haq, partner_partner, ← hf]
      exact BI.sep_mono (owns_of_read _ _ _ (View.read_write_univ _ _)) (BI.Entails.refl _))) $$ [Hc Hs Ho Hts Htr]
  · isplitr; · iapply (inv_send V K ιs d (c % 2)); iexact HI
    isplitr; · iapply (inv_recv V K ιs (partner p d) (c % 2)); iexact HI
    isplitl [Hc]; · iexact Hc
    isplitl [Hs]
    · isplitl [Hs]; · iexact Hs
      iexact Hr
    isplitl [Ho]; · iexact Ho
    isplitl [Hts]; · iexact Hts
    isplitr; · iexact Hrs
    isplitl [Htr]; · iexact Htr
    iexact Hrq
  iintro ⟨Hcr, Ho⟩
  iapply Hk
  isplitl [Hcr]; · iexact Hcr
  iexists W; iexact Ho

omit [FloatOps F] in
theorem rest_send (d : Dev nD) (p c : ℕ) (hp : p < 16) (ha : active p d = true) (hc : c < 8) :
    bigSep ((Rd V).duties (sendC d (c % 2)) (4 * ac d p + c / 2) \ ∅) (fun i => (Rd V).payload (sendC d (c % 2)) (4 * ac d p + c / 2) i)
      = chunkAt d c (V p d c) := by
  have hd := ac_lt hp ha
  rw [duties_send V d _ (by omega), Finset.sdiff_empty, bigSep_singleton, payload_send V d _ _ _ (by omega)]
  unfold sendPay
  rw [(div_round _ c hc).1, (div_round _ c hc).2.1, (div_round 0 c hc).2.2, actPhase_ac ha]
omit [FloatOps F] in
theorem rest_recv (d : Dev nD) (p c : ℕ) (hp : p < 16) (ha : active p d = true) (hc : c < 8) :
    bigSep ((Rd V).duties (recvC d (c % 2)) (4 * ac d p + c / 2) \ ∅) (fun i => (Rd V).payload (recvC d (c % 2)) (4 * ac d p + c / 2) i)
      = iprop(slotAt d (c % 2) (V p (partner p d) c) ∗ reached ER (intraC (partner p d)) (ac (partner p d) p)) := by
  have hd := ac_lt hp ha
  rw [duties_recv V d _ (by omega), Finset.sdiff_empty, bigSep_singleton, payload_recv V d _ _ _ (by omega)]
  unfold recvPay
  rw [(div_round _ c hc).1, (div_round _ c hc).2.1, (div_round 0 c hc).2.2, actPhase_ac ha]

/-- The wait for the read-out of copy `c`: the chunk comes back. -/
theorem wp_sendWait (d : Dev nD) (p c : ℕ) (hp : p < 16) (ha : active p d = true) (hc : c < 8) {sem : DmaSem sig} (hsem : sem = sendS (c % 2))
    {src dst : Memref sig .tc .vmem S4096x128 .bf16} (hdst : dst = oC c) {h₁} {h₂}
    {α : Type} {k : PUnit → Prog (TpuEff nD τ sig (Elt F) Λ₀ .tc) α} {Q : α → sProp 𝕄} (O : CellTallies nD τ sig ℕ) (hO : Above 0 O) :
    iprop(Invs V K ιs ∗ cred (tallyAt (sendC d (c % 2)) 0 N) ∗ owesE (F := F) d O ∗ atPos ER (sendC d (c % 2)) (4 * ac d p + c / 2) ∅ 0)
      ⊢ iprop(((owesE (F := F) d O ∗ atPos ER (sendC d (c % 2)) (4 * ac d p + c / 2 + 1) ∅ 0 ∗ reached ER (sendC d (c % 2)) (4 * ac d p + c / 2 + 1)
            ∗ chunkAt d c (V p d c)) -∗ WP d (k ⟨⟩) Q)
        -∗ WP d (.op (.waitDma2 sem src dst h₁ h₂) k) Q) := by
  subst hsem hdst
  have hd := ac_lt hp ha
  unfold owesE
  iintro ⟨#HI, Hcr, ⟨%W, Ho⟩, Hat⟩ Hk
  iapply (Rounds.wp_wait_rest_token 𝒱₀ ER (Rd V) (d : Thread nD τ) none (κ := K (d, kSend (c % 2)))
      (wpE_waitDma2_eq 𝒱₀ (d : Thread nD τ) none Set.univ) (Set.mem_univ _) 0 (O := O) (W := W) (R := 4 * ac d p + c / 2) (m := 0) (T := ∅)
      (by rw [Nat.zero_add, expect_send V d _ (by omega)])) $$ [Hcr Ho Hat]
  · isplitr; · iapply (inv_send V K ιs d (c % 2)); iexact HI
    isplitl [Hcr]; · rw [credit_oC]; iexact Hcr
    isplitl [Ho]; · iexact Ho
    isplitr; · iapply (inv_mayWait V K ιs d _ 0 (by omega) hO); iexact HI
    iexact Hat
  iintro ⟨Ho, Hat, Hr, Hpay⟩
  ihave Hpay := (Entails.of_eq (rest_send V d p c hp ha hc)) $$ Hpay
  iapply Hk
  isplitl [Ho]; · iexists _; iexact Ho
  isplitl [Hat]; · iexact Hat
  isplitl [Hr]; · iexact Hr
  iexact Hpay

/-- The wait for the landing of the partner's chunk `c`. -/
theorem wp_recvWait (d : Dev nD) (p c : ℕ) (hp : p < 16) (ha : active p d = true) (hc : c < 8) {sem : DmaSem sig} (hsem : sem = recvS (c % 2))
    {src dst : Memref sig .tc .vmem S4096x128 .bf16} (hdst : dst = rS (c % 2)) {h₁} {h₂}
    {α : Type} {k : PUnit → Prog (TpuEff nD τ sig (Elt F) Λ₀ .tc) α} {Q : α → sProp 𝕄} (O : CellTallies nD τ sig ℕ) (hO : Above (32 * p + 2 * c + 4) O) :
    iprop(Invs V K ιs ∗ cred (tallyAt (recvC d (c % 2)) (32 * p + 2 * c + 4) N) ∗ owesE (F := F) d O ∗ atPos ER (recvC d (c % 2)) (4 * ac d p + c / 2) ∅ 0)
      ⊢ iprop(((owesE (F := F) d O ∗ atPos ER (recvC d (c % 2)) (4 * ac d p + c / 2 + 1) ∅ 0 ∗ reached ER (recvC d (c % 2)) (4 * ac d p + c / 2 + 1)
            ∗ slotAt d (c % 2) (V p (partner p d) c) ∗ reached ER (intraC (partner p d)) (ac (partner p d) p)) -∗ WP d (k ⟨⟩) Q)
        -∗ WP d (.op (.waitDma2 sem src dst h₁ h₂) k) Q) := by
  subst hsem hdst
  have hd := ac_lt hp ha
  unfold owesE
  iintro ⟨#HI, Hcr, ⟨%W, Ho⟩, Hat⟩ Hk
  iapply (Rounds.wp_wait_rest_token 𝒱₀ ER (Rd V) (d : Thread nD τ) none (κ := K (d, kRecv (c % 2)))
      (wpE_waitDma2_eq 𝒱₀ (d : Thread nD τ) none Set.univ) (Set.mem_univ _) (32 * p + 2 * c + 4) (O := O) (W := W) (R := 4 * ac d p + c / 2) (m := 0) (T := ∅)
      (by rw [Nat.zero_add, expect_recv V d _ (by omega)])) $$ [Hcr Ho Hat]
  · isplitr; · iapply (inv_recv V K ιs d (c % 2)); iexact HI
    isplitl [Hcr]; · iexact Hcr
    isplitl [Ho]; · iexact Ho
    isplitr; · iapply (inv_mayWait V K ιs d _ (32 * p + 2 * c + 4) (by omega) hO); iexact HI
    iexact Hat
  iintro ⟨Ho, Hat, Hr, Hpay⟩
  ihave Hpay := (Entails.of_eq (rest_recv V d p c hp ha hc)) $$ Hpay
  icases Hpay with ⟨Hs, Hq⟩
  iapply Hk
  isplitl [Ho]; · iexists _; iexact Ho
  isplitl [Hat]; · iexact Hat
  isplitl [Hr]; · iexact Hr
  isplitl [Hs]; · iexact Hs
  iexact Hq

/-! ## Signals -/

/-- The signal after chunk `i < 6` of phase `p` is consumed. -/
theorem wp_intraSignal (d n : Dev nD) (p i : ℕ) (hp : p < 16) (ha : active p d = true) (hi : i < 6) (hn : n = partner p d) {sem : Sem sig} (hsem : sem = intraS)
    {kk : ℕ} (hkk : kk = 1) {α : Type} {k : PUnit → Prog (TpuEff nD τ sig (Elt F) Λ₀ .tc) α} {Q : α → sProp 𝕄} (O : CellTallies nD τ sig ℕ) :
    iprop(Invs V K ιs ∗ owesE (F := F) d (O + tallyAt (intraC (partner p d)) (32 * p + 2 * i + 7) 1)
        ∗ dutyTok ER (intraC (partner p d)) (ac (partner p d) p) i
        ∗ twoF (F := F) d (4 * ac d p + (i + 2) / 2) (4 * ac d p + (i + 1) / 2)
        ∗ reached ER (intraC (partner p d)) (ac (partner p d) p))
      ⊢ iprop((owesE (F := F) d O -∗ WP d (k ⟨⟩) Q)
        -∗ WP d (.op (.semSignal (n : Thread nD τ) sem kk) k) Q) := by
  subst hn hsem hkk
  have haq : active p (partner p d) = true := (active_partner p d).trans ha
  have hq := ac_lt hp haq
  unfold owesE
  iintro ⟨#HI, ⟨%W, Ho⟩, Ht, HF, #Hr⟩ Hk
  iapply (Rounds.wp_signal 𝒱₀ ER (Rd V) (d : Thread nD τ) none (dst := (partner p d : Thread nD τ)) (κ := K (partner p d, 4)) (r := ac (partner p d) p) (d := i)
      (by rw [duties_intra V _ hq]; exact Finset.mem_range.mpr hi) rfl (32 * p + 2 * i + 7) O rfl) $$ [Ho Ht HF]
  · isplitr; · iapply (inv_intra V K ιs); iexact HI
    isplitl [Ho]; · iexact Ho
    isplitl [Ht]; · iexact Ht
    isplitl [HF]
    · rw [payload_intra]; unfold intraPay; rw [actPhase_ac haq, partner_partner]; iexact HF
    iexact Hr
  iintro Ho
  iapply Hk
  iexists _; iexact Ho

/-- The number of a signal across phases among those of its parity. -/
def interI (P j : ℕ) : ℕ := 2 * (P / 2) + j

/-- The `j`-th signal across phases for phase `P`. -/
theorem wp_interSignal (d n : Dev nD) (P j : ℕ) (hP : P < 16) (ha : active P d = true) (hj : j < 2) (hn : n = partner P d) {sem : Sem sig} (hsem : sem = interS P)
    {kk : ℕ} (hkk : kk = 1) {α : Type} {k : PUnit → Prog (TpuEff nD τ sig (Elt F) Λ₀ .tc) α} {Q : α → sProp 𝕄} (O : CellTallies nD τ sig ℕ) :
    iprop(Invs V K ιs ∗ owesE (F := F) d (O + grantE d P j)
        ∗ dutyTok ER (interC (partner P d) (P % 2)) 0 (interI P j)
        ∗ twoF (F := F) d (4 * ac d P) (4 * ac d P + j - 1)
        ∗ reached ER (interC (partner P d) (P % 2)) 0)
      ⊢ iprop((owesE (F := F) d O -∗ WP d (k ⟨⟩) Q)
        -∗ WP d (.op (.semSignal (n : Thread nD τ) sem kk) k) Q) := by
  rw [interS_mod] at hsem
  subst hn hsem hkk
  have haq : active P (partner P d) = true := (active_partner P d).trans ha
  unfold owesE
  iintro ⟨#HI, ⟨%W, Ho⟩, Ht, HF, #Hr⟩ Hk
  iapply (Rounds.wp_signal 𝒱₀ ER (Rd V) (d : Thread nD τ) none (dst := (partner P d : Thread nD τ)) (κ := K (partner P d, kInter (P % 2))) (r := 0) (d := interI P j)
      (by
        rw [duties_inter V _ _ (by
          rcases Nat.mod_two_eq_zero_or_one P with h | h
          · left; omega
          · right
            cases he : edge (partner P d)
            · rfl
            · have := edge_parity he haq; omega)]
        refine Finset.mem_range.mpr ?_; unfold interI; omega) rfl (32 * P + 1 + j) O rfl) $$ [Ho Ht HF]
  · isplitr; · iapply (inv_inter V K ιs); iexact HI
    isplitl [Ho]; · iexact Ho
    isplitl [Ht]; · iexact Ht
    isplitl [HF]
    · rw [payload_inter]; unfold interPay
      rw [show interP (P % 2 % 2) (interI P j) = P by unfold interP interI; omega, partner_partner,
        show interI P j % 2 = j by unfold interI; omega]
      iexact HF
    iexact Hr
  iintro Ho
  iapply Hk
  iexists _; iexact Ho

end Cert.KernelIdeal.Sort

end
-- ==== Proof.Ideal.Value.lean ====
/- The values the kernel computes on one chunk, as functions of what it loads: the parts of the printed body that only
   compute, each equal to returning its value; the local sort of a chunk, the merge with an arrived chunk, and the last
   pass. -/
module

public import proofs.«01_k».proof.Proof.Gen.KernelIdeal
public import proofs.«01_k».proof.Proof.Gen.KernelIdeal.Skeleton

@[expose] public section

noncomputable section

namespace Cert.KernelIdeal.Sort

open Cert.KernelIdeal Cert.KernelIdeal.Gen
open Idealize.ShloMosaic Idealize.ShloMosaic.TcCoe
open Idealize.SL Idealize.SL.Sem

variable {F : FTy → Type} [FloatOps F]

/-- What `k0_part2` computes. -/
def out2 (v37 : IVec S4096x1 32) (v58 : FVec F S4096x128 .bf16) (v62 : IVec S4096x1 1) (v67 : IVec S4096x1 1) (v72 : FVec F S4096x128 .bf16) : Σ' (v115 : FVec F S4096x128 .bf16) (v116 : FVec F S4096x128 .bf16) (v117 : IVec S4096x1 1), IVec S4096x1 1 :=
  have cst_50 : IVec S4096x1 1 := constantI S4096x1 1 1#1
  ⟨k0_pay10 v37 v58 v62 v67 v72, k0_pay11 v37 v58 v62 v67 v72, k0_pay12 v37, cst_50⟩
theorem part2_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v58 : FVec F S4096x128 .bf16) (v62 : IVec S4096x1 1) (v67 : IVec S4096x1 1) (v72 : FVec F S4096x128 .bf16) :
    k0_part2 (F := F) arg0 harg0 arg1 harg1 arg2 harg2 arg3 arg4 arg5 arg6 v37 v58 v62 v67 v72 = pure (out2 v37 v58 v62 v67 v72) := by
  rw [k0_part2_eq_skeleton]; rfl

/-- What `k0_part3` computes. -/
def out3 (v37 : IVec S4096x1 32) (v115 : FVec F S4096x128 .bf16) (v116 : FVec F S4096x128 .bf16) (v117 : IVec S4096x1 1) (cst_50 : IVec S4096x1 1) : FVec F S4096x128 .bf16 :=
  (k0_pay13 v37 v115 v116 v117 cst_50)
theorem part3_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v115 : FVec F S4096x128 .bf16) (v116 : FVec F S4096x128 .bf16) (v117 : IVec S4096x1 1) (cst_50 : IVec S4096x1 1) :
    k0_part3 (F := F) arg0 harg0 arg1 harg1 arg2 harg2 arg3 arg4 arg5 arg6 v37 v115 v116 v117 cst_50 = pure (out3 v37 v115 v116 v117 cst_50) := by
  rw [k0_part3_eq_skeleton]; rfl

/-- What `k0_part4` computes. -/
def out4 (v37 : IVec S4096x1 32) (v163 : FVec F S4096x128 .bf16) : Σ' (v206 : FVec F S4096x128 .bf16) (v210 : IVec S4096x1 1) (v211 : IVec S4096x1 32), BitVec 32 :=
  have v211 : IVec S4096x1 32 := iota .tc S4096x1 32 [0] iota_S4096x1_d0_w32
  ⟨k0_pay14 v37 v163, k0_pay15 v37, v211, 2#32⟩
theorem part4_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v163 : FVec F S4096x128 .bf16) :
    k0_part4 (F := F) arg0 harg0 arg1 harg1 arg2 harg2 arg3 arg4 arg5 arg6 v37 v163 = pure (out4 v37 v163) := by
  rw [k0_part4_eq_skeleton]; rfl

/-- What `k0_part5` computes. -/
def out5 (v37 : IVec S4096x1 32) (v206 : FVec F S4096x128 .bf16) (v210 : IVec S4096x1 1) (v211 : IVec S4096x1 32) (c2_i32_76 : BitVec 32) : Σ' (v254 : FVec F S128x16x128 .bf16) (v255 : FVec F S128x16x128 .bf16) (v258 : IVec S128x1x1 32), BitVec 32 :=
  ⟨k0_pay19 v37 v206 v210 v211 c2_i32_76, k0_pay20 v37 v206 v210 v211 c2_i32_76, k0_pay21, 0#32⟩
theorem part5_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v206 : FVec F S4096x128 .bf16) (v210 : IVec S4096x1 1) (v211 : IVec S4096x1 32) (c2_i32_76 : BitVec 32) :
    k0_part5 (F := F) arg0 harg0 arg1 harg1 arg2 harg2 arg3 arg4 arg5 arg6 v37 v206 v210 v211 c2_i32_76 = pure (out5 v37 v206 v210 v211 c2_i32_76) := by
  rw [k0_part5_eq_skeleton]; rfl

/-- What `k0_part6` computes. -/
def out6 (v37 : IVec S4096x1 32) (v254 : FVec F S128x16x128 .bf16) (v255 : FVec F S128x16x128 .bf16) (v258 : IVec S128x1x1 32) (c0_i32_89 : BitVec 32) : Σ' (v307 : FVec F S4096x128 .bf16) (v308 : FVec F S4096x128 .bf16) (v309 : IVec S4096x1 1), IVec S4096x1 1 :=
  have cst_97 : IVec S4096x1 1 := constantI S4096x1 1 1#1
  ⟨k0_pay25 v254 v255 v258 c0_i32_89, k0_pay26 v254 v255 v258 c0_i32_89, k0_pay27 v37, cst_97⟩
theorem part6_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v254 : FVec F S128x16x128 .bf16) (v255 : FVec F S128x16x128 .bf16) (v258 : IVec S128x1x1 32) (c0_i32_89 : BitVec 32) :
    k0_part6 (F := F) arg0 harg0 arg1 harg1 arg2 harg2 arg3 arg4 arg5 arg6 v37 v254 v255 v258 c0_i32_89 = pure (out6 v37 v254 v255 v258 c0_i32_89) := by
  rw [k0_part6_eq_skeleton]; rfl

/-- What `k0_part7` computes. -/
def out7 (v37 : IVec S4096x1 32) (v307 : FVec F S4096x128 .bf16) (v308 : FVec F S4096x128 .bf16) (v309 : IVec S4096x1 1) (cst_97 : IVec S4096x1 1) : FVec F S4096x128 .bf16 :=
  (k0_pay28 v37 v307 v308 v309 cst_97)
theorem part7_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v307 : FVec F S4096x128 .bf16) (v308 : FVec F S4096x128 .bf16) (v309 : IVec S4096x1 1) (cst_97 : IVec S4096x1 1) :
    k0_part7 (F := F) arg0 harg0 arg1 harg1 arg2 harg2 arg3 arg4 arg5 arg6 v37 v307 v308 v309 cst_97 = pure (out7 v37 v307 v308 v309 cst_97) := by
  rw [k0_part7_eq_skeleton]; rfl

/-- What `k0_part8` computes. -/
def out8 (v355 : FVec F S4096x128 .bf16) : Σ' (v405 : FVec F S256x8x128 .bf16) (v406 : FVec F S256x8x128 .bf16) (v409 : IVec S256x1x1 32), BitVec 32 :=
  ⟨k0_pay32 v355, k0_pay33 v355, k0_pay34, 0#32⟩
theorem part8_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v355 : FVec F S4096x128 .bf16) :
    k0_part8 (F := F) arg0 harg0 arg1 harg1 arg2 harg2 arg3 arg4 arg5 arg6 v355 = pure (out8 v355) := by
  rw [k0_part8_eq_skeleton]; rfl

/-- What `k0_part9` computes. -/
def out9 (v37 : IVec S4096x1 32) (v405 : FVec F S256x8x128 .bf16) (v406 : FVec F S256x8x128 .bf16) (v409 : IVec S256x1x1 32) (c0_i32_117 : BitVec 32) : Σ' (v442 : FVec F S4096x128 .bf16) (v446 : IVec S4096x1 1) (v451 : IVec S4096x1 1), FVec F S4096x128 .bf16 :=
  ⟨k0_pay35 v37 v405 v406 v409 c0_i32_117, k0_pay36 v37, k0_pay37, k0_pay38 v37 v405 v406 v409 c0_i32_117⟩
theorem part9_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v405 : FVec F S256x8x128 .bf16) (v406 : FVec F S256x8x128 .bf16) (v409 : IVec S256x1x1 32) (c0_i32_117 : BitVec 32) :
    k0_part9 (F := F) arg0 harg0 arg1 harg1 arg2 harg2 arg3 arg4 arg5 arg6 v37 v405 v406 v409 c0_i32_117 = pure (out9 v37 v405 v406 v409 c0_i32_117) := by
  rw [k0_part9_eq_skeleton]; rfl

/-- What `k0_part10` computes. -/
def out10 (v37 : IVec S4096x1 32) (v442 : FVec F S4096x128 .bf16) (v446 : IVec S4096x1 1) (v451 : IVec S4096x1 1) (v456 : FVec F S4096x128 .bf16) : FVec F S4096x128 .bf16 :=
  (k0_pay39 v37 v442 v446 v451 v456)
theorem part10_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v442 : FVec F S4096x128 .bf16) (v446 : IVec S4096x1 1) (v451 : IVec S4096x1 1) (v456 : FVec F S4096x128 .bf16) :
    k0_part10 (F := F) arg0 harg0 arg1 harg1 arg2 harg2 arg3 arg4 arg5 arg6 v37 v442 v446 v451 v456 = pure (out10 v37 v442 v446 v451 v456) := by
  rw [k0_part10_eq_skeleton]; rfl

/-- What `k0_part11` computes. -/
def out11 (v506 : FVec F S4096x128 .bf16) : Σ' (v556 : FVec F S256x8x128 .bf16) (v557 : FVec F S256x8x128 .bf16) (v560 : IVec S256x1x1 32), BitVec 32 :=
  ⟨k0_pay43 v506, k0_pay44 v506, k0_pay45, 0#32⟩
theorem part11_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v506 : FVec F S4096x128 .bf16) :
    k0_part11 (F := F) arg0 harg0 arg1 harg1 arg2 harg2 arg3 arg4 arg5 arg6 v506 = pure (out11 v506) := by
  rw [k0_part11_eq_skeleton]; rfl

/-- What `k0_part12` computes. -/
def out12 (v37 : IVec S4096x1 32) (v556 : FVec F S256x8x128 .bf16) (v557 : FVec F S256x8x128 .bf16) (v560 : IVec S256x1x1 32) (c0_i32_145 : BitVec 32) : Σ' (v593 : FVec F S4096x128 .bf16) (v597 : IVec S4096x1 1) (v602 : IVec S4096x1 1), FVec F S4096x128 .bf16 :=
  ⟨k0_pay46 v37 v556 v557 v560 c0_i32_145, k0_pay47 v37, k0_pay48, k0_pay49 v37 v556 v557 v560 c0_i32_145⟩
theorem part12_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v556 : FVec F S256x8x128 .bf16) (v557 : FVec F S256x8x128 .bf16) (v560 : IVec S256x1x1 32) (c0_i32_145 : BitVec 32) :
    k0_part12 (F := F) arg0 harg0 arg1 harg1 arg2 harg2 arg3 arg4 arg5 arg6 v37 v556 v557 v560 c0_i32_145 = pure (out12 v37 v556 v557 v560 c0_i32_145) := by
  rw [k0_part12_eq_skeleton]; rfl

/-- What `k0_part13` computes. -/
def out13 (v37 : IVec S4096x1 32) (v593 : FVec F S4096x128 .bf16) (v597 : IVec S4096x1 1) (v602 : IVec S4096x1 1) (v607 : FVec F S4096x128 .bf16) : FVec F S4096x128 .bf16 :=
  (k0_pay50 v37 v593 v597 v602 v607)
theorem part13_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v593 : FVec F S4096x128 .bf16) (v597 : IVec S4096x1 1) (v602 : IVec S4096x1 1) (v607 : FVec F S4096x128 .bf16) :
    k0_part13 (F := F) arg0 harg0 arg1 harg1 arg2 harg2 arg3 arg4 arg5 arg6 v37 v593 v597 v602 v607 = pure (out13 v37 v593 v597 v602 v607) := by
  rw [k0_part13_eq_skeleton]; rfl

/-- What `k0_part14` computes. -/
def out14 (v657 : FVec F S4096x128 .bf16) : Σ' (v707 : FVec F S128x16x128 .bf16) (v708 : FVec F S128x16x128 .bf16) (v711 : IVec S128x1x1 32), BitVec 32 :=
  ⟨k0_pay54 v657, k0_pay55 v657, k0_pay56, 0#32⟩
theorem part14_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v657 : FVec F S4096x128 .bf16) :
    k0_part14 (F := F) arg0 harg0 arg1 harg1 arg2 harg2 arg3 arg4 arg5 arg6 v657 = pure (out14 v657) := by
  rw [k0_part14_eq_skeleton]; rfl

/-- What `k0_part15` computes. -/
def out15 (v37 : IVec S4096x1 32) (v707 : FVec F S128x16x128 .bf16) (v708 : FVec F S128x16x128 .bf16) (v711 : IVec S128x1x1 32) (c0_i32_174 : BitVec 32) : Σ' (v760 : FVec F S4096x128 .bf16) (v761 : FVec F S4096x128 .bf16) (v762 : IVec S4096x1 1), IVec S4096x1 1 :=
  have cst_182 : IVec S4096x1 1 := constantI S4096x1 1 1#1
  ⟨k0_pay60 v707 v708 v711 c0_i32_174, k0_pay61 v707 v708 v711 c0_i32_174, k0_pay62 v37, cst_182⟩
theorem part15_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v707 : FVec F S128x16x128 .bf16) (v708 : FVec F S128x16x128 .bf16) (v711 : IVec S128x1x1 32) (c0_i32_174 : BitVec 32) :
    k0_part15 (F := F) arg0 harg0 arg1 harg1 arg2 harg2 arg3 arg4 arg5 arg6 v37 v707 v708 v711 c0_i32_174 = pure (out15 v37 v707 v708 v711 c0_i32_174) := by
  rw [k0_part15_eq_skeleton]; rfl

/-- What `k0_part16` computes. -/
def out16 (v37 : IVec S4096x1 32) (v760 : FVec F S4096x128 .bf16) (v761 : FVec F S4096x128 .bf16) (v762 : IVec S4096x1 1) (cst_182 : IVec S4096x1 1) : FVec F S4096x128 .bf16 :=
  (k0_pay63 v37 v760 v761 v762 cst_182)
theorem part16_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v760 : FVec F S4096x128 .bf16) (v761 : FVec F S4096x128 .bf16) (v762 : IVec S4096x1 1) (cst_182 : IVec S4096x1 1) :
    k0_part16 (F := F) arg0 harg0 arg1 harg1 arg2 harg2 arg3 arg4 arg5 arg6 v37 v760 v761 v762 cst_182 = pure (out16 v37 v760 v761 v762 cst_182) := by
  rw [k0_part16_eq_skeleton]; rfl

/-- What `k0_part17` computes. -/
def out17 (v808 : FVec F S4096x128 .bf16) : Σ' (v858 : FVec F S32x64x128 .bf16) (v859 : FVec F S32x64x128 .bf16) (v862 : IVec S32x1x1 32), BitVec 32 :=
  ⟨k0_pay67 v808, k0_pay68 v808, k0_pay69, 0#32⟩
theorem part17_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v808 : FVec F S4096x128 .bf16) :
    k0_part17 (F := F) arg0 harg0 arg1 harg1 arg2 harg2 arg3 arg4 arg5 arg6 v808 = pure (out17 v808) := by
  rw [k0_part17_eq_skeleton]; rfl

/-- What `k0_part18` computes. -/
def out18 (v858 : FVec F S32x64x128 .bf16) (v859 : FVec F S32x64x128 .bf16) (v862 : IVec S32x1x1 32) (c0_i32_202 : BitVec 32) : FVec F S4096x128 .bf16 :=
  (k0_pay70 v858 v859 v862 c0_i32_202)
theorem part18_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v858 : FVec F S32x64x128 .bf16) (v859 : FVec F S32x64x128 .bf16) (v862 : IVec S32x1x1 32) (c0_i32_202 : BitVec 32) :
    k0_part18 (F := F) arg0 harg0 arg1 harg1 arg2 harg2 arg3 arg4 arg5 arg6 v858 v859 v862 c0_i32_202 = pure (out18 v858 v859 v862 c0_i32_202) := by
  rw [k0_part18_eq_skeleton]; rfl

/-- What `k0_part19` computes. -/
def out19 (v37 : IVec S4096x1 32) (v918 : FVec F S4096x128 .bf16) : Σ' (v961 : FVec F S4096x128 .bf16) (v965 : IVec S4096x1 1) (v966 : IVec S4096x1 32), BitVec 32 :=
  have v966 : IVec S4096x1 32 := iota .tc S4096x1 32 [0] iota_S4096x1_d0_w32
  ⟨k0_pay71 v37 v918, k0_pay72 v37, v966, 2#32⟩
theorem part19_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v918 : FVec F S4096x128 .bf16) :
    k0_part19 (F := F) arg0 harg0 arg1 harg1 arg2 harg2 arg3 arg4 arg5 arg6 v37 v918 = pure (out19 v37 v918) := by
  rw [k0_part19_eq_skeleton]; rfl

/-- What `k0_part20` computes. -/
def out20 (v37 : IVec S4096x1 32) (v961 : FVec F S4096x128 .bf16) (v965 : IVec S4096x1 1) (v966 : IVec S4096x1 32) (c2_i32_217 : BitVec 32) : Σ' (v1009 : FVec F S4x512x128 .bf16) (v1010 : FVec F S4x512x128 .bf16) (v1013 : IVec S4x1x1 32), BitVec 32 :=
  ⟨k0_pay76 v37 v961 v965 v966 c2_i32_217, k0_pay77 v37 v961 v965 v966 c2_i32_217, k0_pay78, 0#32⟩
theorem part20_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v961 : FVec F S4096x128 .bf16) (v965 : IVec S4096x1 1) (v966 : IVec S4096x1 32) (c2_i32_217 : BitVec 32) :
    k0_part20 (F := F) arg0 harg0 arg1 harg1 arg2 harg2 arg3 arg4 arg5 arg6 v37 v961 v965 v966 c2_i32_217 = pure (out20 v37 v961 v965 v966 c2_i32_217) := by
  rw [k0_part20_eq_skeleton]; rfl

/-- What `k0_part21` computes. -/
def out21 (v1009 : FVec F S4x512x128 .bf16) (v1010 : FVec F S4x512x128 .bf16) (v1013 : IVec S4x1x1 32) (c0_i32_230 : BitVec 32) : FVec F S4096x128 .bf16 :=
  (k0_pay79 v1009 v1010 v1013 c0_i32_230)
theorem part21_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1009 : FVec F S4x512x128 .bf16) (v1010 : FVec F S4x512x128 .bf16) (v1013 : IVec S4x1x1 32) (c0_i32_230 : BitVec 32) :
    k0_part21 (F := F) arg0 harg0 arg1 harg1 arg2 harg2 arg3 arg4 arg5 arg6 v1009 v1010 v1013 c0_i32_230 = pure (out21 v1009 v1010 v1013 c0_i32_230) := by
  rw [k0_part21_eq_skeleton]; rfl

/-- What `k0_part22` computes. -/
def out22 (v1069 : FVec F S4096x128 .bf16) : Σ' (v1119 : FVec F S128x16x128 .bf16) (v1120 : FVec F S128x16x128 .bf16) (v1123 : IVec S128x1x1 32), BitVec 32 :=
  ⟨k0_pay83 v1069, k0_pay84 v1069, k0_pay85, 0#32⟩
theorem part22_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1069 : FVec F S4096x128 .bf16) :
    k0_part22 (F := F) arg0 harg0 arg1 harg1 arg2 harg2 arg3 arg4 arg5 arg6 v1069 = pure (out22 v1069) := by
  rw [k0_part22_eq_skeleton]; rfl

/-- What `k0_part23` computes. -/
def out23 (v37 : IVec S4096x1 32) (v1119 : FVec F S128x16x128 .bf16) (v1120 : FVec F S128x16x128 .bf16) (v1123 : IVec S128x1x1 32) (c0_i32_240 : BitVec 32) : Σ' (v1172 : FVec F S4096x128 .bf16) (v1173 : FVec F S4096x128 .bf16) (v1174 : IVec S4096x1 1), IVec S4096x1 1 :=
  have cst_248 : IVec S4096x1 1 := constantI S4096x1 1 1#1
  ⟨k0_pay89 v1119 v1120 v1123 c0_i32_240, k0_pay90 v1119 v1120 v1123 c0_i32_240, k0_pay91 v37, cst_248⟩
theorem part23_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v1119 : FVec F S128x16x128 .bf16) (v1120 : FVec F S128x16x128 .bf16) (v1123 : IVec S128x1x1 32) (c0_i32_240 : BitVec 32) :
    k0_part23 (F := F) arg0 harg0 arg1 harg1 arg2 harg2 arg3 arg4 arg5 arg6 v37 v1119 v1120 v1123 c0_i32_240 = pure (out23 v37 v1119 v1120 v1123 c0_i32_240) := by
  rw [k0_part23_eq_skeleton]; rfl

/-- What `k0_part24` computes. -/
def out24 (v37 : IVec S4096x1 32) (v1172 : FVec F S4096x128 .bf16) (v1173 : FVec F S4096x128 .bf16) (v1174 : IVec S4096x1 1) (cst_248 : IVec S4096x1 1) : FVec F S4096x128 .bf16 :=
  (k0_pay92 v37 v1172 v1173 v1174 cst_248)
theorem part24_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v1172 : FVec F S4096x128 .bf16) (v1173 : FVec F S4096x128 .bf16) (v1174 : IVec S4096x1 1) (cst_248 : IVec S4096x1 1) :
    k0_part24 (F := F) arg0 harg0 arg1 harg1 arg2 harg2 arg3 arg4 arg5 arg6 v37 v1172 v1173 v1174 cst_248 = pure (out24 v37 v1172 v1173 v1174 cst_248) := by
  rw [k0_part24_eq_skeleton]; rfl

/-- What `k0_part25` computes. -/
def out25 (v1220 : FVec F S4096x128 .bf16) : Σ' (v1270 : FVec F S8x256x128 .bf16) (v1271 : FVec F S8x256x128 .bf16) (v1274 : IVec S8x1x1 32), BitVec 32 :=
  ⟨k0_pay96 v1220, k0_pay97 v1220, k0_pay98, 0#32⟩
theorem part25_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1220 : FVec F S4096x128 .bf16) :
    k0_part25 (F := F) arg0 harg0 arg1 harg1 arg2 harg2 arg3 arg4 arg5 arg6 v1220 = pure (out25 v1220) := by
  rw [k0_part25_eq_skeleton]; rfl

/-- What `k0_part26` computes. -/
def out26 (v1270 : FVec F S8x256x128 .bf16) (v1271 : FVec F S8x256x128 .bf16) (v1274 : IVec S8x1x1 32) (c0_i32_268 : BitVec 32) : FVec F S4096x128 .bf16 :=
  (k0_pay99 v1270 v1271 v1274 c0_i32_268)
theorem part26_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1270 : FVec F S8x256x128 .bf16) (v1271 : FVec F S8x256x128 .bf16) (v1274 : IVec S8x1x1 32) (c0_i32_268 : BitVec 32) :
    k0_part26 (F := F) arg0 harg0 arg1 harg1 arg2 harg2 arg3 arg4 arg5 arg6 v1270 v1271 v1274 c0_i32_268 = pure (out26 v1270 v1271 v1274 c0_i32_268) := by
  rw [k0_part26_eq_skeleton]; rfl

/-- What `k0_part27` computes. -/
def out27 (v1330 : FVec F S4096x128 .bf16) : Σ' (v1380 : FVec F S256x8x128 .bf16) (v1381 : FVec F S256x8x128 .bf16) (v1384 : IVec S256x1x1 32), BitVec 32 :=
  ⟨k0_pay103 v1330, k0_pay104 v1330, k0_pay105, 0#32⟩
theorem part27_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1330 : FVec F S4096x128 .bf16) :
    k0_part27 (F := F) arg0 harg0 arg1 harg1 arg2 harg2 arg3 arg4 arg5 arg6 v1330 = pure (out27 v1330) := by
  rw [k0_part27_eq_skeleton]; rfl

/-- What `k0_part28` computes. -/
def out28 (v37 : IVec S4096x1 32) (v1380 : FVec F S256x8x128 .bf16) (v1381 : FVec F S256x8x128 .bf16) (v1384 : IVec S256x1x1 32) (c0_i32_278 : BitVec 32) : Σ' (v1417 : FVec F S4096x128 .bf16) (v1421 : IVec S4096x1 1) (v1426 : IVec S4096x1 1), FVec F S4096x128 .bf16 :=
  ⟨k0_pay106 v37 v1380 v1381 v1384 c0_i32_278, k0_pay107 v37, k0_pay108, k0_pay109 v37 v1380 v1381 v1384 c0_i32_278⟩
theorem part28_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v1380 : FVec F S256x8x128 .bf16) (v1381 : FVec F S256x8x128 .bf16) (v1384 : IVec S256x1x1 32) (c0_i32_278 : BitVec 32) :
    k0_part28 (F := F) arg0 harg0 arg1 harg1 arg2 harg2 arg3 arg4 arg5 arg6 v37 v1380 v1381 v1384 c0_i32_278 = pure (out28 v37 v1380 v1381 v1384 c0_i32_278) := by
  rw [k0_part28_eq_skeleton]; rfl

/-- What `k0_part29` computes. -/
def out29 (v37 : IVec S4096x1 32) (v1417 : FVec F S4096x128 .bf16) (v1421 : IVec S4096x1 1) (v1426 : IVec S4096x1 1) (v1431 : FVec F S4096x128 .bf16) : FVec F S4096x128 .bf16 :=
  (k0_pay110 v37 v1417 v1421 v1426 v1431)
theorem part29_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v1417 : FVec F S4096x128 .bf16) (v1421 : IVec S4096x1 1) (v1426 : IVec S4096x1 1) (v1431 : FVec F S4096x128 .bf16) :
    k0_part29 (F := F) arg0 harg0 arg1 harg1 arg2 harg2 arg3 arg4 arg5 arg6 v37 v1417 v1421 v1426 v1431 = pure (out29 v37 v1417 v1421 v1426 v1431) := by
  rw [k0_part29_eq_skeleton]; rfl

/-- What `k0_part30` computes. -/
def out30 (v1481 : FVec F S4096x128 .bf16) : Σ' (v1531 : FVec F S8x256x128 .bf16) (v1532 : FVec F S8x256x128 .bf16) (v1535 : IVec S8x1x1 32), BitVec 32 :=
  ⟨k0_pay114 v1481, k0_pay115 v1481, k0_pay116, 0#32⟩
theorem part30_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1481 : FVec F S4096x128 .bf16) :
    k0_part30 (F := F) arg0 harg0 arg1 harg1 arg2 harg2 arg3 arg4 arg5 arg6 v1481 = pure (out30 v1481) := by
  rw [k0_part30_eq_skeleton]; rfl

/-- What `k0_part31` computes. -/
def out31 (v1531 : FVec F S8x256x128 .bf16) (v1532 : FVec F S8x256x128 .bf16) (v1535 : IVec S8x1x1 32) (c0_i32_306 : BitVec 32) : FVec F S4096x128 .bf16 :=
  (k0_pay117 v1531 v1532 v1535 c0_i32_306)
theorem part31_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1531 : FVec F S8x256x128 .bf16) (v1532 : FVec F S8x256x128 .bf16) (v1535 : IVec S8x1x1 32) (c0_i32_306 : BitVec 32) :
    k0_part31 (F := F) arg0 harg0 arg1 harg1 arg2 harg2 arg3 arg4 arg5 arg6 v1531 v1532 v1535 c0_i32_306 = pure (out31 v1531 v1532 v1535 c0_i32_306) := by
  rw [k0_part31_eq_skeleton]; rfl

/-- What `k0_part32` computes. -/
def out32 (v1591 : FVec F S4096x128 .bf16) : Σ' (v1641 : FVec F S256x8x128 .bf16) (v1642 : FVec F S256x8x128 .bf16) (v1645 : IVec S256x1x1 32), BitVec 32 :=
  ⟨k0_pay121 v1591, k0_pay122 v1591, k0_pay123, 0#32⟩
theorem part32_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v1591 : FVec F S4096x128 .bf16) :
    k0_part32 (F := F) arg0 harg0 arg1 harg1 arg2 harg2 arg3 arg4 arg5 arg6 v1591 = pure (out32 v1591) := by
  rw [k0_part32_eq_skeleton]; rfl

/-- What `k0_part33` computes. -/
def out33 (v37 : IVec S4096x1 32) (v1641 : FVec F S256x8x128 .bf16) (v1642 : FVec F S256x8x128 .bf16) (v1645 : IVec S256x1x1 32) (c0_i32_316 : BitVec 32) : Σ' (v1678 : FVec F S4096x128 .bf16) (v1682 : IVec S4096x1 1) (v1687 : IVec S4096x1 1), FVec F S4096x128 .bf16 :=
  ⟨k0_pay124 v37 v1641 v1642 v1645 c0_i32_316, k0_pay125 v37, k0_pay126, k0_pay127 v37 v1641 v1642 v1645 c0_i32_316⟩
theorem part33_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v37 : IVec S4096x1 32) (v1641 : FVec F S256x8x128 .bf16) (v1642 : FVec F S256x8x128 .bf16) (v1645 : IVec S256x1x1 32) (c0_i32_316 : BitVec 32) :
    k0_part33 (F := F) arg0 harg0 arg1 harg1 arg2 harg2 arg3 arg4 arg5 arg6 v37 v1641 v1642 v1645 c0_i32_316 = pure (out33 v37 v1641 v1642 v1645 c0_i32_316) := by
  rw [k0_part33_eq_skeleton]; rfl

/-- What `k0_part37` computes. -/
def out37 (v398 : FVec F S4x512x128 .bf16) (v399 : FVec F S4x1x512x128 .bf16) : Σ' (v458 : FVec F S128x1x16x128 .bf16), FVec F S128x1x16x128 .bf16 :=
  ⟨k0_pay140 v398 v399, k0_pay141 v398 v399⟩
theorem part37_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v398 : FVec F S4x512x128 .bf16) (v399 : FVec F S4x1x512x128 .bf16) :
    k0_part37 (F := F) arg0 harg0 arg1 harg1 arg2 harg2 arg3 arg4 arg5 arg6 v398 v399 = pure (out37 v398 v399) := by
  rw [k0_part37_eq_skeleton]; rfl

/-- What `k0_part38` computes. -/
def out38 (v458 : FVec F S128x1x16x128 .bf16) (v459 : FVec F S128x1x16x128 .bf16) : Σ' (v501 : FVec F S4096x128 .bf16) (v502 : FVec F S4096x128 .bf16), IVec S4096x128 1 :=
  ⟨k0_pay145 v458 v459, k0_pay146 v458 v459, k0_pay147⟩
theorem part38_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v458 : FVec F S128x1x16x128 .bf16) (v459 : FVec F S128x1x16x128 .bf16) :
    k0_part38 (F := F) arg0 harg0 arg1 harg1 arg2 harg2 arg3 arg4 arg5 arg6 v458 v459 = pure (out38 v458 v459) := by
  rw [k0_part38_eq_skeleton]; rfl

/-- What `k0_part41` computes. -/
def out41 (v139 : FVec F S2x1024x128 .bf16) (v141 : FVec F S2x1024x128 .bf16) : FVec F S64x2x32x128 .bf16 :=
  (k0_pay152 v139 v141)
theorem part41_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v139 : FVec F S2x1024x128 .bf16) (v141 : FVec F S2x1024x128 .bf16) :
    k0_part41 (F := F) arg0 harg0 arg1 harg1 arg2 harg2 arg3 arg4 arg5 arg6 v139 v141 = pure (out41 v139 v141) := by
  rw [k0_part41_eq_skeleton]; rfl

/-- What `k0_part42` computes. -/
def out42 (v201 : FVec F S64x2x32x128 .bf16) : Σ' (v242 : FVec F S4096x128 .bf16) (v247 : IVec S4096x1 1) (v248 : FVec F S4096x128 .bf16) (v249 : FVec F S4096x128 .bf16), IVec S4096x128 1 :=
  ⟨k0_pay153 v201, k0_pay154, k0_pay155 v201, k0_pay156 v201, k0_pay157⟩
theorem part42_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v201 : FVec F S64x2x32x128 .bf16) :
    k0_part42 (F := F) arg0 harg0 arg1 harg1 arg2 harg2 arg3 arg4 arg5 arg6 v201 = pure (out42 v201) := by
  rw [k0_part42_eq_skeleton]; rfl

/-- What `k0_part45` computes. -/
def out45 (v83 : FVec F S16x128x128 .bf16) (v85 : FVec F S16x128x128 .bf16) : Σ' (v135 : FVec F S4096x128 .bf16) (v140 : IVec S4096x1 1) (v141 : FVec F S4096x128 .bf16), BitVec 32 :=
  ⟨k0_pay161 v83 v85, k0_pay162, k0_pay163 v83 v85, 4#32⟩
theorem part45_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v83 : FVec F S16x128x128 .bf16) (v85 : FVec F S16x128x128 .bf16) :
    k0_part45 (F := F) arg0 harg0 arg1 harg1 arg2 harg2 arg3 arg4 arg5 arg6 v83 v85 = pure (out45 v83 v85) := by
  rw [k0_part45_eq_skeleton]; rfl

/-- What `k0_part46` computes. -/
def out46 (v135 : FVec F S4096x128 .bf16) (v140 : IVec S4096x1 1) (v141 : FVec F S4096x128 .bf16) (c4_i32_28 : BitVec 32) : Σ' (v182 : FVec F S4096x128 .bf16) (v183 : FVec F S4096x128 .bf16), IVec S4096x1 1 :=
  ⟨k0_pay167 v135 v140 v141 c4_i32_28, k0_pay168 v135 v140 v141 c4_i32_28, k0_pay169⟩
theorem part46_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v135 : FVec F S4096x128 .bf16) (v140 : IVec S4096x1 1) (v141 : FVec F S4096x128 .bf16) (c4_i32_28 : BitVec 32) :
    k0_part46 (F := F) arg0 harg0 arg1 harg1 arg2 harg2 arg3 arg4 arg5 arg6 v135 v140 v141 c4_i32_28 = pure (out46 v135 v140 v141 c4_i32_28) := by
  rw [k0_part46_eq_skeleton]; rfl

/-- What `k0_part34` computes from the loaded chunk. -/
def out34 (v13 : BitVec 1) (c0_i32_16 : BitVec 32) (c1_i32_17 : BitVec 32) (k0_t1 : Fin k0_t1_loop.trips) (v32 : Vec F S4096x128 .bf16) :
    Σ' (v30 : BitVec 32) (v1699 : FVec F S4096x128 .bf16) (v1703 : IVec S4096x1 1) (v1708 : IVec S4096x1 1) (v1709 : FVec F S4096x128 .bf16) (v1710 : FVec F S4096x128 .bf16), IVec S4096x128 1 :=
  let arg7 : BitVec 32 := Scf.iv c0_i32_16 c1_i32_17 k0_t1
  let v30 : BitVec 32 := Scalar.muli arg7 128#32
  have v37 : IVec S4096x1 32 := iota .tc S4096x1 32 [0] iota_S4096x1_d0_w32
  let v58 := k0_pay3 v13 v32
  let v62 := k0_pay4
  let v67 := k0_pay5
  let v72 := k0_pay6 v13 v32
  let ⟨v115, v116, v117, cst_50⟩ : Σ' (v115 : FVec F S4096x128 .bf16) (v116 : FVec F S4096x128 .bf16) (v117 : IVec S4096x1 1), IVec S4096x1 1 := out2 v37 v58 v62 v67 v72
  let v163 : FVec F S4096x128 .bf16 := out3 v37 v115 v116 v117 cst_50
  let ⟨v206, v210, v211, c2_i32_76⟩ : Σ' (v206 : FVec F S4096x128 .bf16) (v210 : IVec S4096x1 1) (v211 : IVec S4096x1 32), BitVec 32 := out4 v37 v163
  let ⟨v254, v255, v258, c0_i32_89⟩ : Σ' (v254 : FVec F S128x16x128 .bf16) (v255 : FVec F S128x16x128 .bf16) (v258 : IVec S128x1x1 32), BitVec 32 := out5 v37 v206 v210 v211 c2_i32_76
  let ⟨v307, v308, v309, cst_97⟩ : Σ' (v307 : FVec F S4096x128 .bf16) (v308 : FVec F S4096x128 .bf16) (v309 : IVec S4096x1 1), IVec S4096x1 1 := out6 v37 v254 v255 v258 c0_i32_89
  let v355 : FVec F S4096x128 .bf16 := out7 v37 v307 v308 v309 cst_97
  let ⟨v405, v406, v409, c0_i32_117⟩ : Σ' (v405 : FVec F S256x8x128 .bf16) (v406 : FVec F S256x8x128 .bf16) (v409 : IVec S256x1x1 32), BitVec 32 := out8 v355
  let ⟨v442, v446, v451, v456⟩ : Σ' (v442 : FVec F S4096x128 .bf16) (v446 : IVec S4096x1 1) (v451 : IVec S4096x1 1), FVec F S4096x128 .bf16 := out9 v37 v405 v406 v409 c0_i32_117
  let v506 : FVec F S4096x128 .bf16 := out10 v37 v442 v446 v451 v456
  let ⟨v556, v557, v560, c0_i32_145⟩ : Σ' (v556 : FVec F S256x8x128 .bf16) (v557 : FVec F S256x8x128 .bf16) (v560 : IVec S256x1x1 32), BitVec 32 := out11 v506
  let ⟨v593, v597, v602, v607⟩ : Σ' (v593 : FVec F S4096x128 .bf16) (v597 : IVec S4096x1 1) (v602 : IVec S4096x1 1), FVec F S4096x128 .bf16 := out12 v37 v556 v557 v560 c0_i32_145
  let v657 : FVec F S4096x128 .bf16 := out13 v37 v593 v597 v602 v607
  let ⟨v707, v708, v711, c0_i32_174⟩ : Σ' (v707 : FVec F S128x16x128 .bf16) (v708 : FVec F S128x16x128 .bf16) (v711 : IVec S128x1x1 32), BitVec 32 := out14 v657
  let ⟨v760, v761, v762, cst_182⟩ : Σ' (v760 : FVec F S4096x128 .bf16) (v761 : FVec F S4096x128 .bf16) (v762 : IVec S4096x1 1), IVec S4096x1 1 := out15 v37 v707 v708 v711 c0_i32_174
  let v808 : FVec F S4096x128 .bf16 := out16 v37 v760 v761 v762 cst_182
  let ⟨v858, v859, v862, c0_i32_202⟩ : Σ' (v858 : FVec F S32x64x128 .bf16) (v859 : FVec F S32x64x128 .bf16) (v862 : IVec S32x1x1 32), BitVec 32 := out17 v808
  let v918 : FVec F S4096x128 .bf16 := out18 v858 v859 v862 c0_i32_202
  let ⟨v961, v965, v966, c2_i32_217⟩ : Σ' (v961 : FVec F S4096x128 .bf16) (v965 : IVec S4096x1 1) (v966 : IVec S4096x1 32), BitVec 32 := out19 v37 v918
  let ⟨v1009, v1010, v1013, c0_i32_230⟩ : Σ' (v1009 : FVec F S4x512x128 .bf16) (v1010 : FVec F S4x512x128 .bf16) (v1013 : IVec S4x1x1 32), BitVec 32 := out20 v37 v961 v965 v966 c2_i32_217
  let v1069 : FVec F S4096x128 .bf16 := out21 v1009 v1010 v1013 c0_i32_230
  let ⟨v1119, v1120, v1123, c0_i32_240⟩ : Σ' (v1119 : FVec F S128x16x128 .bf16) (v1120 : FVec F S128x16x128 .bf16) (v1123 : IVec S128x1x1 32), BitVec 32 := out22 v1069
  let ⟨v1172, v1173, v1174, cst_248⟩ : Σ' (v1172 : FVec F S4096x128 .bf16) (v1173 : FVec F S4096x128 .bf16) (v1174 : IVec S4096x1 1), IVec S4096x1 1 := out23 v37 v1119 v1120 v1123 c0_i32_240
  let v1220 : FVec F S4096x128 .bf16 := out24 v37 v1172 v1173 v1174 cst_248
  let ⟨v1270, v1271, v1274, c0_i32_268⟩ : Σ' (v1270 : FVec F S8x256x128 .bf16) (v1271 : FVec F S8x256x128 .bf16) (v1274 : IVec S8x1x1 32), BitVec 32 := out25 v1220
  let v1330 : FVec F S4096x128 .bf16 := out26 v1270 v1271 v1274 c0_i32_268
  let ⟨v1380, v1381, v1384, c0_i32_278⟩ : Σ' (v1380 : FVec F S256x8x128 .bf16) (v1381 : FVec F S256x8x128 .bf16) (v1384 : IVec S256x1x1 32), BitVec 32 := out27 v1330
  let ⟨v1417, v1421, v1426, v1431⟩ : Σ' (v1417 : FVec F S4096x128 .bf16) (v1421 : IVec S4096x1 1) (v1426 : IVec S4096x1 1), FVec F S4096x128 .bf16 := out28 v37 v1380 v1381 v1384 c0_i32_278
  let v1481 : FVec F S4096x128 .bf16 := out29 v37 v1417 v1421 v1426 v1431
  let ⟨v1531, v1532, v1535, c0_i32_306⟩ : Σ' (v1531 : FVec F S8x256x128 .bf16) (v1532 : FVec F S8x256x128 .bf16) (v1535 : IVec S8x1x1 32), BitVec 32 := out30 v1481
  let v1591 : FVec F S4096x128 .bf16 := out31 v1531 v1532 v1535 c0_i32_306
  let ⟨v1641, v1642, v1645, c0_i32_316⟩ : Σ' (v1641 : FVec F S256x8x128 .bf16) (v1642 : FVec F S256x8x128 .bf16) (v1645 : IVec S256x1x1 32), BitVec 32 := out32 v1591
  let ⟨v1678, v1682, v1687, v1692⟩ : Σ' (v1678 : FVec F S4096x128 .bf16) (v1682 : IVec S4096x1 1) (v1687 : IVec S4096x1 1), FVec F S4096x128 .bf16 := out33 v37 v1641 v1642 v1645 c0_i32_316
  ⟨v30, k0_pay128 v1678 v1682 v1687 v1692, k0_pay129 v37, k0_pay130, k0_pay131 v1678 v1682 v1687 v1692, k0_pay132 v1678 v1682 v1687 v1692, k0_pay133⟩
set_option maxRecDepth 65536 in
theorem part34_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v13 : BitVec 1) (c0_i32_16 : BitVec 32) (c1_i32_17 : BitVec 32) (k0_t1 : Fin k0_t1_loop.trips) :
    k0_part34 (F := F) arg0 harg0 arg1 harg1 arg2 harg2 arg3 arg4 arg5 arg6 v13 c0_i32_16 c1_i32_17 k0_t1 = (Prog.lift (.load arg0 (Rect.unit (s := S4096x1024) (k0_off1 k0_t1) S4096x128.size (k0_off1_inb k0_t1)).toLoadRect (View.loadsAt_vmem h_S4096x128)) >>= fun v32 => pure (out34 v13 c0_i32_16 c1_i32_17 k0_t1 v32)) := by
  rw [k0_part34_eq_skeleton]; unfold k0_part34_skel
  simp only [k0_part1_eq_skeleton, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq]
  rfl

/-- The sorted chunk: what the first loop stores. -/
def sortV (v13 : BitVec 1) (x : Vec F S4096x128 .bf16) : Vec F S4096x128 .bf16 :=
  match out34 v13 0#32 1#32 ⟨0, by decide⟩ x with
  | ⟨_, v1699, v1703, v1708, v1709, v1710, v1712⟩ => k0_pay170 v1699 v1703 v1708 v1709 v1710 v1712

/-- The merged chunk: what a consumed landing leaves, from the landed slot `r` and the chunk `x`. -/
def consV (v60 : BitVec 1) (r : Vec F S1x4096x128 .bf16) (x : Vec F S4096x128 .bf16) : Vec F S4096x128 .bf16 :=
  match out37 (k0_pay135 v60 r x) (k0_pay136 v60 r x) with
  | ⟨v458, v459⟩ => match out38 v458 v459 with
    | ⟨v501, v502, v507⟩ => k0_pay148 v501 v502 v507

/-- The same for the last chunk of a phase, as the body prints it there. -/
def consLastV (v60 : BitVec 1) (r : Vec F S1x4096x128 .bf16) (x : Vec F S4096x128 .bf16) : Vec F S4096x128 .bf16 :=
  match out42 (out41 (k0_pay150 v60 r x) (k0_pay151 v60 r x)) with
  | ⟨v242, v247, v248, v249, v251⟩ => k0_pay1 v242 v247 v248 v249 v251

/-- The last pass over a chunk. -/
def finV (v13 : BitVec 1) (x : Vec F S4096x128 .bf16) : Vec F S4096x128 .bf16 :=
  match out45 (k0_pay159 v13 x) (k0_pay160 v13 x) with
  | ⟨v135, v140, v141, c4⟩ => match out46 v135 v140 v141 c4 with
    | ⟨v182, v183, v187⟩ => k0_pay2 v182 v183 v187

set_option maxRecDepth 65536 in
/-- The two printings of the merge are one function. -/
theorem consLastV_eq (v60 : BitVec 1) (r : Vec F S1x4096x128 .bf16) (x : Vec F S4096x128 .bf16) : consLastV v60 r x = consV v60 r x := rfl

end Cert.KernelIdeal.Sort

end
-- ==== Proof.Ideal.Words.lean ====
/- The words of the printed body in the proof's terms: which phases a device takes part in, whom it addresses, which
   chunk, slot and semaphore each access names. Each is decided over the sixteen devices, the phases and the chunks. -/
module

public import proofs.«01_k».proof.Proof.Ideal.Common
public import proofs.«01_k».proof.Proof.Ideal.Value

@[expose] public section

noncomputable section

namespace Cert.KernelIdeal.Sort

open Cert.KernelIdeal Cert.KernelIdeal.Gen SortK
open Idealize.ShloMosaic Idealize.ShloMosaic.TcCoe

variable {F : FTy → Type} [FloatOps F]

/-- The scalars of a phase, as the body computes them. -/
def out43 (v2 : BitVec 32) (v13 : BitVec 1) (v16 : BitVec 1) (c0_i32_19 : BitVec 32) (c1_i32_21 : BitVec 32) (k0_t2 : Fin k0_t2_loop.trips) :
    Σ' (arg7 : BitVec 32) (v56 : BitVec 32) (v60 : BitVec 1) (v63 : BitVec 32) (v66 : BitVec 1), BitVec 32 :=
  let arg7 : BitVec 32 := Scf.iv c0_i32_19 c1_i32_21 k0_t2
  let v30 : BitVec 1 := Scalar.cmpi .eq 2#32 0#32
  let v31 : BitVec 32 := Scalar.select v30 1#32 2#32
  let v32 : BitVec 32 := Scalar.remsi arg7 v31
  let v33 : BitVec 1 := Scalar.cmpi .ne v32 0#32
  let v34 : BitVec 1 := Scalar.cmpi .slt v32 0#32
  let v35 : BitVec 1 := Scalar.cmpi .slt v31 0#32
  let v36 : BitVec 1 := Scalar.xori v34 v35
  let v37 : BitVec 1 := Scalar.andi v36 v33
  let v38 : BitVec 32 := Scalar.addi v32 v31
  let v39 : BitVec 32 := Scalar.select v37 v38 v32
  let v40 : BitVec 1 := Scalar.cmpi .eq v39 0#32
  let v41 : BitVec 32 := Scalar.xori v2 1#32
  let v42 : BitVec 1 := Scalar.cmpi .eq 2#32 0#32
  let v43 : BitVec 32 := Scalar.select v42 1#32 2#32
  let v44 : BitVec 32 := Scalar.remsi v2 v43
  let v45 : BitVec 1 := Scalar.cmpi .ne v44 0#32
  let v46 : BitVec 1 := Scalar.cmpi .slt v44 0#32
  let v47 : BitVec 1 := Scalar.cmpi .slt v43 0#32
  let v48 : BitVec 1 := Scalar.xori v46 v47
  let v49 : BitVec 1 := Scalar.andi v48 v45
  let v50 : BitVec 32 := Scalar.addi v44 v43
  let v51 : BitVec 32 := Scalar.select v49 v50 v44
  let v52 : BitVec 1 := Scalar.cmpi .eq v51 0#32
  let v53 : BitVec 32 := Scalar.subi v2 1#32
  let v54 : BitVec 32 := Scalar.addi v2 1#32
  let v55 : BitVec 32 := Scalar.select v52 v53 v54
  let v56 : BitVec 32 := Scalar.select v40 v41 v55
  let v57 : BitVec 1 := Scalar.xori v16 1#1
  let v58 : BitVec 1 := Scalar.ori v40 v57
  let v59 : BitVec 1 := Scalar.cmpi .slt v2 v56
  let v60 : BitVec 1 := Scalar.xori v59 v13
  let v61 : BitVec 32 := Scalar.muli 2#32 v2
  let v62 : BitVec 32 := Scalar.subi v61 v56
  let v63 : BitVec 32 := Scalar.select v16 v56 v62
  let v64 : BitVec 1 := Scalar.cmpi .sle arg7 13#32
  let v65 : BitVec 1 := Scalar.cmpi .sle arg7 14#32
  let v66 : BitVec 1 := Scalar.select v16 v64 v65
  let v67 : BitVec 32 := Scalar.extui v58
  ⟨arg7, v56, v60, v63, v66, v67⟩
theorem part43_eq (arg0 : Memref sig .tc .vmem S4096x1024 .bf16) (harg0 : arg0.IsWhole) (arg1 : Memref sig .tc .vmem S4096x1024 .bf16) (harg1 : arg1.IsWhole) (arg2 : Memref sig .tc .vmem S2x4096x128 .bf16) (harg2 : arg2.IsWhole) (arg3 : DmaSems sig S2) (arg4 : DmaSems sig S2) (arg5 : Sems sig S_) (arg6 : Sems sig S2) (v2 : BitVec 32) (v13 : BitVec 1) (v16 : BitVec 1) (c0_i32_19 : BitVec 32) (c1_i32_21 : BitVec 32) (k0_t2 : Fin k0_t2_loop.trips) :
    k0_part43 (F := F) arg0 harg0 arg1 harg1 arg2 harg2 arg3 arg4 arg5 arg6 v2 v13 v16 c0_i32_19 c1_i32_21 k0_t2 = pure (out43 v2 v13 v16 c0_i32_19 c1_i32_21 k0_t2) := by
  rw [k0_part43_eq_skeleton]; rfl

/-- The device's number, as the body computes it, -/
def wMy (d0 : Dev nD) : BitVec 32 :=
  let v0 : BitVec 32 := Dev.word d0
  let v1 : BitVec 32 := Scalar.divsi v0 1#32
  let v2 : BitVec 32 := Scalar.remsi v1 16#32
  v2
/-- whether it is odd, -/
def wOdd (d0 : Dev nD) : BitVec 1 :=
  let v0 : BitVec 32 := Dev.word d0
  let v1 : BitVec 32 := Scalar.divsi v0 1#32
  let v2 : BitVec 32 := Scalar.remsi v1 16#32
  let v3 : BitVec 1 := Scalar.cmpi .eq 2#32 0#32
  let v4 : BitVec 32 := Scalar.select v3 1#32 2#32
  let v5 : BitVec 32 := Scalar.remsi v2 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 1#32
  v13
/-- whether it is an end of the line. -/
def wEdge (d0 : Dev nD) : BitVec 1 :=
  let v0 : BitVec 32 := Dev.word d0
  let v1 : BitVec 32 := Scalar.divsi v0 1#32
  let v2 : BitVec 32 := Scalar.remsi v1 16#32
  let v3 : BitVec 1 := Scalar.cmpi .eq 2#32 0#32
  let v4 : BitVec 32 := Scalar.select v3 1#32 2#32
  let v5 : BitVec 32 := Scalar.remsi v2 v4
  let v6 : BitVec 1 := Scalar.cmpi .ne v5 0#32
  let v7 : BitVec 1 := Scalar.cmpi .slt v5 0#32
  let v8 : BitVec 1 := Scalar.cmpi .slt v4 0#32
  let v9 : BitVec 1 := Scalar.xori v7 v8
  let v10 : BitVec 1 := Scalar.andi v9 v6
  let v11 : BitVec 32 := Scalar.addi v5 v4
  let v12 : BitVec 32 := Scalar.select v10 v11 v5
  let v13 : BitVec 1 := Scalar.cmpi .eq v12 1#32
  let v14 : BitVec 1 := Scalar.cmpi .eq v2 0#32
  let v15 : BitVec 1 := Scalar.cmpi .eq v2 15#32
  let v16 : BitVec 1 := Scalar.ori v14 v15
  v16

/-- A device's parity as a word, -/
def od (d : Dv) : BitVec 1 := if d.val % 2 = 1 then 1#1 else 0#1
/-- and whether it keeps the smaller stored values in phase `p`. -/
def tm (p : ℕ) (d : Dv) : BitVec 1 := if (decide (d < partner p d)) = (decide (d.val % 2 = 1)) then 0#1 else 1#1

theorem wOdd_eq : ∀ d : Dev nD, wOdd d = od d := by decide +kernel
theorem tm_eq' : ∀ (d : Dev nD) (p : Fin k0_t2_loop.trips), active p.val d = true →
    (out43 (wMy d) (wOdd d) (wEdge d) 0#32 1#32 p).2.2.1 = tm p.val d := by decide +kernel

theorem dev1_eq (d : Dev nD) (h : k0_dev1 d < nD) : (⟨k0_dev1 d, h⟩ : Dev nD) = partner 0 d :=
  Fin.ext ((by decide +kernel : ∀ d : Dev nD, k0_dev1 d = (partner 0 d).val) d)
theorem dev2_eq (d : Dev nD) (h : k0_dev2 d < nD) : (⟨k0_dev2 d, h⟩ : Dev nD) = partner 0 d :=
  Fin.ext ((by decide +kernel : ∀ d : Dev nD, k0_dev2 d = (partner 0 d).val) d)

section
variable (d : Dev nD) (p : Fin k0_t2_loop.trips)

theorem cond1_iff : k0_cond1 d p = 1#1 ↔ active p.val d = true :=
  (by decide +kernel : ∀ (d : Dev nD) (p : Fin k0_t2_loop.trips), k0_cond1 d p = 1#1 ↔ active p.val d = true) d p
theorem cond8_iff : k0_cond8 d p = 1#1 ↔ nextP d p.val < 16 :=
  (by decide +kernel : ∀ (d : Dev nD) (p : Fin k0_t2_loop.trips), k0_cond8 d p = 1#1 ↔ nextP d p.val < 16) d p

theorem dev3_eq (h : k0_dev3 d p < nD) (ha : active p.val d = true) : (⟨k0_dev3 d p, h⟩ : Dev nD) = partner p.val d :=
  Fin.ext ((by decide +kernel : ∀ (d : Dev nD) (p : Fin k0_t2_loop.trips), active p.val d = true → k0_dev3 d p = (partner p.val d).val) d p ha)
theorem dev4_eq (h : k0_dev4 d p < nD) (ha : active p.val d = true) : (⟨k0_dev4 d p, h⟩ : Dev nD) = partner p.val d :=
  Fin.ext ((by decide +kernel : ∀ (d : Dev nD) (p : Fin k0_t2_loop.trips), active p.val d = true → k0_dev4 d p = (partner p.val d).val) d p ha)
theorem dev5_eq (h : k0_dev5 d p < nD) (ha : active p.val d = true) (hn : nextP d p.val < 16) :
    (⟨k0_dev5 d p, h⟩ : Dev nD) = partner (nextP d p.val) d :=
  Fin.ext ((by decide +kernel : ∀ (d : Dev nD) (p : Fin k0_t2_loop.trips), active p.val d = true → nextP d p.val < 16 →
    k0_dev5 d p = (partner (nextP d p.val) d).val) d p ha hn)
theorem dev7_eq (h : k0_dev7 d p < nD) (ha : active p.val d = true) (hn : nextP d p.val < 16) :
    (⟨k0_dev7 d p, h⟩ : Dev nD) = partner (nextP d p.val) d :=
  Fin.ext ((by decide +kernel : ∀ (d : Dev nD) (p : Fin k0_t2_loop.trips), active p.val d = true → nextP d p.val < 16 →
    k0_dev7 d p = (partner (nextP d p.val) d).val) d p ha hn)

theorem off2_eq : k0_off2 p = offP p.val :=
  (by decide +kernel : ∀ p : Fin k0_t2_loop.trips, k0_off2 p = offP p.val) p
theorem off11_eq : k0_off11 d p = offP (nextP d p.val) :=
  (by decide +kernel : ∀ (d : Dev nD) (p : Fin k0_t2_loop.trips), k0_off11 d p = offP (nextP d p.val)) d p
theorem off17_eq : k0_off17 d p = offP (nextP d p.val) :=
  (by decide +kernel : ∀ (d : Dev nD) (p : Fin k0_t2_loop.trips), k0_off17 d p = offP (nextP d p.val)) d p
end

section
variable (c : Fin k0_t3_loop.trips)

theorem cond2_iff : Scalar.cmpi .ne (Scalar.extui (Scalar.cmpi .sge (Scf.iv (0#32) (1#32) c.val) 2#32) : BitVec 32) 0#32 = 1#1 ↔ 2 ≤ c.val :=
  (by decide +kernel : ∀ c : Fin k0_t3_loop.trips,
    Scalar.cmpi .ne (Scalar.extui (Scalar.cmpi .sge (Scf.iv (0#32) (1#32) c.val) 2#32) : BitVec 32) 0#32 = 1#1 ↔ 2 ≤ c.val) c
theorem cond3_iff : k0_cond3 c = 1#1 ↔ c.val < 2 :=
  (by decide +kernel : ∀ c : Fin k0_t3_loop.trips, k0_cond3 c = 1#1 ↔ c.val < 2) c
theorem cond4_iff : k0_cond4 c = 1#1 ↔ 1 ≤ c.val :=
  (by decide +kernel : ∀ c : Fin k0_t3_loop.trips, k0_cond4 c = 1#1 ↔ 1 ≤ c.val) c
theorem cond5_iff : k0_cond5 c = 1#1 ↔ c.val - 1 < 6 :=
  (by decide +kernel : ∀ c : Fin k0_t3_loop.trips, k0_cond5 c = 1#1 ↔ c.val - 1 < 6) c
theorem cond6_iff (d : Dev nD) (p : Fin k0_t2_loop.trips) : k0_cond6 d p c = 1#1 ↔ ¬ (c.val - 1 < 6) ∧ nextP d p.val < 16 :=
  (by decide +kernel : ∀ (d : Dev nD) (p : Fin k0_t2_loop.trips) (c : Fin k0_t3_loop.trips),
    k0_cond6 d p c = 1#1 ↔ ¬ (c.val - 1 < 6) ∧ nextP d p.val < 16) d p c
theorem cond7_not : ¬ k0_cond7 = 1#1 := by decide +kernel

theorem off3_eq : k0_off3 c = offP c.val := (by decide +kernel : ∀ c : Fin k0_t3_loop.trips, k0_off3 c = offP c.val) c
theorem off4_eq : k0_off4 c = offS c.val := (by decide +kernel : ∀ c : Fin k0_t3_loop.trips, k0_off4 c = offS c.val) c
theorem off5_eq : k0_off5 c = offC c.val := (by decide +kernel : ∀ c : Fin k0_t3_loop.trips, k0_off5 c = offC c.val) c
variable (h : 1 ≤ c.val)
include h
theorem off6_eq : k0_off6 c = offP (c.val - 1) :=
  (by decide +kernel : ∀ c : Fin k0_t3_loop.trips, 1 ≤ c.val → k0_off6 c = offP (c.val - 1)) c h
theorem off7_eq : k0_off7 c = offC (c.val - 1) :=
  (by decide +kernel : ∀ c : Fin k0_t3_loop.trips, 1 ≤ c.val → k0_off7 c = offC (c.val - 1)) c h
theorem off8_eq : k0_off8 c = offS (c.val - 1) :=
  (by decide +kernel : ∀ c : Fin k0_t3_loop.trips, 1 ≤ c.val → k0_off8 c = offS (c.val - 1)) c h
theorem off9_eq : k0_off9 c = offS (c.val - 1) :=
  (by decide +kernel : ∀ c : Fin k0_t3_loop.trips, 1 ≤ c.val → k0_off9 c = offS (c.val - 1)) c h
theorem off10_eq : k0_off10 c = offC (c.val - 1) :=
  (by decide +kernel : ∀ c : Fin k0_t3_loop.trips, 1 ≤ c.val → k0_off10 c = offC (c.val - 1)) c h
end

theorem off12_eq : k0_off12 = offP 7 := by decide +kernel
theorem off13_eq : k0_off13 = offC 7 := by decide +kernel
theorem off14_eq : k0_off14 = offS 7 := by decide +kernel
theorem off15_eq : k0_off15 = offS 7 := by decide +kernel
theorem off16_eq : k0_off16 = offC 7 := by decide +kernel
theorem off1_eq (c : Fin k0_t1_loop.trips) : k0_off1 c = offC c.val :=
  (by decide +kernel : ∀ c : Fin k0_t1_loop.trips, k0_off1 c = offC c.val) c
theorem off18_eq (c : Fin k0_t4_loop.trips) : k0_off18 c = offC c.val :=
  (by decide +kernel : ∀ c : Fin k0_t4_loop.trips, k0_off18 c = offC c.val) c
theorem trips1 : k0_t1_loop.trips = 8 := by decide +kernel
theorem trips2 : k0_t2_loop.trips = 16 := by decide +kernel
theorem trips3 : k0_t3_loop.trips = 8 := by decide +kernel
theorem trips4 : k0_t4_loop.trips = 8 := by decide +kernel

end Cert.KernelIdeal.Sort

end
-- ==== Proof.Ideal.Phase.lean ====
/- What a device holds inside a phase and between two phases, and how one effect after another carries it on. -/
module

public import proofs.«01_k».proof.Proof.Ideal.Effects
public import proofs.«01_k».proof.Proof.Ideal.Words
public import proofs.«01_k».proof.Proof.Ideal.Value

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

omit [FloatOps F] in
theorem big_erase {I : Type} [DecidableEq I] {s : Finset I} {i : I} (h : i ∈ s) {Φ : I → sProp 𝕄} :
    bigSep s Φ = iprop(Φ i ∗ bigSep (s.erase i) Φ) := bigSep_erase h

/-! ## Positions on the copies' cells -/

section Pos
variable (d : Dev nD)

/-- The owner's place on the read-out cell of slot `s`. -/
def SPos (s n : ℕ) : sProp 𝕄 := iprop(atPos ER (sendC d s) n ∅ 0 ∗ reached ER (sendC d s) n)
/-- Landing slot `s`, given out for write `n + 1` or, once no write is left, held. -/
def SR (s n : ℕ) : sProp 𝕄 :=
  if n < 4 * A d then iprop(readerAt ES (d, Fin.ofNat 2 s) (n + 1) ∗ released ES (d, Fin.ofNat 2 s) (n + 1)) else slotAny d s
/-- The owner's place on the landing cell of slot `s`, and the slot. -/
def RPos (s n : ℕ) : sProp 𝕄 := iprop(atPos ER (recvC d s) n ∅ 0 ∗ reached ER (recvC d s) n ∗ SR (F := F) d s n)
/-- The round slot `s` stands at when `k` chunks of phase `p` are consumed. -/
def pos (p k s : ℕ) : ℕ := 4 * ac d p + (k + 1 - s) / 2
def SndS (p k : ℕ) : sProp 𝕄 := iprop(SPos (F := F) d 0 (pos d p k 0) ∗ SPos (F := F) d 1 (pos d p k 1))
def RcvS (p k : ℕ) : sProp 𝕄 := iprop(RPos (F := F) d 0 (pos d p k 0) ∗ RPos (F := F) d 1 (pos d p k 1))

theorem pos_even {p k : ℕ} (h : k % 2 = 0) : pos d p k 0 = 4 * ac d p + k / 2 ∧ pos d p (k + 1) 0 = 4 * ac d p + k / 2 + 1 ∧ pos d p (k + 1) 1 = pos d p k 1 := by
  unfold pos; omega
theorem pos_odd {p k : ℕ} (h : k % 2 = 1) : pos d p k 1 = 4 * ac d p + k / 2 ∧ pos d p (k + 1) 1 = 4 * ac d p + k / 2 + 1 ∧ pos d p (k + 1) 0 = pos d p k 0 := by
  unfold pos; omega
theorem pos_pred (p c : ℕ) : pos d p (c - 1) (c % 2) = 4 * ac d p + c / 2 := by unfold pos; omega
theorem pos_next {p : ℕ} (ha : active p d = true) (s : ℕ) (hs : s < 2) : pos d p 8 s = pos d (p + 1) 0 s := by
  unfold pos; rw [ac_succ_active ha]; omega
theorem pos_skip {p : ℕ} (ha : ¬ active p d = true) (k s : ℕ) : pos d p k s = pos d (p + 1) k s := by
  unfold pos; rw [ac_succ_inactive ha]

omit [FloatOps F] in
theorem snd_take (p k : ℕ) : SndS (F := F) d p k ⊢ iprop(SPos d (k % 2) (4 * ac d p + k / 2) ∗ (SPos d (k % 2) (4 * ac d p + k / 2 + 1) -∗ SndS d p (k + 1))) := by
  unfold SndS
  rcases Nat.mod_two_eq_zero_or_one k with h | h
  · rw [h, (pos_even d h).1, (pos_even d h).2.1, (pos_even d h).2.2]
    iintro ⟨H, H'⟩
    isplitl [H]; · iexact H
    iintro H
    isplitl [H]; · iexact H
    iexact H'
  · rw [h, (pos_odd d h).1, (pos_odd d h).2.1, (pos_odd d h).2.2]
    iintro ⟨H, H'⟩
    isplitl [H']; · iexact H'
    iintro H'
    isplitl [H]; · iexact H
    iexact H'

omit [FloatOps F] in
theorem rcv_take (p k : ℕ) : RcvS (F := F) d p k ⊢ iprop(RPos d (k % 2) (4 * ac d p + k / 2) ∗ (RPos d (k % 2) (4 * ac d p + k / 2 + 1) -∗ RcvS d p (k + 1))) := by
  unfold RcvS
  rcases Nat.mod_two_eq_zero_or_one k with h | h
  · rw [h, (pos_even d h).1, (pos_even d h).2.1, (pos_even d h).2.2]
    iintro ⟨H, H'⟩
    isplitl [H]; · iexact H
    iintro H
    isplitl [H]; · iexact H
    iexact H'
  · rw [h, (pos_odd d h).1, (pos_odd d h).2.1, (pos_odd d h).2.2]
    iintro ⟨H, H'⟩
    isplitl [H']; · iexact H'
    iintro H'
    isplitl [H]; · iexact H
    iexact H'

omit [FloatOps F] in
theorem snd_reached (p c : ℕ) : SndS (F := F) d p (c - 1) ⊢ iprop(SndS d p (c - 1) ∗ reached ER (sendC d (c % 2)) (4 * ac d p + c / 2)) := by
  have e := pos_pred d p c
  unfold SndS SPos
  iintro ⟨⟨Ha, #Hr⟩, Hb, #Hs⟩
  isplitl [Ha Hb]
  · isplitl [Ha]
    · isplitl [Ha]; · iexact Ha
      iexact Hr
    isplitl [Hb]; · iexact Hb
    iexact Hs
  rcases Nat.mod_two_eq_zero_or_one c with h | h <;> rw [h] at e ⊢ <;> rw [← e] <;> iassumption

omit [FloatOps F] in
theorem rcv_twoF (p k : ℕ) (h : pos d p k 0 < 4 * A d) : RcvS (F := F) d p k ⊢ iprop(RcvS d p k ∗ twoF d (pos d p k 0) (pos d p k 1)) := by
  have h1 : pos d p k 1 < 4 * A d := lt_of_le_of_lt (by unfold pos; omega) h
  unfold RcvS RPos SR twoF Fwit
  rw [if_pos h, if_pos h1]
  iintro ⟨⟨Ha, #Hr, Hs, #Hl⟩, Hb, #Hr', Hs', #Hl'⟩
  isplitl [Ha Hb Hs Hs']
  · isplitl [Ha Hs]
    · isplitl [Ha]; · iexact Ha
      isplitr; · iexact Hr
      isplitl [Hs]; · iexact Hs
      iexact Hl
    isplitl [Hb]; · iexact Hb
    isplitr; · iexact Hr'
    isplitl [Hs']; · iexact Hs'
    iexact Hl'
  isplitr
  · isplitr; · iexact Hl
    iexact Hr
  isplitr; · iexact Hl'
  iexact Hr'
end Pos

section Chunks
variable (V : ℕ → Dev nD → ℕ → Vec F S4096x128 .bf16) (K : Dev nD × Fin 7 → ℕ) (ιs : Key → ℕ) (d : Dev nD)

theorem rS_nonempty (s : ℕ) : (rS s).view.set.Nonempty :=
  ⟨_, (rS s).view.emb_mem_set (fun a => match a with | ⟨0, _⟩ => ⟨0, (by decide : 0 < 4096)⟩ | ⟨1, _⟩ => ⟨0, (by decide : 0 < 128)⟩)⟩

/-- A landed slot consumed: given out again, or kept after the last write. -/
theorem sr_next (s n : ℕ) (hs : s < 2) (hn : n < 4 * A d) :
    iprop(Invs V K ιs ∗ SR (F := F) d s n ∗ slotAny d s) ⊢ iprop(|={Set.univ}=> SR (F := F) d s (n + 1)) := by
  unfold SR; rw [if_pos hn]
  by_cases h : n + 1 < 4 * A d
  · rw [if_pos h]
    iintro ⟨#HI, ⟨Hr, -⟩, Hs⟩
    iapply (slot_release ES (ι := ιs (d, Fin.ofNat 2 s)) (S := slotAny (F := F) d s) (Set.mem_univ _)
      (slot_slot_false (rS_nonempty s)) (n + 1))
    isplitr; · iapply (inv_slot V K ιs d s hs); iexact HI
    isplitl [Hr]; · iexact Hr
    iexact Hs
  · rw [if_neg h]
    iintro ⟨-, -, Hs⟩
    imodintro; iexact Hs

omit [FloatOps F] in
theorem slotAny_of (s : ℕ) (v : Vec F S4096x128 .bf16) : slotAt d s v ⊢ slotAny d s := by
  unfold slotAt slotAny slot owns
  iintro ⟨%f, -, H⟩
  iexists f; iexact H

/-! ## The chunks of the result's buffer -/

/-- The chunks at hand when copies below `c` are out and chunks below `k` are consumed. -/
def Outs (p k c : ℕ) : sProp 𝕄 :=
  bigSep (Finset.range 8) (fun i => if i < k then chunkAt d i (V (p + 1) d i) else if i < c then iprop(emp) else chunkAt d i (V p d i))

omit [FloatOps F] in
theorem outs_take (p k c : ℕ) (hc : c < 8) (hk : k ≤ c) : Outs V d p k c ⊢ iprop(chunkAt d c (V p d c) ∗ Outs V d p k (c + 1)) := by
  unfold Outs
  rw [big_erase (Finset.mem_range.mpr hc), big_erase (s := Finset.range 8) (Finset.mem_range.mpr hc) (Φ := fun i => if i < k then _ else if i < c + 1 then _ else _)]
  rw [if_neg (by omega), if_neg (by omega), if_neg (by omega), if_pos (by omega)]
  rw [bigSep_congr (Ψ := fun i => if i < k then chunkAt d i (V (p + 1) d i) else if i < c + 1 then iprop(emp) else chunkAt d i (V p d i)) (fun i hi => by
    have := Finset.ne_of_mem_erase hi
    by_cases h : i < c
    · rw [if_pos h, if_pos (show i < c + 1 by omega)]
    · rw [if_neg h, if_neg (show ¬ i < c + 1 by omega)])]
  iintro ⟨H, H'⟩
  isplitl [H]; · iexact H
  isplitr; · iempintro
  iexact H'

omit [FloatOps F] in
theorem outs_put (p k c : ℕ) (hc : k < c) (h8 : c ≤ 8) : iprop(chunkAt d k (V (p + 1) d k) ∗ Outs V d p k c) ⊢ Outs V d p (k + 1) c := by
  unfold Outs
  have hk : k < 8 := by omega
  rw [big_erase (Finset.mem_range.mpr hk), big_erase (s := Finset.range 8) (Finset.mem_range.mpr hk) (Φ := fun i => if i < k + 1 then _ else if i < c then _ else _)]
  rw [if_neg (by omega), if_pos (by omega), if_pos (by omega)]
  rw [bigSep_congr (Ψ := fun i => if i < k + 1 then chunkAt d i (V (p + 1) d i) else if i < c then iprop(emp) else chunkAt d i (V p d i)) (fun i hi => by
    have := Finset.ne_of_mem_erase hi
    by_cases h : i < k
    · rw [if_pos h, if_pos (show i < k + 1 by omega)]
    · rw [if_neg h, if_neg (show ¬ i < k + 1 by omega)])]
  iintro ⟨H, -, H'⟩
  isplitl [H]; · iexact H
  iexact H'

omit [FloatOps F] in
theorem outs_done (p : ℕ) : Outs V d p 8 8 = Outs V d (p + 1) 0 0 := by
  unfold Outs
  refine bigSep_congr fun i hi => ?_
  have := Finset.mem_range.mp hi
  rw [if_pos this, if_neg (by omega), if_neg (by omega)]
omit [FloatOps F] in
theorem outs_skip (p : ℕ) (h : ∀ c, c < 8 → V (p + 1) d c = V p d c) : Outs V d p 0 0 = Outs V d (p + 1) 0 0 := by
  unfold Outs
  refine bigSep_congr fun i hi => ?_
  have := Finset.mem_range.mp hi
  rw [if_neg (by omega), if_neg (by omega), if_neg (by omega), if_neg (by omega), h i this]
end Chunks

/-! ## What is owed, one step at a time -/

section Owed
theorem sum_bot {M : Type} [AddCommMonoid M] {a b : ℕ} (h : a < b) (f : ℕ → M) : ∑ i ∈ Finset.Ico a b, f i = f a + ∑ i ∈ Finset.Ico (a + 1) b, f i := by
  rw [show Finset.Ico a b = insert a (Finset.Ico (a + 1) b) by ext x; simp only [Finset.mem_Ico, Finset.mem_insert]; omega,
    Finset.sum_insert (by rw [Finset.mem_Ico]; omega)]
variable (d : Dev nD)
theorem rem_copy (p c k : ℕ) (hc : c < 8) (O : CellTallies nD τ sig ℕ) : rem d p c k + O = (rem d p (c + 1) k + O) + copyE d p c := by
  unfold rem; rw [sum_bot hc]; ac_rfl
theorem rem_sig (p c k : ℕ) (hk : k < 8) (O : CellTallies nD τ sig ℕ) : rem d p c k + O = (rem d p c (k + 1) + O) + sigE d p k := by
  unfold rem; rw [sum_bot hk (sigE d p)]; ac_rfl
theorem rem_done (p : ℕ) (O : CellTallies nD τ sig ℕ) : rem d p 8 8 + O = O := by
  unfold rem; rw [Finset.Ico_self, Finset.sum_empty, Finset.sum_empty, zero_add, zero_add]
theorem Ow_active {p : ℕ} (hp : p < 16) (ha : active p d = true) : Ow d p = rem d p 0 0 + Ow d (p + 1) := by
  unfold Ow; rw [sum_bot hp, if_pos ha]
theorem Ow_inactive {p : ℕ} (hp : p < 16) (ha : ¬ active p d = true) : Ow d p = Ow d (p + 1) := by
  unfold Ow; rw [sum_bot hp, if_neg ha, zero_add]
end Owed

/-! ## The state inside a phase -/

section State
variable (V : ℕ → Dev nD → ℕ → Vec F S4096x128 .bf16) (K : Dev nD × Fin 7 → ℕ) (ιs : Key → ℕ) (d : Dev nD)

/-- What copy `c` of phase `p` uses up beside the wait before it, -/
def tokC (p c : ℕ) : sProp 𝕄 :=
  iprop(dutyTok ER (sendC d (c % 2)) (4 * ac d p + c / 2) 0 ∗ dutyTok ER (recvC (partner p d) (c % 2)) (4 * ac (partner p d) p + c / 2) 0
    ∗ writeTok ES (partner p d, Fin.ofNat 2 (c % 2)) (4 * ac (partner p d) p + c / 2 + 1))
/-- and what that wait uses up. -/
def credC (p c : ℕ) : sProp 𝕄 :=
  if c < 2 then cred (tallyAt (interC d (p % 2)) (32 * p + 1 + c) 1) else cred (tallyAt (intraC d) (32 * p + 2 * (c - 2) + 7) 1)
/-- The credit of the landing of chunk `i`. -/
def credR (p i : ℕ) : sProp 𝕄 := cred (tallyAt (recvC d (i % 2)) (32 * p + 2 * i + 4) N)
/-- What the signal after chunk `i` uses up. -/
def tokG (p i : ℕ) : sProp 𝕄 :=
  if i < 6 then dutyTok ER (intraC (partner p d)) (ac (partner p d) p) i
  else if nextP d p < 16 then dutyTok ER (interC (partner (nextP d p) d) (nextP d p % 2)) 0 (interI (nextP d p) (i - 6)) else iprop(emp)
/-- The same for all that is left of a phase. -/
def TC (p c : ℕ) : sProp 𝕄 := bigSep (Finset.Ico c 8) (fun i => iprop(tokC (F := F) d p i ∗ credC (F := F) d p i))
def TR (p k : ℕ) : sProp 𝕄 := bigSep (Finset.Ico k 8) (fun i => credR (F := F) d p i)
def TG (p g : ℕ) : sProp 𝕄 := bigSep (Finset.Ico g 8) (fun i => tokG (F := F) d p i)
/-- The credits of the copies on their way. -/
def Fly (k c : ℕ) : sProp 𝕄 := bigSep (Finset.Ico k c) (fun i => cred (tallyAt (sendC d (i % 2)) 0 N))

/-- How many signals across phases of parity `e` are taken before phase `p`. -/
def taken (e p : ℕ) : ℕ := 2 * ((p + 1 - e) / 2)

/-- In phase `p`, the next copy being `c`, the next chunk to consume `k`, the next signal `g`. -/
def St (p c k g : ℕ) : sProp 𝕄 :=
  iprop(SndS (F := F) d p k ∗ RcvS (F := F) d p k ∗ Outs V d p k c ∗ Fly (F := F) d k c
    ∗ UPos (intraPay (F := F) d (ac d p)) (intraC d) (ac d p) 6 (c - 2)
    ∗ UPos (interPay (F := F) d (p % 2)) (interC d (p % 2)) 0 16 (2 * (p / 2) + min c 2)
    ∗ TC (F := F) d p c ∗ TR (F := F) d p k ∗ TG (F := F) d p g ∗ owesE (F := F) d (rem d p c g + Ow d (p + 1)))

/-- The same with the wait before copy `c` done. -/
def Md (p c k : ℕ) : sProp 𝕄 :=
  iprop(SndS (F := F) d p k ∗ RcvS (F := F) d p k ∗ Outs V d p k c ∗ Fly (F := F) d k c
    ∗ UPos (intraPay (F := F) d (ac d p)) (intraC d) (ac d p) 6 (c + 1 - 2)
    ∗ UPos (interPay (F := F) d (p % 2)) (interC d (p % 2)) 0 16 (2 * (p / 2) + min (c + 1) 2)
    ∗ tokC (F := F) d p c ∗ Fwit (F := F) (partner p d) (c % 2) (4 * ac (partner p d) p + c / 2)
    ∗ TC (F := F) d p (c + 1) ∗ TR (F := F) d p k ∗ TG (F := F) d p k ∗ owesE (F := F) d (rem d p c k + Ow d (p + 1)))

omit [FloatOps F] in
theorem fly_put (k c : ℕ) (h : k ≤ c) : iprop(cred (tallyAt (sendC d (c % 2)) 0 N) ∗ Fly (F := F) d k c) ⊢ Fly (F := F) d k (c + 1) := by
  unfold Fly; rw [bigSep_Ico_succ_top h]
omit [FloatOps F] in
theorem fly_take (k c : ℕ) (h : k < c) : Fly (F := F) d k c ⊢ iprop(cred (tallyAt (sendC d (k % 2)) 0 N) ∗ Fly (F := F) d (k + 1) c) := by
  unfold Fly; rw [bigSep_Ico_succ_bot h]

omit [FloatOps F] in
/-- What a signal within the phase tells of the slot of copy `c`. -/
theorem intra_Fwit (p c i : ℕ) (ha : active p d = true) (hi : c - 2 ≤ i) (h2 : 2 ≤ c) :
    intraPay (F := F) d (ac d p) i ⊢ Fwit (partner p d) (c % 2) (4 * ac (partner p d) p + c / 2) := by
  unfold intraPay twoF; rw [actPhase_ac ha]
  rcases Nat.mod_two_eq_zero_or_one c with h | h <;> rw [h]
  · iintro ⟨H, -⟩; iapply (Fwit_mono (partner p d) 0 (show 4 * ac (partner p d) p + c / 2 ≤ 4 * ac (partner p d) p + (i + 2) / 2 by omega)); iexact H
  · iintro ⟨-, H⟩; iapply (Fwit_mono (partner p d) 1 (show 4 * ac (partner p d) p + c / 2 ≤ 4 * ac (partner p d) p + (i + 1) / 2 by omega)); iexact H

omit [FloatOps F] in
/-- What a signal across phases tells of the slot of copy `c`. -/
theorem inter_Fwit (p c i : ℕ) (hi : 2 * (p / 2) + c ≤ i) (h2 : c < 2) :
    interPay (F := F) d (p % 2) i ⊢ Fwit (partner p d) (c % 2) (4 * ac (partner p d) p + c / 2) := by
  unfold interPay twoF
  have hP : interP (p % 2) i % 2 = p % 2 := by unfold interP; omega
  rw [show partner (interP (p % 2) i) d = partner p d by rw [partner_mod, hP, ← partner_mod]]
  have hge : (interP (p % 2) i = p ∧ c ≤ i % 2) ∨ p + 2 ≤ interP (p % 2) i := by unfold interP; omega
  have hle : (4 * ac (partner p d) p ≤ 4 * ac (partner p d) (interP (p % 2) i)) ∧
      (c = 1 → 4 * ac (partner p d) p ≤ 4 * ac (partner p d) (interP (p % 2) i) + i % 2 - 1) := by
    rcases hge with ⟨h, h'⟩ | h
    · rw [h]; omega
    · have := ac_step (d := partner p d) h; omega
  obtain rfl | rfl : c = 0 ∨ c = 1 := by omega
  · iintro ⟨H, -⟩; iapply (Fwit_mono (partner p d) 0 hle.1); iexact H
  · iintro ⟨-, H⟩; iapply (Fwit_mono (partner p d) 1 (hle.2 rfl)); iexact H

/-- The wait before copy `c ≥ 2`. -/
theorem step_intra {α : Type} {Q : α → sProp 𝕄} (p c : ℕ) (hp : p < 16) (ha : active p d = true) (hc : c < 8) (h2 : 2 ≤ c)
    {w : TpuEff nD τ sig (Elt F) Λ₀ .tc PUnit} {k : PUnit → Prog (TpuEff nD τ sig (Elt F) Λ₀ .tc) α}
    (hw : ∀ Kt : PUnit → sProp 𝕄, wpE (defs₀ (F := F)) 𝒱₀ (d : Thread nD τ) none Set.univ w Kt = waitSpec (d : Thread nD τ) Set.univ (.reg intraS) 1 Kt) :
    iprop(Invs V K ιs ∗ St V d p c (c - 1) (c - 1)) ⊢ iprop((Md V d p c (c - 1) -∗ WP d (k ⟨⟩) Q) -∗ WP d (.op w k) Q) := by
  have hd := ac_lt hp ha
  unfold St Md TC
  rw [bigSep_Ico_succ_bot hc, show c + 1 - 2 = (c - 2) + 1 by omega, show min c 2 = min (c + 1) 2 by omega]
  unfold credC; rw [if_neg (by omega)]
  iintro ⟨#HI, Hs, Hr, Ho, Hf, Hu, Hv, ⟨⟨Ht, Hcr⟩, Htc⟩, Htr, Htg, Hw⟩ Hk
  iapply (upos_wait V K ιs (intraPay (F := F) d (ac d p)) d (K (d, 4)) (.reg intraS) (ac d p) 6 (c - 2) (32 * p + 2 * (c - 2) + 7) (duties_intra V d hd)
    (expect_intra V d hd) (fun i => payload_intra V d _ i) hw (rem d p c (c - 1) + Ow d (p + 1)) (by omega)
    ((above_rem d hp (by omega) (by omega)).add (above_Ow d (by omega))) (inv_intra V K ιs d)) $$ [Hcr Hw Hu]
  · isplitr; · iexact HI
    isplitl [Hcr]; · iexact Hcr
    isplitl [Hw]; · iexact Hw
    iexact Hu
  iintro ⟨Hw, Hu⟩
  ihave Hu := (upos_get (intraPay (F := F) d (ac d p)) (intraC d) (ac d p) 6 (c - 2) (by omega)) $$ Hu
  icases Hu with ⟨Hu, %i, %hi, HP⟩
  iapply Hk
  isplitl [Hs]; · iexact Hs
  isplitl [Hr]; · iexact Hr
  isplitl [Ho]; · iexact Ho
  isplitl [Hf]; · iexact Hf
  isplitl [Hu]; · iexact Hu
  isplitl [Hv]; · iexact Hv
  isplitl [Ht]; · iexact Ht
  isplitl [HP]; · iapply (intra_Fwit d p c i ha hi.1 h2); iexact HP
  isplitl [Htc]; · iexact Htc
  isplitl [Htr]; · iexact Htr
  isplitl [Htg]; · iexact Htg
  iexact Hw

/-- The wait before copy `c < 2`. -/
theorem step_inter {α : Type} {Q : α → sProp 𝕄} (p c : ℕ) (hp : p < 16) (ha : active p d = true) (h2 : c < 2)
    {w : TpuEff nD τ sig (Elt F) Λ₀ .tc PUnit} {k : PUnit → Prog (TpuEff nD τ sig (Elt F) Λ₀ .tc) α}
    (hw : ∀ Kt : PUnit → sProp 𝕄, wpE (defs₀ (F := F)) 𝒱₀ (d : Thread nD τ) none Set.univ w Kt = waitSpec (d : Thread nD τ) Set.univ (.reg (interS (p % 2))) 1 Kt) :
    iprop(Invs V K ιs ∗ St V d p c (c - 1) (c - 1)) ⊢ iprop((Md V d p c (c - 1) -∗ WP d (k ⟨⟩) Q) -∗ WP d (.op w k) Q) := by
  have hd := ac_lt hp ha
  have hpar : p % 2 % 2 = 0 ∨ edge d = false := by
    rcases Nat.mod_two_eq_zero_or_one p with h | h
    · left; omega
    · right
      cases he : edge d
      · rfl
      · have := edge_parity he ha; omega
  unfold St Md TC
  rw [bigSep_Ico_succ_bot (show c < 8 by omega), show c + 1 - 2 = c - 2 by omega, show 2 * (p / 2) + min (c + 1) 2 = (2 * (p / 2) + c) + 1 by omega,
    show min c 2 = c by omega]
  unfold credC; rw [if_pos h2]
  iintro ⟨#HI, Hs, Hr, Ho, Hf, Hv, Hu, ⟨⟨Ht, Hcr⟩, Htc⟩, Htr, Htg, Hw⟩ Hk
  iapply (upos_wait V K ιs (interPay (F := F) d (p % 2)) d (K (d, kInter (p % 2))) (.reg (interS (p % 2))) 0 16 (2 * (p / 2) + c) (32 * p + 1 + c) (duties_inter V d _ hpar)
    (expect_inter V d _ hpar) (fun i => (payload_inter V d _ _ i).trans (by rw [Nat.mod_mod])) hw (rem d p c (c - 1) + Ow d (p + 1)) (by omega)
    ((above_rem d hp (by omega) (by omega)).add (above_Ow d (by omega))) (inv_inter V K ιs d (p % 2))) $$ [Hcr Hw Hu]
  · isplitr; · iexact HI
    isplitl [Hcr]; · iexact Hcr
    isplitl [Hw]; · iexact Hw
    iexact Hu
  iintro ⟨Hw, Hu⟩
  ihave Hu := (upos_get (interPay (F := F) d (p % 2)) (interC d (p % 2)) 0 16 (2 * (p / 2) + c) (by omega)) $$ Hu
  icases Hu with ⟨Hu, %i, %hi, HP⟩
  iapply Hk
  isplitl [Hs]; · iexact Hs
  isplitl [Hr]; · iexact Hr
  isplitl [Ho]; · iexact Ho
  isplitl [Hf]; · iexact Hf
  isplitl [Hv]; · iexact Hv
  isplitl [Hu]; · iexact Hu
  isplitl [Ht]; · iexact Ht
  isplitl [HP]; · iapply (inter_Fwit d p c i hi.1 h2); iexact HP
  isplitl [Htc]; · iexact Htc
  isplitl [Htr]; · iexact Htr
  isplitl [Htg]; · iexact Htg
  iexact Hw

/-- The copy. -/
theorem step_copy {α : Type} {Q : α → sProp 𝕄} (n : Dev nD) (p c : ℕ) (hp : p < 16) (ha : active p d = true) (hc : c < 8) (hn : n = partner p d)
    {src : Memref sig .tc .vmem S4096x128 .bf16} {dst : Memref sig (Dev.tc n : Thread nD τ).2.kind .vmem S4096x128 .bf16} {sS sR : DmaSem sig}
    (hsrc : src = oC c) (hdst : dst = rS (c % 2)) (hsS : sS = sendS (c % 2)) (hsR : sR = recvS (c % 2))
    {hsc} {h₁} {h₂} {h₃} {k : PUnit → Prog (TpuEff nD τ sig (Elt F) Λ₀ .tc) α} :
    iprop(Invs V K ιs ∗ reached ER (intraC d) (ac d p) ∗ Md V d p c (c - 1))
      ⊢ iprop((St V d p (c + 1) (c - 1) (c - 1) -∗ WP d (k ⟨⟩) Q)
        -∗ WP d (.op (.enqueueDma src (.remote (Dev.tc n : Thread nD τ) dst (.dma sS) hsc) (.dma sR) h₁ h₂ h₃) k) Q) := by
  unfold St Md tokC
  iintro ⟨#HI, #Hrc, Hs, Hr, Ho, Hf, Hu, Hv, ⟨Hts, Htr', Hwt⟩, HF, Htc, Htr, Htg, Hw⟩ Hk
  ihave Hs := (snd_reached d p c) $$ Hs
  icases Hs with ⟨Hs, Hrs⟩
  ihave Ho := (outs_take V d p (c - 1) c hc (by omega)) $$ Ho
  icases Ho with ⟨Hch, Ho⟩
  rw [rem_copy d p c (c - 1) hc]
  iapply (wp_copy V K ιs d n p c hp ha hc hn hsrc hdst hsS hsR (rem d p (c + 1) (c - 1) + Ow d (p + 1))) $$ [Hch HF Hwt Hw Hts Hrs Htr']
  · isplitr; · iexact HI
    isplitl [Hch]; · iexact Hch
    isplitl [HF]; · iexact HF
    isplitl [Hwt]; · iexact Hwt
    isplitr; · iexact Hrc
    isplitl [Hw]; · iexact Hw
    isplitl [Hts]; · iexact Hts
    isplitl [Hrs]; · iexact Hrs
    iexact Htr'
  iintro ⟨Hcr, Hw⟩
  iapply Hk
  isplitl [Hs]; · iexact Hs
  isplitl [Hr]; · iexact Hr
  isplitl [Ho]; · iexact Ho
  isplitl [Hf Hcr]
  · iapply (fly_put d (c - 1) c (by omega))
    isplitl [Hcr]; · iexact Hcr
    iexact Hf
  isplitl [Hu]; · iexact Hu
  isplitl [Hv]; · iexact Hv
  isplitl [Htc]; · iexact Htc
  isplitl [Htr]; · iexact Htr
  isplitl [Htg]; · iexact Htg
  iexact Hw

/-- The signal within the phase. -/
theorem step_sig {α : Type} {Q : α → sProp 𝕄} (n : Dev nD) (p c g : ℕ) (hp : p < 16) (ha : active p d = true) (hg : g < 6) (hn : n = partner p d) {sem : Sem sig} (hsem : sem = intraS)
    {kk : ℕ} (hkk : kk = 1) {k : PUnit → Prog (TpuEff nD τ sig (Elt F) Λ₀ .tc) α} :
    iprop(Invs V K ιs ∗ reached ER (intraC (partner p d)) (ac (partner p d) p) ∗ St V d p c (g + 1) g)
      ⊢ iprop((St V d p c (g + 1) (g + 1) -∗ WP d (k ⟨⟩) Q) -∗ WP d (.op (.semSignal (n : Thread nD τ) sem kk) k) Q) := by
  have hd := ac_lt hp ha
  unfold St TG
  rw [bigSep_Ico_succ_bot (show g < 8 by omega)]
  unfold tokG; rw [if_pos hg]
  iintro ⟨#HI, #Hrc, Hs, Hr, Ho, Hf, Hu, Hv, Htc, Htr, ⟨Ht, Htg⟩, Hw⟩ Hk
  ihave Hr := (rcv_twoF d p (g + 1) (by unfold pos; omega)) $$ Hr
  icases Hr with ⟨Hr, HF⟩
  rw [rem_sig d p c g (by omega)]
  rw [show sigE d p g = tallyAt (intraC (partner p d)) (32 * p + 2 * g + 7) 1 from if_pos hg]
  iapply (wp_intraSignal V K ιs d n p g hp ha hg hn hsem hkk (rem d p c (g + 1) + Ow d (p + 1))) $$ [Ht HF Hw]
  · isplitr; · iexact HI
    isplitl [Hw]; · iexact Hw
    isplitl [Ht]; · iexact Ht
    isplitl [HF]; · iexact HF
    iexact Hrc
  iintro Hw
  iapply Hk
  isplitl [Hs]; · iexact Hs
  isplitl [Hr]; · iexact Hr
  isplitl [Ho]; · iexact Ho
  isplitl [Hf]; · iexact Hf
  isplitl [Hu]; · iexact Hu
  isplitl [Hv]; · iexact Hv
  isplitl [Htc]; · iexact Htc
  isplitl [Htr]; · iexact Htr
  isplitl [Htg]; · iexact Htg
  iexact Hw

/-- The signal across phases. -/
theorem step_grant {α : Type} {Q : α → sProp 𝕄} (n : Dev nD) (p c g : ℕ) (hp : p < 16) (ha : active p d = true) (hg : ¬ g < 6) (hg8 : g < 8) (hx : nextP d p < 16) (hn : n = partner (nextP d p) d)
    {sem : Sem sig} (hsem : sem = interS (nextP d p)) {kk : ℕ} (hkk : kk = 1) {k : PUnit → Prog (TpuEff nD τ sig (Elt F) Λ₀ .tc) α} :
    iprop(Invs V K ιs ∗ reached ER (interC (partner (nextP d p) d) (nextP d p % 2)) 0 ∗ St V d p c (g + 1) g)
      ⊢ iprop((St V d p c (g + 1) (g + 1) -∗ WP d (k ⟨⟩) Q) -∗ WP d (.op (.semSignal (n : Thread nD τ) sem kk) k) Q) := by
  have hd := ac_lt hp ha
  have hd' := ac_lt hx (active_nextP ha)
  have e := ac_nextP ha
  unfold St TG
  rw [bigSep_Ico_succ_bot hg8]
  unfold tokG; rw [if_neg hg, if_pos hx]
  iintro ⟨#HI, #Hrc, Hs, Hr, Ho, Hf, Hu, Hv, Htc, Htr, ⟨Ht, Htg⟩, Hw⟩ Hk
  ihave Hr := (rcv_twoF d p (g + 1) (by unfold pos; omega)) $$ Hr
  icases Hr with ⟨Hr, HF⟩
  rw [rem_sig d p c g hg8]
  rw [show sigE d p g = grantE d (nextP d p) (g - 6) by unfold sigE; rw [if_neg hg, if_pos hx]]
  rw [show pos d p (g + 1) 0 = 4 * ac d (nextP d p) by unfold pos; omega,
    show pos d p (g + 1) 1 = 4 * ac d (nextP d p) + (g - 6) - 1 by unfold pos; omega]
  iapply (wp_interSignal V K ιs d n (nextP d p) (g - 6) hx (active_nextP ha) (by omega) hn hsem hkk (rem d p c (g + 1) + Ow d (p + 1))) $$ [Ht HF Hw]
  · isplitr; · iexact HI
    isplitl [Hw]; · iexact Hw
    isplitl [Ht]; · iexact Ht
    isplitl [HF]; · iexact HF
    iexact Hrc
  iintro Hw
  iapply Hk
  isplitl [Hs]; · iexact Hs
  isplitl [Hr]; · iexact Hr
  isplitl [Ho]; · iexact Ho
  isplitl [Hf]; · iexact Hf
  isplitl [Hu]; · iexact Hu
  isplitl [Hv]; · iexact Hv
  isplitl [Htc]; · iexact Htc
  isplitl [Htr]; · iexact Htr
  isplitl [Htg]; · iexact Htg
  iexact Hw

omit [FloatOps F] in
/-- No signal is due. -/
theorem step_none (p c k g : ℕ) (hg : ¬ g < 6) (hg8 : g < 8) (hx : ¬ nextP d p < 16) : St V d p c k g ⊢ St V d p c k (g + 1) := by
  unfold St TG
  rw [bigSep_Ico_succ_bot hg8]
  rw [rem_sig d p c g hg8, show sigE d p g = 0 by unfold sigE; rw [if_neg hg, if_neg hx], add_zero]
  iintro ⟨Hs, Hr, Ho, Hf, Hu, Hv, Htc, Htr, ⟨-, Htg⟩, Hw⟩
  isplitl [Hs]; · iexact Hs
  isplitl [Hr]; · iexact Hr
  isplitl [Ho]; · iexact Ho
  isplitl [Hf]; · iexact Hf
  isplitl [Hu]; · iexact Hu
  isplitl [Hv]; · iexact Hv
  isplitl [Htc]; · iexact Htc
  isplitl [Htr]; · iexact Htr
  isplitl [Htg]; · iexact Htg
  iexact Hw

/-- One chunk consumed: both waits, the loads, the merged chunk stored. -/
theorem step_consume {α : Type} {Q : α → sProp 𝕄} (p c g : ℕ) (hp : p < 16) (ha : active p d = true) (hgc : g < c) (hc : c ≤ 8) (hcg : c ≤ g + 2)
    {f : Vec F S1x4096x128 .bf16 → Vec F S4096x128 .bf16 → Vec F S4096x128 .bf16}
    (hf : f (unsq (V p (partner p d) g)) (V p d g) = V (p + 1) d g)
    {sem sem' : DmaSem sig} (hsem : sem = sendS (g % 2)) (hsem' : sem' = recvS (g % 2))
    {src dst src' dst' : Memref sig .tc .vmem S4096x128 .bf16} (hdst : dst = oC g) (hdst' : dst' = rS (g % 2)) {h₁} {h₂} {h₁'} {h₂'}
    {off : Fin 3 → ℕ} (ho : off = offS g) {inb : ∀ a, off a + S1x4096x128.size a ≤ S2x4096x128.size a}
    {off' : Fin 2 → ℕ} (ho' : off' = offC g) {inb' : ∀ a, off' a + S4096x128.size a ≤ S4096x1024.size a}
    {hl : (rM : Memref sig .tc .vmem S2x4096x128 .bf16).view.LoadsAt (Rect.unit (s := S2x4096x128) off S1x4096x128.size inb).toLoadRect}
    {hl' : (oM : Memref sig .tc .vmem S4096x1024 .bf16).view.LoadsAt (Rect.unit (s := S4096x1024) off' S4096x128.size inb').toLoadRect}
    {hl'' : (oM : Memref sig .tc .vmem S4096x1024 .bf16).view.LoadsAt (Rect.unit (s := S4096x1024) off' S4096x128.size inb').toLoadRect}
    {hx} {hm} {rest : PUnit → Prog (TpuEff nD τ sig (Elt F) Λ₀ .tc) α} :
    iprop(Invs V K ιs ∗ St V d p c g g)
      ⊢ iprop(((reached ER (intraC (partner p d)) (ac (partner p d) p) ∗ St V d p c (g + 1) g) -∗ WP d (rest ⟨⟩) Q)
        -∗ WP d (.op (.waitDma2 sem src dst h₁ h₂) fun _ => .op (.waitDma2 sem' src' dst' h₁' h₂') fun _ =>
            .op (.load rM (Rect.unit (s := S2x4096x128) off S1x4096x128.size inb).toLoadRect hl) fun v =>
            .op (.load oM (Rect.unit (s := S4096x1024) off' S4096x128.size inb').toLoadRect hl') fun w =>
            .op (.load oM (Rect.unit (s := S4096x1024) off' S4096x128.size inb').toLoadRect hl'') fun _ =>
            .op (.store oM (Rect.unit (s := S4096x1024) off' S4096x128.size inb') (f v w) Finset.univ hx hm) rest) Q) := by
  have hd := ac_lt hp ha
  have hg : g < 8 := by omega
  have hab : Above (32 * p + 2 * g + 4) (rem d p c g + Ow d (p + 1)) :=
    (above_rem d hp (by omega) (by omega)).add (above_Ow d (by omega))
  unfold St TR credR
  rw [bigSep_Ico_succ_bot hg]
  iintro ⟨#HI, Hs, Hr, Ho, Hf, Hu, Hv, Htc, ⟨Hcr, Htr⟩, Htg, Hw⟩ Hk
  ihave Hs := (snd_take d p g) $$ Hs
  icases Hs with ⟨Hs, Hs'⟩
  ihave Hr := (rcv_take d p g) $$ Hr
  icases Hr with ⟨Hr, Hr'⟩
  ihave Hf := (fly_take d g c hgc) $$ Hf
  icases Hf with ⟨Hcs, Hf⟩
  unfold SPos RPos
  icases Hs with ⟨Hs, -⟩
  icases Hr with ⟨Hr, -, Hsl⟩
  iapply (wp_sendWait V K ιs d p g hp ha hg hsem hdst (rem d p c g + Ow d (p + 1)) (hab.mono (by omega))) $$ [Hcs Hw Hs]
  · isplitr; · iexact HI
    isplitl [Hcs]; · iexact Hcs
    isplitl [Hw]; · iexact Hw
    iexact Hs
  iintro ⟨Hw, Hs, Hsr, Hch⟩
  iapply (wp_recvWait V K ιs d p g hp ha hg hsem' hdst' (rem d p c g + Ow d (p + 1)) hab) $$ [Hcr Hw Hr]
  · isplitr; · iexact HI
    isplitl [Hcr]; · iexact Hcr
    isplitl [Hw]; · iexact Hw
    iexact Hr
  iintro ⟨Hw, Hr, Hrr, Hsv, Hq⟩
  iapply (wp_loadSlot d (g % 2) (V p (partner p d) g) (ho.trans (offS_mod g)) inb) $$ Hsv
  iintro Hsv
  iapply (wp_loadChunk d g (V p d g) ho' inb') $$ Hch
  iintro Hch
  iapply (wp_loadChunk d g (V p d g) ho' inb') $$ Hch
  iintro Hch
  iapply (wp_storeChunk d g (V p d g) _ ho' inb') $$ Hch
  iintro Hch
  rw [hf]
  ihave Hsv := (slotAny_of d (g % 2) _) $$ Hsv
  imod (sr_next V K ιs d (g % 2) (4 * ac d p + g / 2) (by omega) (by omega)) $$ [Hsl Hsv] with Hsl
  · isplitr; · iexact HI
    isplitl [Hsl]; · iexact Hsl
    iexact Hsv
  iapply Hk
  isplitl [Hq]; · iexact Hq
  isplitl [Hs Hsr Hs']
  · iapply Hs'
    isplitl [Hs]; · iexact Hs
    iexact Hsr
  isplitl [Hr Hrr Hsl Hr']
  · iapply Hr'
    isplitl [Hr]; · iexact Hr
    isplitl [Hrr]; · iexact Hrr
    iexact Hsl
  isplitl [Ho Hch]
  · iapply (outs_put V d p g c hgc hc)
    isplitl [Hch]; · iexact Hch
    iexact Ho
  isplitl [Hf]; · iexact Hf
  isplitl [Hu]; · iexact Hu
  isplitl [Hv]; · iexact Hv
  isplitl [Htc]; · iexact Htc
  isplitl [Htr]; · iexact Htr
  isplitl [Htg]; · iexact Htg
  iexact Hw
end State

end Cert.KernelIdeal.Sort

end
-- ==== Proof.Ideal.Body.lean ====
/- The body of the kernel: its four loops, each by an invariant, and the two signals by which a device opens its slots. -/
module

public import proofs.«01_k».proof.Proof.Ideal.Phase
public import Idealize.ShloMosaic.Lib.Scf

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The body's names for views and semaphores -/

theorem oC_of {off : Fin 2 → ℕ} {c : ℕ} (h : off = offC c) (inb : ∀ a, off a + S4096x128.size a ≤ S4096x1024.size a) {hl} :
    (oM.slice (Rect.unit (s := S4096x1024) off S4096x128.size inb) hl : Memref sig .tc .vmem S4096x128 .bf16) = oC c := by subst h; rfl
theorem rS_of {off : Fin 3 → ℕ} {c : ℕ} (h : off = offS c) (inb : ∀ a, off a + S1x4096x128.size a ≤ S2x4096x128.size a) {hl} :
    ((rM.slice (Rect.unit (s := S2x4096x128) off S1x4096x128.size inb) hl).squeeze S4096x128 squeezes_S1x4096x128_S4096x128
      : Memref sig .tc .vmem S4096x128 .bf16) = rS (c % 2) := by subst h; exact rS_mod c
theorem sendS_of {off : Fin 1 → ℕ} {c : ℕ} (h : off = offP c) (inb : ∀ a, off a + S1.size a ≤ S2.size a) :
    ((cc0_scratch1.slice (Rect.unit (s := S2) off S1.size inb)).squeeze S_ squeezes_S1_S_).sem = sendS (c % 2) := by subst h; exact sendS_mod c
theorem recvS_of {off : Fin 1 → ℕ} {c : ℕ} (h : off = offP c) (inb : ∀ a, off a + S1.size a ≤ S2.size a) :
    ((cc0_scratch2.slice (Rect.unit (s := S2) off S1.size inb)).squeeze S_ squeezes_S1_S_).sem = recvS (c % 2) := by subst h; exact recvS_mod c
theorem interS_of {off : Fin 1 → ℕ} {c : ℕ} (h : off = offP c) (inb : ∀ a, off a + S1.size a ≤ S2.size a) :
    ((cc0_scratch4.slice (Rect.unit (s := S2) off S1.size inb)).squeeze S_ squeezes_S1_S_).sem = interS c := by subst h; rfl

/-- What the chunks hold through the phases: an exchange merges, a phase sat out leaves. -/
structure Steps (V : ℕ → Dev nD → ℕ → Vec F S4096x128 .bf16) : Prop where
  act : ∀ p d c, p < 16 → c < 8 → active p d = true → consV (tm p d) (unsq (V p (partner p d) c)) (V p d c) = V (p + 1) d c
  idle : ∀ p d c, ¬ active p d = true → V (p + 1) d c = V p d c

section Body
variable (V : ℕ → Dev nD → ℕ → Vec F S4096x128 .bf16) (K : Dev nD × Fin 7 → ℕ) (ιs : Key → ℕ) (d : Dev nD)

/-- The end of a program. -/
theorem wp_done {α : Type} {Q : α → sProp 𝕄} {a : α} : Q a ⊢ WP d (Prog.ret a) Q := by
  unfold WP; rw [wp_ret]; iintro H; imodintro; iexact H

/-- A counted loop that carries no value, at the head of a program. -/
theorem wp_loop {w : ℕ} {α : Type} {Q : α → sProp 𝕄} (lo : Scf.Loop w) (hok : lo.OK) (body : Fin lo.trips → Unit → Prog (TpuEff nD τ sig (Elt F) Λ₀ .tc) Unit)
    (I : ℕ → sProp 𝕄) (hbody : ∀ k u, I k.val ⊢ WP d (body k u) (fun _ => I (k.val + 1))) {kk : Unit → Prog (TpuEff nD τ sig (Elt F) Λ₀ .tc) α} :
    I 0 ⊢ iprop((I lo.trips -∗ WP d (kk ()) Q) -∗ WP d (Scf.Loop.for lo hok () body >>= kk) Q) := by
  iintro HI Hk
  iapply (Scf.wp_for_bind _ _ _ lo.lb lo.ub lo.st hok () body (fun k _ => I k) hbody) $$ HI
  iintro %u HI
  iapply Hk
  iexact HI

/-- The first round of every cell of signals across phases is open. -/
def InterR : sProp 𝕄 := bigSep Finset.univ (fun k : Key => reached ER (interC k.1 k.2.val) 0)
instance InterR_persistent : BI.Persistent (InterR (F := F)) := by unfold InterR; infer_instance
omit [FloatOps F] in
theorem interR_get (n : Dev nD) (P : ℕ) : InterR (F := F) ⊢ reached ER (interC n (P % 2)) 0 := by
  unfold InterR; exact big_elim (Finset.mem_univ ((n, Fin.ofNat 2 P) : Key))

/-- What is used by every trip of a phase. -/
def Ctx (p : ℕ) : sProp 𝕄 := iprop(Invs V K ιs ∗ InterR ∗ reached ER (intraC d) (ac d p))
instance Ctx_persistent (p : ℕ) : BI.Persistent (Ctx V K ιs d p) := by unfold Ctx; infer_instance

/-- The two waits before a copy, of which one applies. -/
theorem step_waits {α : Type} {Q : α → sProp 𝕄} (p c : ℕ) (hp : p < 16) (ha : active p d = true) (hc : c < 8) {P2 P3 : Prop} [Decidable P2] [Decidable P3] (e2 : P2 ↔ 2 ≤ c) (e3 : P3 ↔ c < 2)
    {w2 : P2 → TpuEff nD τ sig (Elt F) Λ₀ .tc PUnit} {w3 : P3 → TpuEff nD τ sig (Elt F) Λ₀ .tc PUnit} {k : Prog (TpuEff nD τ sig (Elt F) Λ₀ .tc) α}
    (hw2 : ∀ h (Kt : PUnit → sProp 𝕄), wpE (defs₀ (F := F)) 𝒱₀ (d : Thread nD τ) none Set.univ (w2 h) Kt = waitSpec (d : Thread nD τ) Set.univ (.reg intraS) 1 Kt)
    (hw3 : ∀ h (Kt : PUnit → sProp 𝕄), wpE (defs₀ (F := F)) 𝒱₀ (d : Thread nD τ) none Set.univ (w3 h) Kt = waitSpec (d : Thread nD τ) Set.univ (.reg (interS (p % 2))) 1 Kt) :
    iprop(Invs V K ιs ∗ St V d p c (c - 1) (c - 1))
      ⊢ iprop((Md V d p c (c - 1) -∗ WP d k Q)
        -∗ WP d (if h2 : P2 then .op (w2 h2) (fun _ => if h3 : P3 then .op (w3 h3) (fun _ => k) else k) else if h3 : P3 then .op (w3 h3) (fun _ => k) else k) Q) := by
  rcases Nat.lt_or_ge c 2 with h2 | h2
  · rw [dif_neg (fun h => absurd (e2.mp h) (by omega)), dif_pos (e3.mpr h2)]
    exact step_inter (k := fun _ => k) V K ιs d p c hp ha h2 (hw3 _)
  · rw [dif_pos (e2.mpr h2), dif_neg (fun h => absurd (e3.mp h) (by omega))]
    exact step_intra (k := fun _ => k) V K ιs d p c hp ha hc h2 (hw2 _)

/-- The signal across phases after a chunk, if a phase follows. -/
theorem step_grants {α : Type} {Q : α → sProp 𝕄} (p c g : ℕ) (hp : p < 16) (ha : active p d = true) (hg : ¬ g < 6) (hg8 : g < 8) {P6 : Prop} [Decidable P6] (e6 : P6 ↔ nextP d p < 16)
    {n6 : P6 → Dev nD} {s6 : P6 → Sem sig} {k6 : P6 → ℕ} (hn6 : ∀ h, n6 h = partner (nextP d p) d) (hs6 : ∀ h, s6 h = interS (nextP d p)) (hk6 : ∀ h, k6 h = 1)
    {k : Prog (TpuEff nD τ sig (Elt F) Λ₀ .tc) α} :
    iprop(Invs V K ιs ∗ InterR ∗ St V d p c (g + 1) g)
      ⊢ iprop((St V d p c (g + 1) (g + 1) -∗ WP d k Q)
        -∗ WP d (if h6 : P6 then .op (.semSignal (n6 h6 : Thread nD τ) (s6 h6) (k6 h6)) (fun _ => k) else k) Q) := by
  by_cases hx : nextP d p < 16
  · rw [dif_pos (e6.mpr hx)]
    iintro ⟨#HI, #HR, HS⟩ Hk
    iapply (step_grant V K ιs d _ p c g hp ha hg hg8 hx (hn6 _) (hs6 _) (hk6 _)) $$ [HS]
    · isplitr; · iexact HI
      isplitr; · iapply (interR_get (partner (nextP d p) d) (nextP d p)); iexact HR
      iexact HS
    iexact Hk
  · rw [dif_neg (fun h => hx (e6.mp h))]
    iintro ⟨-, -, HS⟩ Hk
    iapply Hk
    iapply (step_none V d p c (g + 1) g hg hg8 hx)
    iexact HS

/-- The signals after a chunk. -/
theorem step_signals {α : Type} {Q : α → sProp 𝕄} (p c g : ℕ) (hp : p < 16) (ha : active p d = true) (hg8 : g < 8) {P5 P6 : Prop} [Decidable P5] [Decidable P6]
    (e5 : P5 ↔ g < 6) (e6 : P6 ↔ ¬ g < 6 ∧ nextP d p < 16)
    {n5 : P5 → Dev nD} {s5 : P5 → Sem sig} {k5 : P5 → ℕ} (hn5 : ∀ h, n5 h = partner p d) (hs5 : ∀ h, s5 h = intraS) (hk5 : ∀ h, k5 h = 1)
    {n6 : P6 → Dev nD} {s6 : P6 → Sem sig} {k6 : P6 → ℕ} (hn6 : ∀ h, n6 h = partner (nextP d p) d) (hs6 : ∀ h, s6 h = interS (nextP d p)) (hk6 : ∀ h, k6 h = 1)
    {k : Prog (TpuEff nD τ sig (Elt F) Λ₀ .tc) α} :
    iprop(Invs V K ιs ∗ InterR ∗ reached ER (intraC (partner p d)) (ac (partner p d) p) ∗ St V d p c (g + 1) g)
      ⊢ iprop((St V d p c (g + 1) (g + 1) -∗ WP d k Q)
        -∗ WP d (if h5 : P5 then .op (.semSignal (n5 h5 : Thread nD τ) (s5 h5) (k5 h5))
              (fun _ => if h6 : P6 then .op (.semSignal (n6 h6 : Thread nD τ) (s6 h6) (k6 h6)) (fun _ => k) else k)
            else if h6 : P6 then .op (.semSignal (n6 h6 : Thread nD τ) (s6 h6) (k6 h6)) (fun _ => k) else k) Q) := by
  by_cases hg : g < 6
  · rw [dif_pos (e5.mpr hg), dif_neg (fun h => (e6.mp h).1 hg)]
    iintro ⟨#HI, -, #Hq, HS⟩ Hk
    iapply (step_sig V K ιs d _ p c g hp ha hg (hn5 _) (hs5 _) (hk5 _)) $$ [HS]
    · isplitr; · iexact HI
      isplitr; · iexact Hq
      iexact HS
    iexact Hk
  · rw [dif_neg (fun h => hg (e5.mp h))]
    iintro ⟨#HI, #HR, -, HS⟩ Hk
    iapply (step_grants V K ιs d p c g hp ha hg hg8 (e6.trans (and_iff_right hg)) hn6 hs6 hk6) $$ [HS]
    · isplitr; · iexact HI
      isplitr; · iexact HR
      iexact HS
    iexact Hk

/-- One trip of the copying loop. -/
theorem trip3 (hV : Steps V) (p : Fin k0_t2_loop.trips) (h1 : k0_cond1 d p = 1#1) (ha : active p.val d = true) (v16 : BitVec 1) (arg7 v56 : BitVec 32) (v60 : BitVec 1)
    (hv : v60 = tm p.val d) (v63 : BitVec 32) (v66 : BitVec 1) (c : Fin k0_t3_loop.trips) (u : Unit) :
    iprop(Ctx V K ιs d p.val ∗ St V d p.val c.val (c.val - 1) (c.val - 1))
      ⊢ WP d (k0_t3_body (F := F) xM (Memref.isWhole_whole _) oM (Memref.isWhole_whole _) rM (Memref.isWhole_whole _) cc0_scratch1 cc0_scratch2 cc0_scratch3 cc0_scratch4
          d v16 p arg7 v56 v60 v63 v66 h1 c u) (fun _ => iprop(Ctx V K ιs d p.val ∗ St V d p.val (c.val + 1) (c.val + 1 - 1) (c.val + 1 - 1))) := by
  have hp : p.val < 16 := trips2 ▸ p.isLt
  have hc : c.val < 8 := trips3 ▸ c.isLt
  unfold k0_t3_body
  simp only [k0_part35_eq_skeleton, k0_part36_eq_skeleton]
  unfold k0_part35_skel k0_part36_skel
  simp only [part37_eq, part38_eq, semSignalWord, semWaitWord, Prog.lift, Prog.bind_op, Prog.bind_ret, Prog.pure_eq_ret]
  unfold Ctx
  iintro ⟨#HC, HS⟩
  icases HC with ⟨#HI, #HR, #Hr⟩
  iapply (step_waits V K ιs d p.val c.val hp ha hc (cond2_iff c) (cond3_iff c) (fun _ => wpE_semWait_eq 𝒱₀ (d : Thread nD τ) none Set.univ) (fun _ => by
      rw [interS_of (off2_eq p), interS_mod]; exact wpE_semWait_eq 𝒱₀ (d : Thread nD τ) none Set.univ)) $$ [HS]
  · isplitr; · iexact HI
    iexact HS
  iintro HM
  iapply (step_copy V K ιs d _ p.val c.val hp ha hc (dev3_eq d p _ ha) (oC_of (off5_eq c) _) (rS_of (off4_eq c) _) (sendS_of (off3_eq c) _) (recvS_of (off3_eq c) _)) $$ [HM]
  · isplitr; · iexact HI
    isplitr; · iexact Hr
    iexact HM
  iintro HS
  by_cases h4 : 1 ≤ c.val
  · rw [dif_pos ((cond4_iff c).mpr h4)]
    iapply (step_consume V K ιs d p.val (c.val + 1) (c.val - 1) hp ha (by omega) (by omega) (by omega) (f := fun v w => consV v60 v w)
      (by rw [hv]; exact hV.act p.val d _ hp (by omega) ha)
      (sendS_of (off6_eq c h4) _) (recvS_of (off6_eq c h4) _) (oC_of (off7_eq c h4) _) (rS_of (off8_eq c h4) _) (off9_eq c h4) (off10_eq c h4)) $$ [HS]
    · isplitr; · iexact HI
      iexact HS
    iintro ⟨#Hq, HS⟩
    rw [show c.val + 1 - 1 = c.val - 1 + 1 by omega]
    iapply (step_signals V K ιs d p.val (c.val + 1) (c.val - 1) hp ha (by omega) (cond5_iff c) (cond6_iff c d p) (fun _ => dev4_eq d p _ ha) (fun _ => rfl) (fun _ => rfl)
      (fun h => dev5_eq d p _ ha ((cond6_iff c d p).mp h).2) (fun h => interS_of (off11_eq d p) _) (fun _ => rfl)) $$ [HS]
    · isplitr; · iexact HI
      isplitr; · iexact HR
      isplitr; · iexact Hq
      iexact HS
    iintro HS
    iapply (wp_done d)
    isplitr
    · isplitr; · iexact HI
      isplitr; · iexact HR
      iexact Hr
    iexact HS
  · rw [dif_neg (fun h => absurd ((cond4_iff c).mp h) h4)]
    iapply (wp_done d)
    isplitr
    · isplitr; · iexact HI
      isplitr; · iexact HR
      iexact Hr
    rw [show c.val + 1 - 1 = c.val - 1 by omega]
    iexact HS
end Body
end Cert.KernelIdeal.Sort
end
-- ==== Proof.Ideal.Phases.lean ====
/- A whole phase of the kernel, and the loop over the phases. -/
module

public import proofs.«01_k».proof.Proof.Ideal.Body

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Phases
variable (V : ℕ → Dev nD → ℕ → Vec F S4096x128 .bf16) (K : Dev nD × Fin 7 → ℕ) (ιs : Key → ℕ) (d : Dev nD)

/-- The owner's place on the cell of signals across phases of parity `e` before phase `p`; the end devices have no odd phase. -/
def IP (e p : ℕ) : sProp 𝕄 :=
  if e = 1 ∧ edge d = true then atPos ER (interC d e) 0 ∅ 0 else UPos (interPay (F := F) d e) (interC d e) 0 16 (taken e p)
def IPs (p : ℕ) : sProp 𝕄 := iprop(IP (F := F) d 0 p ∗ IP (F := F) d 1 p)

omit [FloatOps F] in
theorem ip_same (e p : ℕ) (h : (p + 1 - e) / 2 = (p + 1 + 1 - e) / 2) : IP (F := F) d e p = IP d e (p + 1) := by
  unfold IP taken; rw [h]
omit [FloatOps F] in
theorem ip_at (e p m : ℕ) (h : ¬ (e = 1 ∧ edge d = true)) (hm : taken e p = m) : IP (F := F) d e p = UPos (interPay (F := F) d e) (interC d e) 0 16 m := by
  unfold IP; rw [if_neg h, hm]

omit [FloatOps F] in
theorem ips_take (p : ℕ) (ha : active p d = true) :
    IPs (F := F) d p ⊢ iprop(UPos (interPay (F := F) d (p % 2)) (interC d (p % 2)) 0 16 (2 * (p / 2))
      ∗ (UPos (interPay (F := F) d (p % 2)) (interC d (p % 2)) 0 16 (2 * (p / 2) + 2) -∗ IPs d (p + 1))) := by
  unfold IPs
  rcases Nat.mod_two_eq_zero_or_one p with h | h
  · rw [h, ip_at d 0 p (2 * (p / 2)) (fun h => absurd h.1 (by decide)) (by unfold taken; omega), ip_same d 1 p (by omega),
      ip_at d 0 (p + 1) (2 * (p / 2) + 2) (fun h => absurd h.1 (by decide)) (by unfold taken; omega)]
    iintro ⟨H0, H1⟩
    isplitl [H0]; · iexact H0
    iintro H0
    isplitl [H0]; · iexact H0
    iexact H1
  · have he : ¬ ((1 : ℕ) = 1 ∧ edge d = true) := fun hh => by have := edge_parity hh.2 ha; omega
    rw [h, ip_at d 1 p (2 * (p / 2)) he (by unfold taken; omega), ip_same d 0 p (by omega),
      ip_at d 1 (p + 1) (2 * (p / 2) + 2) he (by unfold taken; omega)]
    iintro ⟨H0, H1⟩
    isplitl [H1]; · iexact H1
    iintro H1
    isplitl [H0]; · iexact H0
    iexact H1

theorem edge_of_idle {p : ℕ} {d : Dev nD} (ha : ¬ active p d = true) : edge d = true ∧ p % 2 = 1 := by
  rw [active_mod] at ha
  rcases Nat.mod_two_eq_zero_or_one p with h | h <;> rw [h] at ha
  · exact absurd (active_zero d) ha
  · exact ⟨(by decide +kernel : ∀ d : Dev nD, ¬ active 1 d = true → edge d = true) d ha, h⟩

omit [FloatOps F] in
theorem ips_skip (p : ℕ) (ha : ¬ active p d = true) : IPs (F := F) d p = IPs d (p + 1) := by
  have h := edge_of_idle ha
  unfold IPs
  rw [ip_same d 0 p (by omega)]
  congr 1
  unfold IP
  rw [if_pos ⟨rfl, h.1⟩, if_pos ⟨rfl, h.1⟩]

/-- What a phase uses up. -/
def tok (p : ℕ) : sProp 𝕄 := if active p d = true then iprop(TC (F := F) d p 0 ∗ TR (F := F) d p 0 ∗ TG (F := F) d p 0) else iprop(emp)

/-- What a device holds before phase `p`. -/
def Ph (p : ℕ) : sProp 𝕄 :=
  iprop(SndS (F := F) d p 0 ∗ RcvS (F := F) d p 0 ∗ Outs V d p 0 0 ∗ atPos ER (intraC d) (ac d p) ∅ 0 ∗ reached ER (intraC d) (ac d p)
    ∗ IPs (F := F) d p ∗ bigSep (Finset.Ico p 16) (fun i => tok (F := F) d i) ∗ owesE (F := F) d (Ow d p))

omit [FloatOps F] in
theorem ph_enter (p : ℕ) (hp : p < 16) (ha : active p d = true) :
    Ph V d p ⊢ iprop(St V d p 0 0 0 ∗ reached ER (intraC d) (ac d p) ∗ bigSep (Finset.Ico (p + 1) 16) (fun i => tok (F := F) d i)
      ∗ (UPos (interPay (F := F) d (p % 2)) (interC d (p % 2)) 0 16 (2 * (p / 2) + 2) -∗ IPs d (p + 1))) := by
  unfold Ph
  rw [bigSep_Ico_succ_bot hp, Ow_active d hp ha]
  unfold tok; rw [if_pos ha]
  iintro ⟨Hs, Hr, Ho, Hat, #Hrc, Hi, ⟨⟨Htc, Htr, Htg⟩, Ht⟩, Hw⟩
  ihave Hi := (ips_take d p ha) $$ Hi
  icases Hi with ⟨Hi, Hi'⟩
  isplitl [Hs Hr Ho Hat Hi Htc Htr Htg Hw]
  · unfold St
    isplitl [Hs]; · iexact Hs
    isplitl [Hr]; · iexact Hr
    isplitl [Ho]; · iexact Ho
    isplitr
    · unfold Fly; rw [Finset.Ico_self, bigSep_empty]; iempintro
    isplitl [Hat]; · iapply (upos_start (intraPay (F := F) d (ac d p)) (intraC d) (ac d p) 6); iexact Hat
    isplitl [Hi]; · iexact Hi
    isplitl [Htc]; · iexact Htc
    isplitl [Htr]; · iexact Htr
    isplitl [Htg]; · iexact Htg
    iexact Hw
  isplitr; · iexact Hrc
  isplitl [Ht]; · iexact Ht
  iexact Hi'

omit [FloatOps F] in
theorem snd_next (p : ℕ) (ha : active p d = true) : SndS (F := F) d p 8 = SndS d (p + 1) 0 := by
  unfold SndS; rw [pos_next d ha 0 (by decide), pos_next d ha 1 (by decide)]
omit [FloatOps F] in
theorem rcv_next (p : ℕ) (ha : active p d = true) : RcvS (F := F) d p 8 = RcvS d (p + 1) 0 := by
  unfold RcvS; rw [pos_next d ha 0 (by decide), pos_next d ha 1 (by decide)]

theorem ph_leave (p : ℕ) (hp : p < 16) (ha : active p d = true) :
    iprop(Invs V K ιs ∗ St V d p 8 8 8 ∗ bigSep (Finset.Ico (p + 1) 16) (fun i => tok (F := F) d i)
      ∗ (UPos (interPay (F := F) d (p % 2)) (interC d (p % 2)) 0 16 (2 * (p / 2) + 2) -∗ IPs d (p + 1))) ⊢ iprop(|={Set.univ}=> Ph V d (p + 1)) := by
  have hd := ac_lt hp ha
  unfold St Ph
  rw [outs_done, snd_next d p ha, rcv_next d p ha, rem_done, ac_succ_active ha]
  iintro ⟨#HI, ⟨Hs, Hr, Ho, -, Hu, Hi, -, -, -, Hw⟩, Ht, Hi'⟩
  imod (upos_close V (intraPay (F := F) d (ac d p)) (K (d, 4)) (intraC d) (ac d p) 6 (duties_intra V d hd) (expect_intra V d hd)) $$ [Hu] with Hu
  · isplitr; · iapply (inv_intra V K ιs d); iexact HI
    iexact Hu
  icases Hu with ⟨Hat, Hrc⟩
  imodintro
  isplitl [Hs]; · iexact Hs
  isplitl [Hr]; · iexact Hr
  isplitl [Ho]; · iexact Ho
  isplitl [Hat]; · iexact Hat
  isplitl [Hrc]; · iexact Hrc
  isplitl [Hi Hi']; · iapply Hi'; iexact Hi
  isplitl [Ht]; · iexact Ht
  iexact Hw

theorem ph_skip (hV : Steps V) (p : ℕ) (hp : p < 16) (ha : ¬ active p d = true) : Ph V d p ⊢ Ph V d (p + 1) := by
  unfold Ph
  rw [bigSep_Ico_succ_bot hp, Ow_inactive d hp ha, ips_skip d p ha, outs_skip V d p (fun c _ => hV.idle p d c ha), ac_succ_inactive ha]
  unfold SndS RcvS
  rw [pos_skip d ha, pos_skip d ha]
  iintro ⟨Hs, Hr, Ho, Hat, Hrc, Hi, ⟨-, Ht⟩, Hw⟩
  isplitl [Hs]; · iexact Hs
  isplitl [Hr]; · iexact Hr
  isplitl [Ho]; · iexact Ho
  isplitl [Hat]; · iexact Hat
  isplitl [Hrc]; · iexact Hrc
  isplitl [Hi]; · iexact Hi
  isplitl [Ht]; · iexact Ht
  iexact Hw

/-- One trip of the loop over the phases. -/
theorem trip2 (hV : Steps V) (p : Fin k0_t2_loop.trips) (u : Unit) :
    iprop(Invs V K ιs ∗ InterR ∗ Ph V d p.val)
      ⊢ WP d (k0_t2_body (F := F) xM (Memref.isWhole_whole _) oM (Memref.isWhole_whole _) rM (Memref.isWhole_whole _) cc0_scratch1 cc0_scratch2 cc0_scratch3 cc0_scratch4
          d (wMy d) (wOdd d) (wEdge d) 0#32 p u) (fun _ => iprop(Invs V K ιs ∗ InterR ∗ Ph V d (p.val + 1))) := by
  have hp : p.val < 16 := trips2 ▸ p.isLt
  unfold k0_t2_body
  simp only [part43_eq, Prog.pure_eq_ret, Prog.bind_ret]
  by_cases ha : active p.val d = true
  · have h1 := (cond1_iff d p).mpr ha
    rw [dif_pos h1]
    simp only [k0_part39_eq_skeleton, k0_part40_eq_skeleton]
    unfold k0_part39_skel k0_part40_skel
    simp only [part41_eq, part42_eq, semSignalWord, semWaitWord, Prog.lift, Prog.bind_op, Prog.bind_ret, Prog.pure_eq_ret, Prog.bind_assoc]
    iintro ⟨#HI, #HR, HP⟩
    ihave HP := (ph_enter V d p.val hp ha) $$ HP
    icases HP with ⟨HS, #Hr, Ht, Hi⟩
    iapply (wp_loop d k0_t3_loop _ _ (fun c => iprop(Ctx V K ιs d p.val ∗ St V d p.val c (c - 1) (c - 1)))
      (fun c u => trip3 V K ιs d hV p h1 ha _ _ _ _ (tm_eq' d p ha) _ _ c u)) $$ [HS]
    · isplitr
      · unfold Ctx
        isplitr; · iexact HI
        isplitr; · iexact HR
        iexact Hr
      iexact HS
    rw [trips3]
    iintro ⟨-, HS⟩
    iapply (step_consume V K ιs d p.val 8 7 hp ha (by omega) (by omega) (by omega)
      (f := fun v w => consLastV (out43 (wMy d) (wOdd d) (wEdge d) 0#32 1#32 p).2.2.1 v w)
      (by rw [consLastV_eq, tm_eq' d p ha]; exact hV.act p.val d _ hp (by omega) ha)
      (sendS_of off12_eq _) (recvS_of off12_eq _) (oC_of off13_eq _) (rS_of off14_eq _) off15_eq off16_eq) $$ [HS]
    · isplitr; · iexact HI
      iexact HS
    iintro ⟨-, HS⟩
    rw [dif_neg cond7_not]
    iapply (step_grants V K ιs d p.val 8 7 hp ha (by omega) (by omega) (cond8_iff d p)
      (fun h => dev7_eq d p _ ha ((cond8_iff d p).mp h)) (fun h => interS_of (off17_eq d p) _) (fun _ => rfl)) $$ [HS]
    · isplitr; · iexact HI
      isplitr; · iexact HR
      iexact HS
    iintro HS
    imod (ph_leave V K ιs d p.val hp ha) $$ [HS Ht Hi] with HP
    · isplitr; · iexact HI
      isplitl [HS]; · iexact HS
      isplitl [Ht]; · iexact Ht
      iexact Hi
    iapply (wp_done d)
    isplitr; · iexact HI
    isplitr; · iexact HR
    iexact HP
  · rw [dif_neg (fun h => ha ((cond1_iff d p).mp h))]
    iintro ⟨HI, HR, HP⟩
    iapply (wp_done d)
    isplitl [HI]; · iexact HI
    isplitl [HR]; · iexact HR
    iapply (ph_skip V d hV p.val hp ha); iexact HP
end Phases
end Cert.KernelIdeal.Sort
end
-- ==== Proof.Ideal.Deal.lean ====
/- What the launch deals: the credits every device is owed by its partners, and the tokens of what each device pays,
   phase by phase. Both are first listed by the device they point at, then handed to the partner of each phase. -/
module

public import proofs.«01_k».proof.Proof.Ideal.Phases

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The phases of a device -/

/-- The phases a device takes part in; -/
def acts (d : Dev nD) : Finset ℕ := (Finset.Ico 0 16).filter (fun p => active p d = true)
/-- those with another after them. -/
def nexts (d : Dev nD) : Finset ℕ := (acts d).filter (fun p => nextP d p < 16)
theorem next_image (d : Dev nD) : (nexts d).image (nextP d) = (acts d).erase 0 := (by decide +kernel : ∀ d : Dev nD, (nexts d).image (nextP d) = (acts d).erase 0) d
theorem zero_acts (d : Dev nD) : 0 ∈ acts d := (by decide +kernel : ∀ d : Dev nD, 0 ∈ acts d) d
theorem next_inj (d : Dev nD) (s : Finset ℕ) : Set.InjOn (nextP d) s := fun a _ b _ h => by
  unfold nextP at h; split at h <;> omega
theorem mem_acts {d : Dev nD} {p : ℕ} : p ∈ acts d ↔ p < 16 ∧ active p d = true := by unfold acts; simp

/-- A sum over a device's phases, as the first phase's term and the terms of the phases after its phases. -/
theorem sum_next {M : Type} [AddCommMonoid M] (d : Dev nD) (g : ℕ → M) :
    (∑ p ∈ acts d, if nextP d p < 16 then g (nextP d p) else 0) + g 0 = ∑ p ∈ acts d, g p := by
  rw [← Finset.sum_filter, show (acts d).filter (fun p => nextP d p < 16) = nexts d from rfl, ← Finset.sum_image (f := g) (next_inj d _), next_image,
    Finset.sum_erase_add _ _ (zero_acts d)]

omit [FloatOps F] in
theorem bigSep_next (d : Dev nD) (Φ : ℕ → sProp 𝕄) :
    bigSep (acts d) Φ = iprop(Φ 0 ∗ bigSep (acts d) (fun p => if nextP d p < 16 then Φ (nextP d p) else iprop(emp))) := by
  rw [big_erase (zero_acts d), ← next_image, bigSep_image_of_injOn (next_inj d _)]
  unfold nexts; rw [bigSep_filter]; rfl

/-! ## Owed -/

/-- What a device is owed in phase `p`. -/
def owedAt (c : Dev nD) (p : ℕ) : CellTallies nD τ sig ℕ :=
  (∑ i ∈ Finset.range 8, tallyAt (recvC c (i % 2)) (32 * p + 2 * i + 4) N)
    + ((∑ i ∈ Finset.range 6, tallyAt (intraC c) (32 * p + 2 * i + 7) 1) + ∑ j ∈ Finset.range 2, tallyAt (interC c (p % 2)) (32 * p + 1 + j) 1)
/-- and in all. -/
def owedTo (c : Dev nD) : CellTallies nD τ sig ℕ := ∑ p ∈ acts c, owedAt c p

theorem Ow_acts (d : Dev nD) : Ow d 0 = ∑ p ∈ acts d, rem d p 0 0 := by
  unfold Ow acts; rw [Finset.sum_filter]

theorem O₀_eq (d : Dev nD) : O₀ d = ∑ p ∈ acts d, owedAt (partner p d) p := by
  have h1 : ∀ p, rem d p 0 0 = ((∑ i ∈ Finset.range 8, tallyAt (recvC (partner p d) (i % 2)) (32 * p + 2 * i + 4) N)
      + ∑ i ∈ Finset.range 6, tallyAt (intraC (partner p d)) (32 * p + 2 * i + 7) 1)
      + if nextP d p < 16 then ∑ j ∈ Finset.range 2, grantE d (nextP d p) j else 0 := by
    intro p
    unfold rem
    rw [← Finset.range_eq_Ico, add_assoc]
    refine congrArg₂ (· + ·) rfl ?_
    rw [show (8 : ℕ) = 6 + 2 from rfl, Finset.sum_range_add]
    refine congrArg₂ (· + ·) (Finset.sum_congr rfl fun i hi => ?_) ?_
    · unfold sigE; rw [if_pos (Finset.mem_range.mp hi)]
    · split
      · rename_i h
        refine Finset.sum_congr rfl fun j hj => ?_
        unfold sigE; rw [if_neg (by omega), if_pos h, show 6 + j - 6 = j by omega]
      · rename_i h
        refine Finset.sum_eq_zero fun j hj => ?_
        unfold sigE; rw [if_neg (by omega), if_neg h]
  have h2 := sum_next d (fun p => ∑ j ∈ Finset.range 2, grantE d p j)
  unfold O₀
  rw [Ow_acts, Finset.sum_congr rfl fun p _ => h1 p, Finset.sum_add_distrib, add_assoc, add_assoc]
  rw [show grantE d 0 1 + grantE d 0 0 = ∑ j ∈ Finset.range 2, grantE d 0 j by rw [Finset.sum_range_succ, Finset.sum_range_one, add_comm]]
  rw [h2, ← Finset.sum_add_distrib]
  refine Finset.sum_congr rfl fun p _ => ?_
  unfold owedAt grantE; rw [add_assoc]

/-- The partner of a phase, as a pairing of the devices. -/
def pairing (p : ℕ) : Dev nD ≃ Dev nD := ⟨partner p, partner p, partner_partner p, partner_partner p⟩

theorem sum_owed : (∑ d : Dev nD, O₀ d) = ∑ d, owedTo d := by
  rw [Finset.sum_congr rfl fun d _ => O₀_eq d]
  unfold owedTo acts
  simp only [Finset.sum_filter]
  rw [Finset.sum_comm, Finset.sum_comm (s := Finset.univ) (f := fun d p => if active p d = true then owedAt d p else 0)]
  refine Finset.sum_congr rfl fun p _ => ?_
  rw [← Equiv.sum_comp (pairing p) (fun d => if active p d = true then owedAt d p else 0)]
  refine Finset.sum_congr rfl fun d _ => ?_
  show _ = if active p (partner p d) = true then owedAt (partner p d) p else 0
  rw [active_partner]

/-- Everything in a tally points at one device. -/
def At (c : Dev nD) (O : CellTallies nD τ sig ℕ) : Prop := ∀ g, O g ≠ 0 → g.1 = (c : Thread nD τ)
theorem At.add {c : Dev nD} {O O' : CellTallies nD τ sig ℕ} (h : At c O) (h' : At c O') : At c (O + O') := fun g hg => by
  by_cases h0 : O g = 0
  · exact h' g fun h1 => hg (by rw [Pi.add_apply, h0, h1, add_zero])
  · exact h g h0
theorem At.sum {c : Dev nD} {I : Type} (s : Finset I) (O : I → CellTallies nD τ sig ℕ) (h : ∀ i ∈ s, At c (O i)) : At c (∑ i ∈ s, O i) := by
  classical
  induction s using Finset.induction_on with
  | empty => exact fun g hg => absurd rfl hg
  | insert a s ha ih =>
    rw [Finset.sum_insert ha]
    exact (h a (Finset.mem_insert_self _ _)).add (ih fun i hi => h i (Finset.mem_insert_of_mem hi))
theorem At.tally (c : Dev nD) (sm : SemLoc sig) (i n : ℕ) : At c (tallyAt ((c : Thread nD τ), sm) i n) := fun g hg => by
  by_contra hne
  exact hg (tallyAt_ne_cell (fun h => hne (congrArg Prod.fst h)) i n)

theorem owedTo_at (c : Dev nD) : At c (owedTo c) :=
  .sum _ _ fun p _ => .add (.sum _ _ fun i _ => .tally _ _ _ _) (.add (.sum _ _ fun i _ => .tally _ _ _ _) (.sum _ _ fun i _ => .tally _ _ _ _))

omit [FloatOps F] in
theorem cred_add' (a b : CellTallies nD τ sig ℕ) : (cred (a + b) : sProp 𝕄) = iprop(cred a ∗ cred b) :=
  BI.Entails.antisymm (cred_add _ _).1 (cred_add _ _).2

omit [FloatOps F] in
theorem sep_comm_eq (a b : sProp 𝕄) : iprop(a ∗ b) = iprop(b ∗ a) := BI.Entails.antisymm BI.sep_comm BI.sep_comm

omit [FloatOps F] in
theorem sep_left (a b c : sProp 𝕄) : iprop(a ∗ b ∗ c) ⊢ iprop(b ∗ a ∗ c) := by
  iintro ⟨H, H1, H2⟩
  isplitl [H1]; · iexact H1
  isplitl [H]; · iexact H
  iexact H2

omit [FloatOps F] in
/-- A range as an initial part and the rest, shifted. -/
theorem bigSep_range_add (a b : ℕ) (Φ : ℕ → sProp 𝕄) :
    bigSep (Finset.range (a + b)) Φ = iprop(bigSep (Finset.range a) Φ ∗ bigSep (Finset.range b) (fun i => Φ (a + i))) := by
  induction b with
  | zero => rw [Finset.range_zero, bigSep_empty]; exact (BI.equiv_iff.mp BI.sep_emp).symm
  | succ b ih =>
    rw [← Nat.add_assoc, bigSep_range_succ, ih, bigSep_range_succ]
    exact BI.Entails.antisymm (sep_left _ _ _) (sep_left _ _ _)

omit [FloatOps F] in
/-- The launch credit, phase by phase. -/
theorem creds (c : Dev nD) : (Pipeline.launchCred O₀ c : sProp 𝕄)
    = bigSep (acts c) (fun p => iprop(bigSep (Finset.range 8) (fun i => credR (F := F) c p i) ∗ bigSep (Finset.range 8) (fun i => credC (F := F) c p i))) := by
  rw [Pipeline.launchCred_of_sum O₀ owedTo sum_owed (fun d => owedTo_at d)]
  unfold owedTo
  rw [Pipeline.cred_finsetSum]
  refine bigSep_congr fun p _ => ?_
  unfold owedAt
  rw [cred_add', cred_add', Pipeline.cred_finsetSum, Pipeline.cred_finsetSum, Pipeline.cred_finsetSum]
  refine congrArg₂ (fun a b => iprop(a ∗ b)) rfl ?_
  rw [show (8 : ℕ) = 2 + 6 from rfl, bigSep_range_add 2 6]
  rw [sep_comm_eq (bigSep (Finset.range 6) _)]
  refine congrArg₂ (fun a b => iprop(a ∗ b)) (bigSep_congr fun i hi => ?_) (bigSep_congr fun i hi => ?_)
  · unfold credC; rw [if_pos (Finset.mem_range.mp hi)]
  · unfold credC; rw [if_neg (by omega), show 2 + i - 2 = i by omega]

/-! ## Tokens -/

omit [FloatOps F] in
theorem shuffle (a b c e : sProp 𝕄) : iprop((a ∗ b) ∗ c ∗ e) ⊢ iprop(a ∗ e ∗ c ∗ b) := by
  iintro ⟨⟨H1, H2⟩, H3, H4⟩
  isplitl [H1]; · iexact H1
  isplitl [H4]; · iexact H4
  isplitl [H3]; · iexact H3
  iexact H2
omit [FloatOps F] in
theorem shuffle' (a b c e : sProp 𝕄) : iprop(a ∗ e ∗ c ∗ b) ⊢ iprop((a ∗ b) ∗ c ∗ e) := by
  iintro ⟨H1, H4, H3, H2⟩
  isplitl [H1 H2]
  · isplitl [H1]; · iexact H1
    iexact H2
  isplitl [H3]; · iexact H3
  iexact H4

section Tokens
variable (d : Dev nD)

/-- The tokens pointing at a device in phase `p`: of its sends, -/
def tS (p : ℕ) : sProp 𝕄 := bigSep (Finset.range 8) (fun i => dutyTok ER (sendC d (i % 2)) (4 * ac d p + i / 2) 0)
/-- of the landings in its slots, -/
def tR (p : ℕ) : sProp 𝕄 := bigSep (Finset.range 8) (fun i => dutyTok ER (recvC d (i % 2)) (4 * ac d p + i / 2) 0)
/-- of the writes of its slots, -/
def tW (p : ℕ) : sProp 𝕄 := bigSep (Finset.range 8) (fun i => writeTok ES (d, Fin.ofNat 2 (i % 2)) (4 * ac d p + i / 2 + 1))
/-- of the signals within the phase -/
def tA (p : ℕ) : sProp 𝕄 := bigSep (Finset.range 6) (fun i => dutyTok ER (intraC d) (ac d p) i)
/-- and of the two that open it. -/
def tE (p : ℕ) : sProp 𝕄 := bigSep (Finset.range 2) (fun j => dutyTok ER (interC d (p % 2)) 0 (interI p j))

/-- How many tokens of each kind there are in a phase. -/
def cnt : Fin 4 → ℕ := ![8, 8, 6, 2]
/-- The tokens of a device, by phase, kind and number. -/
def dutyIx : Finset (Σ _ : ℕ, Σ _ : Fin 4, ℕ) := (acts d).sigma fun _ => Finset.univ.sigma fun k => Finset.range (cnt k)
/-- Cell, round and number of a token. -/
def dutyOf (x : Σ _ : ℕ, Σ _ : Fin 4, ℕ) : Fin 7 × ℕ × ℕ :=
  match x.2.1 with
  | 0 => (kSend x.2.2, 4 * ac d x.1 + x.2.2 / 2, 0)
  | 1 => (kRecv x.2.2, 4 * ac d x.1 + x.2.2 / 2, 0)
  | 2 => (4, ac d x.1, x.2.2)
  | 3 => (kInter x.1, 0, interI x.1 x.2.2)

theorem ac_inj {p q : ℕ} (hp : active p d = true) (hq : active q d = true) (h : ac d p = ac d q) : p = q := by
  rw [← actPhase_ac hp, h, actPhase_ac hq]

theorem dutyOf_inj : Set.InjOn (dutyOf d) (dutyIx d) := by
  rintro ⟨p, k, i⟩ hx ⟨q, l, j⟩ hy h
  simp only [dutyIx, Finset.coe_sigma, Set.mem_sigma_iff, Finset.mem_coe, mem_acts, Finset.mem_univ, Finset.mem_range, true_and, Finset.coe_univ, Set.mem_univ,
    Finset.mem_sigma] at hx hy
  obtain ⟨⟨hp, hap⟩, hi⟩ := hx
  obtain ⟨⟨hq, haq⟩, hj⟩ := hy
  have key : ∀ {a b : ℕ}, ac d p = ac d q → a = b → (⟨p, k, a⟩ : Σ _ : ℕ, Σ _ : Fin 4, ℕ) = ⟨q, k, b⟩ := fun h1 h2 => by
    rw [ac_inj d hap haq h1, h2]
  fin_cases k <;> fin_cases l <;> simp only [dutyOf, cnt, kSend, kRecv, kInter, interI, Prod.mk.injEq] at h hi hj <;> revert h
  all_goals (try (split <;> split <;> simp <;> done))
  all_goals (try (split <;> simp <;> done))
  · intro h; exact key (by obtain ⟨-, h, -⟩ := h; change i < 8 at hi; change j < 8 at hj; omega) (by
      obtain ⟨h0, h, -⟩ := h; change i < 8 at hi; change j < 8 at hj
      have : i % 2 = j % 2 := by split at h0 <;> split at h0 <;> first | omega | exact absurd h0 (by decide)
      omega)
  · intro h; exact key (by obtain ⟨-, h, -⟩ := h; change i < 8 at hi; change j < 8 at hj; omega) (by
      obtain ⟨h0, h, -⟩ := h; change i < 8 at hi; change j < 8 at hj
      have : i % 2 = j % 2 := by split at h0 <;> split at h0 <;> first | omega | exact absurd h0 (by decide)
      omega)
  · intro h; exact key h.2.1 h.2.2
  · intro h
    obtain ⟨h0, -, h⟩ := h; change i < 2 at hi; change j < 2 at hj
    have : p % 2 = q % 2 := by split at h0 <;> split at h0 <;> first | omega | exact absurd h0 (by decide)
    exact key (by rw [show p = q by omega]) (by omega)

theorem duties_list : bigSep ((dutyIx d).image (dutyOf d)) (fun x => (dutyTok ER ((d : Thread nD τ), osem x.1) x.2.1 x.2.2 : sProp 𝕄))
    = bigSep (acts d) (fun p => iprop(tS (F := F) d p ∗ tR (F := F) d p ∗ tA (F := F) d p ∗ tE (F := F) d p)) := by
  rw [bigSep_image_of_injOn (dutyOf_inj d)]
  unfold dutyIx
  rw [Pipeline.bigSep_sigma]
  refine bigSep_congr fun p hp => ?_
  rw [Pipeline.bigSep_sigma, bigSep_univ_eq_bigSepL [(0 : Fin 4), 1, 2, 3] (by decide) (by decide)]
  have e0 : (bigSep (Finset.range (cnt 0)) fun b => (dutyTok ER ((d : Thread nD τ), osem (dutyOf d ⟨p, 0, b⟩).1) (dutyOf d ⟨p, 0, b⟩).2.1 (dutyOf d ⟨p, 0, b⟩).2.2 : sProp 𝕄)) = tS (F := F) d p := by
    unfold tS; refine bigSep_congr fun i _ => ?_
    show dutyTok ER (kcell (d, kSend i)) _ _ = _
    rw [kSend_cell, show sendC d i = sendC d (i % 2) by unfold sendC; rw [sendS_mod]]; rfl
  have e1 : (bigSep (Finset.range (cnt 1)) fun b => (dutyTok ER ((d : Thread nD τ), osem (dutyOf d ⟨p, 1, b⟩).1) (dutyOf d ⟨p, 1, b⟩).2.1 (dutyOf d ⟨p, 1, b⟩).2.2 : sProp 𝕄)) = tR (F := F) d p := by
    unfold tR; refine bigSep_congr fun i _ => ?_
    show dutyTok ER (kcell (d, kRecv i)) _ _ = _
    rw [kRecv_cell, show recvC d i = recvC d (i % 2) by unfold recvC; rw [recvS_mod]]; rfl
  have e3 : (bigSep (Finset.range (cnt 3)) fun b => (dutyTok ER ((d : Thread nD τ), osem (dutyOf d ⟨p, 3, b⟩).1) (dutyOf d ⟨p, 3, b⟩).2.1 (dutyOf d ⟨p, 3, b⟩).2.2 : sProp 𝕄)) = tE (F := F) d p := by
    unfold tE; refine bigSep_congr fun i _ => ?_
    show dutyTok ER (kcell (d, kInter p)) _ _ = _
    rw [kInter_cell, show interC d p = interC d (p % 2) by unfold interC; rw [interS_mod]]; rfl
  rw [← e0, ← e1, ← e3]
  rfl

/-- The writes of a device's slots, by phase and number. -/
def writeIx : Finset (Σ _ : Dev nD, Σ _ : ℕ, ℕ) := Finset.univ.sigma fun d => (acts d).sigma fun _ => Finset.range 8
def writeOf (x : Σ _ : Dev nD, Σ _ : ℕ, ℕ) : Key × ℕ := ((x.1, Fin.ofNat 2 (x.2.2 % 2)), 4 * ac x.1 x.2.1 + x.2.2 / 2)
@[irreducible] def writeSet : Finset (Key × ℕ) := writeIx.image writeOf
theorem writeOf_inj : Set.InjOn writeOf writeIx := by
  rintro ⟨c, p, i⟩ hx ⟨d, q, j⟩ hy h
  simp only [writeIx, Finset.coe_sigma, Set.mem_sigma_iff, Finset.mem_coe, mem_acts, Finset.mem_univ, Finset.mem_range, true_and, Finset.coe_univ, Set.mem_univ,
    Finset.mem_sigma] at hx hy
  obtain ⟨⟨hp, hap⟩, hi⟩ := hx
  obtain ⟨⟨hq, haq⟩, hj⟩ := hy
  simp only [writeOf, Prod.mk.injEq] at h
  obtain ⟨⟨rfl, h0⟩, h1⟩ := h
  have h0 : i % 2 % 2 = j % 2 % 2 := congrArg Fin.val h0
  have := ac_inj c hap haq (by omega)
  subst this
  have : i = j := by omega
  subst this; rfl

/-- All writes of all slots. -/
@[irreducible] def writeAll : Finset (Key × ℕ) := Finset.univ ×ˢ Finset.range 64

omit [FloatOps F] in
theorem writes_sub (T : Finset (Key × ℕ)) (h : T ⊆ writeAll) :
    bigSep writeAll (fun x : Key × ℕ => (writeTok ES x.1 (x.2 + 1) : sProp 𝕄)) ⊢ bigSep T (fun x : Key × ℕ => writeTok ES x.1 (x.2 + 1)) := by
  classical
  exact bigSep_subset h

omit [FloatOps F] in
theorem writes_set : bigSep writeSet (fun x : Key × ℕ => (writeTok ES x.1 (x.2 + 1) : sProp 𝕄)) = bigSep Finset.univ (fun d => bigSep (acts d) (fun p => tW (F := F) d p)) := by
  unfold writeSet; rw [bigSep_image_of_injOn writeOf_inj]
  unfold writeIx
  rw [Pipeline.bigSep_sigma]
  refine bigSep_congr fun c _ => ?_
  rw [Pipeline.bigSep_sigma]
  rfl

omit [FloatOps F] in
theorem writes_list : bigSep writeAll (fun x : Key × ℕ => (writeTok ES x.1 (x.2 + 1) : sProp 𝕄))
    ⊢ bigSep Finset.univ (fun d => bigSep (acts d) (fun p => tW (F := F) d p)) := by
  have hsub : writeSet ⊆ writeAll := by
    intro x hx
    unfold writeSet at hx
    obtain ⟨⟨c, p, i⟩, hm, rfl⟩ := Finset.mem_image.mp hx
    simp only [writeIx, Finset.mem_sigma, mem_acts, Finset.mem_univ, Finset.mem_range, true_and] at hm
    have h1 := ac_lt hm.1.1 hm.1.2
    have h2 : A c ≤ 16 := by unfold A; split <;> omega
    simp only [writeAll, writeOf, Finset.mem_product, Finset.mem_univ, Finset.mem_range, true_and]
    omega
  refine BI.Entails.trans (writes_sub writeSet hsub) ?_
  rw [writes_set]
  exact BI.Entails.refl _

omit [FloatOps F] in
/-- The device's conjunction and the phases' change places. -/
theorem swap_phases (t : Finset ℕ) (Φ : Dev nD → ℕ → sProp 𝕄) :
    bigSep Finset.univ (fun d => bigSep t (fun p => Φ d p)) = bigSep t (fun p => bigSep Finset.univ (fun d => Φ d p)) := by
  induction t using Finset.induction_on with
  | empty => simp only [bigSep_empty]; exact bigSep_emp_const _
  | insert a t ha ih =>
    rw [bigSep_insert ha, ← ih, ← bigSep_sep]
    exact bigSep_congr fun d _ => bigSep_insert ha

omit [FloatOps F] in
/-- What points at a device in its phases, handed to its partners. -/
theorem around (Φ : Dev nD → ℕ → sProp 𝕄) :
    bigSep Finset.univ (fun d => bigSep (acts d) (fun p => Φ d p)) = bigSep Finset.univ (fun d => bigSep (acts d) (fun p => Φ (partner p d) p)) := by
  unfold acts
  simp only [bigSep_filter]
  rw [swap_phases, swap_phases (Finset.Ico 0 16) (fun d p => if active p d = true then Φ (partner p d) p else BI.emp)]
  refine bigSep_congr fun p _ => ?_
  rw [bigSep_univ_equiv (pairing p) (fun d => if active p d = true then Φ d p else BI.emp)]
  refine bigSep_congr fun d _ => ?_
  show (if active p (partner p d) = true then Φ (partner p d) p else BI.emp) = _
  rw [active_partner]

/-- All the tokens a device uses. -/
def Pays : sProp 𝕄 :=
  iprop(bigSep (acts d) (fun p => tS (F := F) d p) ∗ bigSep (acts d) (fun p => tR (F := F) (partner p d) p) ∗ bigSep (acts d) (fun p => tW (F := F) (partner p d) p)
    ∗ bigSep (acts d) (fun p => tA (F := F) (partner p d) p) ∗ bigSep (acts d) (fun p => tE (F := F) (partner p d) p))

omit [FloatOps F] in
theorem dealt : iprop(bigSep Finset.univ (fun d => bigSep (acts d) (fun p => iprop(tS (F := F) d p ∗ tR (F := F) d p ∗ tA (F := F) d p ∗ tE (F := F) d p)))
      ∗ bigSep Finset.univ (fun d => bigSep (acts d) (fun p => tW (F := F) d p)))
    ⊢ bigSep Finset.univ (fun d => Pays (F := F) d) := by
  unfold Pays
  simp only [bigSep_sep']
  rw [around (fun d p => tR (F := F) d p), around (fun d p => tA (F := F) d p), around (fun d p => tE (F := F) d p), around (fun d p => tW (F := F) d p)]
  iintro ⟨⟨H1, H2, H3, H4⟩, H5⟩
  isplitl [H1]; · iexact H1
  isplitl [H2]; · iexact H2
  isplitl [H5]; · iexact H5
  isplitl [H3]; · iexact H3
  iexact H4

omit [FloatOps F] in
/-- From its tokens and its launch credit, what a device uses up phase by phase, and the tokens of its two opening signals. -/
theorem toks_intro : iprop(Pays (F := F) d ∗ bigSep (acts d) (fun p => iprop(bigSep (Finset.range 8) (fun i => credR (F := F) d p i) ∗ bigSep (Finset.range 8) (fun i => credC (F := F) d p i))))
    ⊢ iprop((dutyTok ER (interC (partner 0 d) 0) 0 (interI 0 0) ∗ dutyTok ER (interC (partner 0 d) 0) 0 (interI 0 1))
      ∗ bigSep (Finset.Ico 0 16) (fun i => tok (F := F) d i)) := by
  have ht : bigSep (Finset.Ico 0 16) (fun i => tok (F := F) d i) = bigSep (acts d) (fun p => iprop(TC (F := F) d p 0 ∗ TR (F := F) d p 0 ∗ TG (F := F) d p 0)) := by
    unfold acts; rw [bigSep_filter]; rfl
  rw [ht]
  unfold Pays
  rw [bigSep_next d (fun p => tE (F := F) (partner p d) p)]
  have hp : ∀ p ∈ acts d, iprop(TC (F := F) d p 0 ∗ TR (F := F) d p 0 ∗ TG (F := F) d p 0)
      = iprop((tS (F := F) d p ∗ tR (F := F) (partner p d) p ∗ tW (F := F) (partner p d) p) ∗ (tA (F := F) (partner p d) p
        ∗ (if nextP d p < 16 then tE (F := F) (partner (nextP d p) d) (nextP d p) else iprop(emp)))
        ∗ (bigSep (Finset.range 8) (fun i => credR (F := F) d p i) ∗ bigSep (Finset.range 8) (fun i => credC (F := F) d p i))) := by
    intro p _
    have h1 : TC (F := F) d p 0 = iprop((tS (F := F) d p ∗ tR (F := F) (partner p d) p ∗ tW (F := F) (partner p d) p) ∗ bigSep (Finset.range 8) (fun i => credC (F := F) d p i)) := by
      unfold TC tokC tS tR tW; rw [← Finset.range_eq_Ico]; simp only [bigSep_sep']
    have h2 : TR (F := F) d p 0 = bigSep (Finset.range 8) (fun i => credR (F := F) d p i) := by unfold TR; rw [← Finset.range_eq_Ico]
    have h3 : TG (F := F) d p 0 = iprop(tA (F := F) (partner p d) p ∗ (if nextP d p < 16 then tE (F := F) (partner (nextP d p) d) (nextP d p) else iprop(emp))) := by
      unfold TG; rw [← Finset.range_eq_Ico, show (8 : ℕ) = 6 + 2 from rfl, bigSep_range_add]
      refine congrArg₂ (fun a b => iprop(a ∗ b)) (bigSep_congr fun i hi => ?_) ?_
      · unfold tokG; rw [if_pos (Finset.mem_range.mp hi)]
      · by_cases h : nextP d p < 16
        · rw [if_pos h]; refine bigSep_congr fun i hi => ?_
          unfold tokG; rw [if_neg (by omega), if_pos h, show 6 + i - 6 = i by omega]
        · rw [if_neg h, bigSep_congr (Ψ := fun _ => iprop(emp)) (fun i hi => by unfold tokG; rw [if_neg (by omega), if_neg h])]
          exact bigSep_emp_const _
    rw [h1, h2, h3]
    exact BI.Entails.antisymm (shuffle _ _ _ _) (shuffle' _ _ _ _)
  rw [bigSep_congr hp]
  simp only [bigSep_sep']
  have hE : tE (F := F) (partner 0 d) 0 = iprop(dutyTok ER (interC (partner 0 d) 0) 0 (interI 0 0) ∗ dutyTok ER (interC (partner 0 d) 0) 0 (interI 0 1)) := by
    unfold tE; refine (bigSep_range_add 1 1 _).trans ?_
    rw [Finset.range_one, bigSep_singleton, bigSep_singleton]
  rw [hE]
  iintro ⟨⟨H1, H2, H3, H4, H5, H6⟩, H7, H8⟩
  isplitl [H5]; · iexact H5
  isplitl [H1 H2 H3]
  · isplitl [H1]; · iexact H1
    isplitl [H2]; · iexact H2
    iexact H3
  isplitl [H4 H6]
  · isplitl [H4]; · iexact H4
    iexact H6
  isplitl [H7]; · iexact H7
  iexact H8
end Tokens

end Cert.KernelIdeal.Sort
end
-- ==== Proof.Ideal.Split.lean ====
/- A block as its eight chunks, the landing buffer as its two slots, and loading a chunk of the input. -/
module

public import proofs.«01_k».proof.Proof.Ideal.Effects

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- Where chunk `c` lies in a block. -/
abbrev rectC (c : ℕ) : Rect S4096x1024 := Rect.unit (s := S4096x1024) (offC c) S4096x128.size (offC_inb c)
/-- Chunk `c` of a block. -/
def colsOf (X : Vec F S4096x1024 .bf16) (c : ℕ) : Vec F S4096x128 .bf16 := fun j => X ((rectC c).emb j)
/-- The block of given chunks. -/
def wholeOf (Y : ℕ → Vec F S4096x128 .bf16) : Vec F S4096x1024 .bf16 := fun i =>
  Y ((i ⟨1, by decide⟩).val / 128) (fun a => match a with
    | ⟨0, _⟩ => ⟨(i ⟨0, by decide⟩).val, (i ⟨0, by decide⟩).isLt⟩
    | ⟨1, _⟩ => ⟨(i ⟨1, by decide⟩).val % 128, Nat.mod_lt _ (by decide : 0 < 128)⟩)

theorem emb_rectC (c : ℕ) (j : S4096x128.Idx) (a : Fin 2) : ((rectC c).emb j a).val = offC c a + (j a).val := by
  rw [Rect.emb_apply]; show offC c a + 1 * _ = _; rw [Nat.one_mul]

omit [FloatOps F] in
theorem whole_cols (Y : ℕ → Vec F S4096x128 .bf16) (c : ℕ) (hc : c < 8) : colsOf (wholeOf Y) c = Y c := by
  funext j
  unfold colsOf wholeOf
  have h1 := emb_rectC c j ⟨1, by decide⟩
  have h0 := emb_rectC c j ⟨0, by decide⟩
  have hj : (j ⟨1, by decide⟩).val < 128 := (j (1 : Fin 2)).isLt
  have h1' : ((rectC c).emb j ⟨1, by decide⟩).val = 128 * (c % 8) + (j ⟨1, by decide⟩).val := h1
  have h0' : ((rectC c).emb j ⟨0, by decide⟩).val = 0 + (j ⟨0, by decide⟩).val := h0
  have e1 : ((rectC c).emb j ⟨1, by decide⟩).val / 128 = c := by omega
  rw [e1]
  congr 1
  funext a
  apply Fin.ext
  match a with
  | ⟨0, _⟩ => show ((rectC c).emb j ⟨0, _⟩).val = _; omega
  | ⟨1, _⟩ => show ((rectC c).emb j ⟨1, _⟩).val % 128 = _; omega

theorem rectC_disj (t t' : Fin 8) (h : t ≠ t') : Disjoint (rectC t.val).set (rectC t'.val).set := by
  rw [Finset.disjoint_left]
  intro i hi hi'
  have a := (Rect.mem_set_unit.mp hi) ⟨1, by decide⟩
  have b := (Rect.mem_set_unit.mp hi') ⟨1, by decide⟩
  have a' : 128 * (t.val % 8) ≤ (i ⟨1, by decide⟩).val ∧ (i ⟨1, by decide⟩).val < 128 * (t.val % 8) + 128 := a
  have b' : 128 * (t'.val % 8) ≤ (i ⟨1, by decide⟩).val ∧ (i ⟨1, by decide⟩).val < 128 * (t'.val % 8) + 128 := b
  have := t.isLt; have := t'.isLt
  exact h (Fin.ext (by omega))

theorem rectC_cov : (Finset.univ : Finset (Fin 8)).biUnion (fun t => (rectC t.val).set) = Finset.univ := by
  refine Finset.eq_univ_iff_forall.mpr fun i => ?_
  have h1 : (i ⟨1, by decide⟩).val < 1024 := (i (1 : Fin 2)).isLt
  have h0 : (i ⟨0, by decide⟩).val < 4096 := (i (0 : Fin 2)).isLt
  refine Finset.mem_biUnion.mpr ⟨⟨(i ⟨1, by decide⟩).val / 128, by omega⟩, Finset.mem_univ _, Rect.mem_set_unit.mpr fun a => ?_⟩
  match a with
  | ⟨0, _⟩ => exact ⟨Nat.zero_le _, by show _ < 0 + 4096; omega⟩
  | ⟨1, _⟩ =>
    show 128 * ((i ⟨1, _⟩).val / 128 % 8) ≤ (i ⟨1, _⟩).val ∧ (i ⟨1, _⟩).val < 128 * ((i ⟨1, _⟩).val / 128 % 8) + 128
    omega

theorem range8 : Finset.range 8 = (Finset.univ : Finset (Fin 8)).map ⟨Fin.val, Fin.val_injective⟩ := by decide

section
variable (d : Dev nD)

/-- The result's staging buffer, whole. -/
abbrev outAtW (X : Vec F S4096x1024 .bf16) : sProp 𝕄 := owns (Ix := ℕ) (Name := ℕ) (U := UU) (Lvl := ℕ) (d : Thread nD τ) oM fullShare X
/-- The input's staging buffer, whole. -/
abbrev inAtW (X : Vec F S4096x1024 .bf16) : sProp 𝕄 := owns (Ix := ℕ) (Name := ℕ) (U := UU) (Lvl := ℕ) (d : Thread nD τ) xM fullShare X

omit [FloatOps F] in
theorem chunks_split (X : Vec F S4096x1024 .bf16) : outAtW d X ⊢ bigSep (Finset.range 8) (fun c => chunkAt d c (colsOf X c)) := by
  rw [range8, bigSep_map]
  exact owns_rects (d : Thread nD τ) oM fullShare (fun t : Fin 8 => rectC t.val) (fun _ _ => rfl) rectC_disj rectC_cov X

theorem chunks_join (Y : ℕ → Vec F S4096x128 .bf16) : bigSep (Finset.range 8) (fun c => chunkAt d c (Y c)) ⊢ outAtW d (wholeOf Y) := by
  rw [range8, bigSep_map]
  rw [bigSep_congr (s := Finset.univ) (Ψ := fun t : Fin 8 => chunkAt d t.val (colsOf (wholeOf Y) t.val)) (fun t _ => by
    rw [whole_cols Y t.val t.isLt]; rfl)]
  exact owns_of_rects (d : Thread nD τ) oM fullShare (fun t : Fin 8 => rectC t.val) (fun _ _ => rfl) rectC_disj rectC_cov (wholeOf Y)

/-- Loading a chunk of the input. -/
theorem wp_loadX (c : ℕ) (X : Vec F S4096x1024 .bf16) {off : Fin 2 → ℕ} (ho : off = offC c) (inb : ∀ a, off a + S4096x128.size a ≤ S4096x1024.size a)
    {α : Type} {hl : (xM : Memref sig .tc .vmem S4096x1024 .bf16).view.LoadsAt (Rect.unit (s := S4096x1024) off S4096x128.size inb).toLoadRect} {k : Vec F S4096x128 .bf16 → Prog (TpuEff nD τ sig (Elt F) Λ₀ .tc) α} {Q : α → sProp 𝕄} :
    inAtW d X ⊢ iprop((inAtW d X -∗ WP d (k (colsOf X c)) Q)
      -∗ WP d (.op (.load xM (Rect.unit (s := S4096x1024) off S4096x128.size inb).toLoadRect hl) k) Q) := by
  subst ho
  unfold inAtW owns
  iintro ⟨%f, %hf, H⟩ Hk
  iapply (wp_load_rect 𝒱₀ (d : Thread nD τ) none Set.univ (m := xM) (r := Rect.unit (s := S4096x1024) (offC c) S4096x128.size inb)
    (View.set_slice_subset _ _)) $$ H
  iintro H
  rw [show (xM.access (Rect.unit (s := S4096x1024) (offC c) S4096x128.size inb)).read (Elt F) f = colsOf X c from by rw [← hf]; rfl]
  iapply Hk
  iexists f
  isplitr; · ipureintro; exact hf
  iexact H

/-! ## The landing buffer -/

theorem rS_set (s : ℕ) : (rS s).view.set = (Rect.unit (s := S2x4096x128) (offS s) S1x4096x128.size (offS_inb s)).set :=
  (View.set_reshape _ _).trans (View.set_slice_whole cc0_scratch0 _)

theorem rS_disj : Disjoint (rS 0).view.set (rS 1).view.set := by
  rw [rS_set, rS_set, Finset.disjoint_left]
  intro i hi hi'
  have a : 0 ≤ (i ⟨0, by decide⟩).val ∧ (i ⟨0, by decide⟩).val < 0 + 1 := (Rect.mem_set_unit.mp hi) (0 : Fin 3)
  have b : 1 ≤ (i ⟨0, by decide⟩).val ∧ (i ⟨0, by decide⟩).val < 1 + 1 := (Rect.mem_set_unit.mp hi') (0 : Fin 3)
  omega

theorem rS_cov : (rS 0).view.set ∪ (rS 1).view.set = Finset.univ := by
  refine Finset.eq_univ_iff_forall.mpr fun i => ?_
  have h0 : (i ⟨0, by decide⟩).val < 2 := (i (0 : Fin 3)).isLt
  have h1 : (i ⟨1, by decide⟩).val < 4096 := (i (1 : Fin 3)).isLt
  have h2 : (i ⟨2, by decide⟩).val < 128 := (i (2 : Fin 3)).isLt
  rw [Finset.mem_union, rS_set, rS_set]
  obtain h | h : (i ⟨0, by decide⟩).val = 0 ∨ (i ⟨0, by decide⟩).val = 1 := by omega
  · refine Or.inl (Rect.mem_set_unit.mpr fun a => ?_)
    match a with
    | ⟨0, _⟩ => show 0 ≤ (i ⟨0, _⟩).val ∧ (i ⟨0, _⟩).val < 0 + 1; omega
    | ⟨1, _⟩ => show 0 ≤ (i ⟨1, _⟩).val ∧ (i ⟨1, _⟩).val < 0 + 4096; omega
    | ⟨2, _⟩ => show 0 ≤ (i ⟨2, _⟩).val ∧ (i ⟨2, _⟩).val < 0 + 128; omega
  · refine Or.inr (Rect.mem_set_unit.mpr fun a => ?_)
    match a with
    | ⟨0, _⟩ => show 1 ≤ (i ⟨0, _⟩).val ∧ (i ⟨0, _⟩).val < 1 + 1; omega
    | ⟨1, _⟩ => show 0 ≤ (i ⟨1, _⟩).val ∧ (i ⟨1, _⟩).val < 0 + 4096; omega
    | ⟨2, _⟩ => show 0 ≤ (i ⟨2, _⟩).val ∧ (i ⟨2, _⟩).val < 0 + 128; omega

omit [FloatOps F] in
theorem slots_split (f : Buf (Elt F) ((d : Thread nD τ).loc cc0_scratch0)) :
    (((d : Thread nD τ).loc cc0_scratch0) ↦{fullShare} f : sProp 𝕄) ⊢ iprop(slotAny d 0 ∗ slotAny d 1) := by
  rw [show (((d : Thread nD τ).loc cc0_scratch0) ↦{fullShare} f : sProp 𝕄)
    = (((d : Thread nD τ).loc cc0_scratch0) ↦[(rS 0).view.set ∪ (rS 1).view.set]{fullShare} f) by rw [rS_cov]]
  iintro H
  ihave H := (pointsTo_union rS_disj).1 $$ H
  icases H with ⟨H0, H1⟩
  unfold slotAny slot
  isplitl [H0]
  · iexists f; iexact H0
  iexists f; iexact H1

omit [FloatOps F] in
theorem slots_join : iprop(slotAny (F := F) d 0 ∗ slotAny (F := F) d 1)
    ⊢ (iprop(∃ f : Buf (Elt F) ((d : Thread nD τ).loc cc0_scratch0), ((d : Thread nD τ).loc cc0_scratch0) ↦{fullShare} f) : sProp 𝕄) := by
  unfold slotAny slot
  iintro ⟨⟨%f, H0⟩, %g, H1⟩
  ihave H := (pointsTo_join (ℓ := (d : Thread nD τ).loc cc0_scratch0) (q := fullShare) (f := f) (g := g) rS_disj) $$ [H0 H1]
  · isplitl [H0]; · iexact H0
    iexact H1
  rw [rS_cov]
  iexists _
  iexact H
end
end Cert.KernelIdeal.Sort
end
-- ==== Proof.Ideal.Whole.lean ====
/- The whole body of the kernel on one device: the two opening signals, the loop that sorts the chunks, the phases, the
   loop that finishes the chunks; then the cells closed. -/
module

public import proofs.«01_k».proof.Proof.Ideal.Phases
public import proofs.«01_k».proof.Proof.Ideal.Split

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Whole
variable (V : ℕ → Dev nD → ℕ → Vec F S4096x128 .bf16) (K : Dev nD × Fin 7 → ℕ) (ιs : Key → ℕ) (d : Dev nD)

/-- The eight chunks, those below `k` rewritten. -/
def Upd (P Q : ℕ → Vec F S4096x128 .bf16) (k : ℕ) : sProp 𝕄 :=
  bigSep (Finset.range 8) (fun i => if i < k then chunkAt d i (P i) else chunkAt d i (Q i))

omit [FloatOps F] in
theorem upd_take (P Q : ℕ → Vec F S4096x128 .bf16) (k : ℕ) (hk : k < 8) :
    Upd d P Q k ⊢ iprop(chunkAt d k (Q k) ∗ (chunkAt d k (P k) -∗ Upd d P Q (k + 1))) := by
  unfold Upd
  rw [big_erase (Finset.mem_range.mpr hk), big_erase (s := Finset.range 8) (Finset.mem_range.mpr hk) (Φ := fun i => if i < k + 1 then _ else _)]
  rw [if_neg (by omega), if_pos (by omega)]
  rw [bigSep_congr (Ψ := fun i => if i < k + 1 then chunkAt d i (P i) else chunkAt d i (Q i)) (fun i hi => by
    have := Finset.ne_of_mem_erase hi
    by_cases h : i < k
    · rw [if_pos h, if_pos (show i < k + 1 by omega)]
    · rw [if_neg h, if_neg (show ¬ i < k + 1 by omega)])]
  iintro ⟨H, H'⟩
  isplitl [H]; · iexact H
  iintro H
  isplitl [H]; · iexact H
  iexact H'
omit [FloatOps F] in
theorem upd_zero (P Q : ℕ → Vec F S4096x128 .bf16) : Upd d P Q 0 = bigSep (Finset.range 8) (fun i => chunkAt d i (Q i)) := by
  unfold Upd; exact bigSep_congr fun i _ => if_neg (Nat.not_lt_zero i)
omit [FloatOps F] in
theorem upd_all (P Q : ℕ → Vec F S4096x128 .bf16) : Upd d P Q 8 = bigSep (Finset.range 8) (fun i => chunkAt d i (P i)) := by
  unfold Upd; exact bigSep_congr fun i hi => if_pos (Finset.mem_range.mp hi)
omit [FloatOps F] in
theorem outs_zero (p : ℕ) : Outs V d p 0 0 = bigSep (Finset.range 8) (fun i => chunkAt d i (V p d i)) := by
  unfold Outs; exact bigSep_congr fun i _ => by rw [if_neg (Nat.not_lt_zero i), if_neg (Nat.not_lt_zero i)]

theorem sortV_at (v13 : BitVec 1) (x : Vec F S4096x128 .bf16) (k : Fin k0_t1_loop.trips) :
    k0_pay170 (out34 v13 0#32 1#32 k x).2.1 (out34 v13 0#32 1#32 k x).2.2.1 (out34 v13 0#32 1#32 k x).2.2.2.1 (out34 v13 0#32 1#32 k x).2.2.2.2.1
      (out34 v13 0#32 1#32 k x).2.2.2.2.2.1 (out34 v13 0#32 1#32 k x).2.2.2.2.2.2 = sortV v13 x := rfl

/-- One trip of the sorting loop. -/
theorem trip1 (v13 : BitVec 1) (X : Vec F S4096x1024 .bf16) (Y : ℕ → Vec F S4096x128 .bf16) (k : Fin k0_t1_loop.trips) (u : Unit) :
    iprop(inAtW d X ∗ Upd d (fun c => sortV v13 (colsOf X c)) Y k.val)
      ⊢ WP d (k0_t1_body (F := F) xM (Memref.isWhole_whole _) oM (Memref.isWhole_whole _) rM (Memref.isWhole_whole _) cc0_scratch1 cc0_scratch2 cc0_scratch3 cc0_scratch4
          v13 k u) (fun _ => iprop(inAtW d X ∗ Upd d (fun c => sortV v13 (colsOf X c)) Y (k.val + 1))) := by
  have hk : k.val < 8 := trips1 ▸ k.isLt
  unfold k0_t1_body
  simp only [part34_eq, Prog.lift, Prog.bind_op, Prog.bind_ret, Prog.pure_eq_ret]
  iintro ⟨HX, HU⟩
  ihave HU := (upd_take d _ Y k.val hk) $$ HU
  icases HU with ⟨HC, HU⟩
  iapply (wp_loadX d k.val X (off1_eq k) _) $$ HX
  iintro HX
  iapply (wp_loadChunk d k.val (Y k.val) (off1_eq k) _) $$ HC
  iintro HC
  iapply (wp_storeChunk d k.val (Y k.val) _ (off1_eq k) _) $$ HC
  iintro HC
  iapply (wp_done d)
  isplitl [HX]; · iexact HX
  iapply HU
  rw [sortV_at]
  iexact HC

/-- One trip of the finishing loop. -/
theorem trip4 (v13 : BitVec 1) (X : Vec F S4096x1024 .bf16) (Y : ℕ → Vec F S4096x128 .bf16) (k : Fin k0_t4_loop.trips) (u : Unit) :
    iprop(inAtW d X ∗ Upd d (fun c => finV v13 (Y c)) Y k.val)
      ⊢ WP d (k0_t4_body (F := F) xM (Memref.isWhole_whole _) oM (Memref.isWhole_whole _) rM (Memref.isWhole_whole _) cc0_scratch1 cc0_scratch2 cc0_scratch3 cc0_scratch4
          v13 k u) (fun _ => iprop(inAtW d X ∗ Upd d (fun c => finV v13 (Y c)) Y (k.val + 1))) := by
  have hk : k.val < 8 := trips4 ▸ k.isLt
  unfold k0_t4_body
  simp only [k0_part44_eq_skeleton]
  unfold k0_part44_skel
  simp only [part45_eq, part46_eq, Prog.lift, Prog.bind_op, Prog.bind_ret, Prog.pure_eq_ret]
  iintro ⟨HX, HU⟩
  ihave HU := (upd_take d _ Y k.val hk) $$ HU
  icases HU with ⟨HC, HU⟩
  iapply (wp_loadChunk d k.val (Y k.val) (off18_eq k) _) $$ HC
  iintro HC
  iapply (wp_loadChunk d k.val (Y k.val) (off18_eq k) _) $$ HC
  iintro HC
  iapply (wp_storeChunk d k.val (Y k.val) _ (off18_eq k) _) $$ HC
  iintro HC
  iapply (wp_done d)
  isplitl [HX]; · iexact HX
  iapply HU
  iexact HC

/-- The finishing loop, the last of the body. -/
theorem loop4 (v13 : BitVec 1) (X : Vec F S4096x1024 .bf16) (Y : ℕ → Vec F S4096x128 .bf16) {Q : Unit → sProp 𝕄} :
    iprop((inAtW d X ∗ Upd d (fun c => finV v13 (Y c)) Y 0) ∗ ((inAtW d X ∗ Upd d (fun c => finV v13 (Y c)) Y 8) -∗ Q ()))
      ⊢ WP d (Scf.Loop.for k0_t4_loop k0_t4_ok () (k0_t4_body (F := F) xM (Memref.isWhole_whole _) oM (Memref.isWhole_whole _) rM (Memref.isWhole_whole _) cc0_scratch1 cc0_scratch2 cc0_scratch3 cc0_scratch4
          v13) >>= fun _ => Prog.ret ()) Q := by
  iintro ⟨H, HQ⟩
  iapply (Scf.wp_for_bind _ _ _ k0_t4_loop.lb k0_t4_loop.ub k0_t4_loop.st k0_t4_ok () _
    (fun k _ => iprop(inAtW d X ∗ Upd d (fun c => finV v13 (Y c)) Y k)) (fun k u => trip4 d v13 X Y k u)) $$ H
  iintro %u HI
  iapply (wp_done d)
  iapply HQ
  rw [← trips4]
  iexact HI

/-- What a device starts the body with, beside the staging buffers. -/
def Start : sProp 𝕄 :=
  iprop(SPos (F := F) d 0 0 ∗ SPos (F := F) d 1 0 ∗ (atPos ER (recvC d 0) 0 ∅ 0 ∗ reached ER (recvC d 0) 0) ∗ (atPos ER (recvC d 1) 0 ∅ 0 ∗ reached ER (recvC d 1) 0)
    ∗ (atPos ER (intraC d) 0 ∅ 0 ∗ reached ER (intraC d) 0) ∗ (atPos ER (interC d 0) 0 ∅ 0 ∗ atPos ER (interC d 1) 0 ∅ 0)
    ∗ (readerAt ES (d, Fin.ofNat 2 0) 0 ∗ readerAt ES (d, Fin.ofNat 2 1) 0)
    ∗ (dutyTok ER (interC (partner 0 d) 0) 0 (interI 0 0) ∗ dutyTok ER (interC (partner 0 d) 0) 0 (interI 0 1))
    ∗ bigSep (Finset.Ico 0 16) (fun i => tok (F := F) d i))

theorem A_pos (d : Dev nD) : 0 < A d := (by decide : ∀ d : Dev nD, 0 < A d) d

theorem rpos_start (s : ℕ) (hs : s < 2) : iprop(Invs V K ιs ∗ (atPos ER (recvC d s) 0 ∅ 0 ∗ reached ER (recvC d s) 0) ∗ readerAt ES (d, Fin.ofNat 2 s) 0 ∗ slotAny d s)
    ⊢ iprop(|={Set.univ}=> RPos (F := F) d s 0) := by
  have := A_pos d
  unfold RPos SR; rw [if_pos (by omega)]
  iintro ⟨#HI, ⟨Ha, Hr⟩, Hrd, Hs⟩
  imod (slot_release ES (ι := ιs (d, Fin.ofNat 2 s)) (S := slotAny (F := F) d s) (Set.mem_univ _)
      (slot_slot_false (rS_nonempty s)) 0) $$ [Hrd Hs] with H
  · isplitr; · iapply (inv_slot V K ιs d s hs); iexact HI
    isplitl [Hrd]; · iexact Hrd
    iexact Hs
  imodintro
  isplitl [Ha]; · iexact Ha
  isplitl [Hr]; · iexact Hr
  iexact H

omit [FloatOps F] in
theorem ip_start (e : ℕ) : atPos ER (interC d e) 0 ∅ 0 ⊢ IP (F := F) d e 0 := by
  unfold IP
  by_cases h : e = 1 ∧ edge d = true
  · rw [if_pos h]
  · rw [if_neg h, show taken e 0 = 0 by unfold taken; omega]; exact upos_start _ _ 0 16

/-- The opening of the slots: everything before the first phase but the chunks, and the tokens of the two signals. -/
theorem start_open : iprop(Invs V K ιs ∗ Start d ∗ slotAny (F := F) d 0 ∗ slotAny (F := F) d 1 ∗ owesE (F := F) d (O₀ d))
    ⊢ iprop(|={Set.univ}=> (SndS (F := F) d 0 0 ∗ RcvS (F := F) d 0 0 ∗ (atPos ER (intraC d) (ac d 0) ∅ 0 ∗ reached ER (intraC d) (ac d 0)) ∗ IPs (F := F) d 0
      ∗ (dutyTok ER (interC (partner 0 d) 0) 0 (interI 0 0) ∗ dutyTok ER (interC (partner 0 d) 0) 0 (interI 0 1))
      ∗ bigSep (Finset.Ico 0 16) (fun i => tok (F := F) d i) ∗ twoF d 0 0 ∗ owesE (F := F) d (O₀ d))) := by
  have hA := A_pos d
  unfold Start
  iintro ⟨#HI, ⟨Hs0, Hs1, Hr0, Hr1, Hi, ⟨Hp0, Hp1⟩, ⟨Hd0, Hd1⟩, Hg, Ht⟩, H0, H1, Hw⟩
  imod (rpos_start V K ιs d 0 (by decide)) $$ [Hr0 Hd0 H0] with Hr0
  · isplitr; · iexact HI
    isplitl [Hr0]; · iexact Hr0
    isplitl [Hd0]; · iexact Hd0
    iexact H0
  imod (rpos_start V K ιs d 1 (by decide)) $$ [Hr1 Hd1 H1] with Hr1
  · isplitr; · iexact HI
    isplitl [Hr1]; · iexact Hr1
    isplitl [Hd1]; · iexact Hd1
    iexact H1
  have e0 : pos d 0 0 0 = 0 := by unfold pos; rw [ac_zero]
  have e1 : pos d 0 0 1 = 0 := by unfold pos; rw [ac_zero]
  ihave HR := (rcv_twoF d 0 0 (by rw [e0]; omega)) $$ [Hr0 Hr1]
  · unfold RcvS; rw [e0, e1]
    isplitl [Hr0]; · iexact Hr0
    iexact Hr1
  rw [e0, e1]
  icases HR with ⟨HR, HF⟩
  imodintro
  isplitl [Hs0 Hs1]
  · unfold SndS; rw [e0, e1]
    isplitl [Hs0]; · iexact Hs0
    iexact Hs1
  isplitl [HR]; · iexact HR
  isplitl [Hi]; · rw [ac_zero]; iexact Hi
  isplitl [Hp0 Hp1]
  · unfold IPs
    isplitl [Hp0]; · iapply (ip_start d 0); iexact Hp0
    iapply (ip_start d 1); iexact Hp1
  isplitl [Hg]; · iexact Hg
  isplitl [Ht]; · iexact Ht
  isplitl [HF]; · iexact HF
  iexact Hw

/-- What it holds at the end, beside the staging buffers. -/
def Finish : sProp 𝕄 :=
  iprop(SndS (F := F) d 16 0 ∗ RcvS (F := F) d 16 0 ∗ atPos ER (intraC d) (A d) ∅ 0 ∗ IPs (F := F) d 16)

/-- The body. -/
theorem whole_body (hV : Steps V) (X : Vec F S4096x1024 .bf16) (Y : Vec F S4096x1024 .bf16) (hX : ∀ c, V 0 d c = sortV (od d) (colsOf X c)) :
    iprop(Invs V K ιs ∗ InterR ∗ Start d ∗ slotAny (F := F) d 0 ∗ slotAny (F := F) d 1 ∗ owesE (F := F) d (O₀ d) ∗ inAtW d X ∗ outAtW d Y)
      ⊢ WP d (cc0_body (F := F) xM (Memref.isWhole_whole _) oM (Memref.isWhole_whole _) rM (Memref.isWhole_whole _) cc0_scratch1 cc0_scratch2 cc0_scratch3 cc0_scratch4)
        (fun _ => iprop(Invs V K ιs ∗ Finish d ∗ inAtW d X ∗ outAtW d (wholeOf fun c => finV (od d) (V 16 d c)) ∗ owesE (F := F) d 0)) := by
  simp only [cc0_body_eq_skeleton]
  unfold cc0_body_skel
  simp only [k0_part47_eq_skeleton]
  unfold k0_part47_skel
  simp only [semSignalWord, Prog.lift, Prog.bind_op, Prog.bind_ret, Prog.pure_eq_ret, Prog.bind_assoc, wp_deviceId]
  iintro ⟨#HI, #HR, HS, H0, H1, Hw, HX, HY⟩
  imod (start_open V K ιs d) $$ [HS H0 H1 Hw] with H
  · isplitr; · iexact HI
    isplitl [HS]; · iexact HS
    isplitl [H0]; · iexact H0
    isplitl [H1]; · iexact H1
    iexact Hw
  icases H with ⟨Hs, Hr, ⟨Ha, Hrc⟩, Hi, ⟨Hg0, Hg1⟩, Ht, #HF, Hw⟩
  unfold O₀
  iapply (wp_interSignal V K ιs d _ 0 0 (by decide) (active_zero d) (by decide) (dev1_eq d _) (interS_of (c := 0) rfl _) rfl (Ow d 0 + grantE d 0 1)) $$ [Hw Hg0]
  · isplitr; · iexact HI
    isplitl [Hw]; · iexact Hw
    isplitl [Hg0]; · iexact Hg0
    isplitr; · rw [ac_zero]; iexact HF
    iapply (interR_get (partner 0 d) 0); iexact HR
  iintro Hw
  iapply (wp_interSignal V K ιs d _ 0 1 (by decide) (active_zero d) (by decide) (dev2_eq d _) (interS_of (c := 0) rfl _) rfl (Ow d 0)) $$ [Hw Hg1]
  · isplitr; · iexact HI
    isplitl [Hw]; · iexact Hw
    isplitl [Hg1]; · iexact Hg1
    isplitr; · rw [ac_zero]; iexact HF
    iapply (interR_get (partner 0 d) 0); iexact HR
  iintro Hw
  ihave HY := (chunks_split d Y) $$ HY
  iapply (wp_loop d k0_t1_loop _ _ (fun k => iprop(inAtW d X ∗ Upd d (fun c => sortV (wOdd d) (colsOf X c)) (colsOf Y) k)) (fun k u => trip1 d (wOdd d) X (colsOf Y) k u)) $$ [HX HY]
  · isplitl [HX]; · iexact HX
    rw [upd_zero]; iexact HY
  rw [trips1, upd_all, wOdd_eq]
  iintro ⟨HX, HY⟩
  iapply (wp_loop d k0_t2_loop _ _ (fun p => iprop(Invs V K ιs ∗ InterR ∗ Ph V d p)) (fun p u => trip2 V K ιs d hV p u)) $$ [Hs Hr Ha Hrc Hi Ht Hw HY]
  · isplitr; · iexact HI
    isplitr; · iexact HR
    unfold Ph
    isplitl [Hs]; · iexact Hs
    isplitl [Hr]; · iexact Hr
    isplitl [HY]
    · rw [outs_zero]; simp only [hX]; iexact HY
    isplitl [Ha]; · iexact Ha
    isplitl [Hrc]; · iexact Hrc
    isplitl [Hi]; · iexact Hi
    isplitl [Ht]; · iexact Ht
    iexact Hw
  rw [trips2]
  unfold Ph
  iintro ⟨-, -, Hs, Hr, HY, Ha, -, Hi, -, Hw⟩
  ihave HY := (Entails.of_eq (outs_zero V d 16)) $$ HY
  ihave Hw := (Entails.of_eq (congrArg (owesE (F := F) d) (show Ow d 16 = 0 by unfold Ow; rw [Finset.Ico_self, Finset.sum_empty]))) $$ Hw
  iapply (loop4 d (wOdd d) X (fun c => V 16 d c))
  isplitl [HX HY]
  · isplitl [HX]; · iexact HX
    rw [upd_zero]; iexact HY
  rw [upd_all, wOdd_eq]
  iintro ⟨HX, HY⟩
  isplitr; · iexact HI
  isplitl [Hs Hr Ha Hi]
  · unfold Finish; rw [← ac_end]
    isplitl [Hs]; · iexact Hs
    isplitl [Hr]; · iexact Hr
    isplitl [Ha]; · iexact Ha
    iexact Hi
  isplitl [HX]; · iexact HX
  isplitl [HY]; · iapply (chunks_join d); iexact HY
  iexact Hw
end Whole
end Cert.KernelIdeal.Sort
end
-- ==== Proof.Ideal.Vs.lean ====
/- What the chunks hold, phase by phase, in the terms of the program's own operations. -/
module

public import proofs.«01_k».proof.Proof.Ideal.Body
public import proofs.«01_k».proof.Proof.Ideal.Split

@[expose] public section

noncomputable section

namespace Cert.KernelIdeal.Sort

open Cert.KernelIdeal Cert.KernelIdeal.Gen SortK
open Idealize.ShloMosaic Idealize.ShloMosaic.TcCoe

variable {F : FTy → Type} [FloatOps F]

/-- Chunk `c` of device `d` before phase `p`, the devices' blocks being `X`. -/
def Vs (X : Dev nD → Vec F S4096x1024 .bf16) : ℕ → Dev nD → ℕ → Vec F S4096x128 .bf16
  | 0, d, c => sortV (od d) (colsOf (X d) c)
  | p + 1, d, c => if active p d = true then consV (tm p d) (unsq (Vs X p (partner p d) c)) (Vs X p d c) else Vs X p d c

/-- The block a device ends with. -/
def finalOf (X : Dev nD → Vec F S4096x1024 .bf16) (d : Dev nD) : Vec F S4096x1024 .bf16 :=
  wholeOf fun c => finV (od d) (Vs X 16 d c)

theorem vs_steps (X : Dev nD → Vec F S4096x1024 .bf16) : Steps (Vs X) where
  act p d c _ _ h := by rw [Vs, if_pos h]
  idle p d c h := by rw [Vs, if_neg h]

end Cert.KernelIdeal.Sort
end
-- ==== Proof.Ideal.Run.lean ====
/- The launch and the run of the kernel: what the launch deals, the global step that opens the cells and the slots, the
   pipeline's data, and the run's result at every device's arrays. -/
module

public import proofs.«01_k».proof.Defs
public import proofs.«01_k».proof.Proof.Ideal.Deal
public import proofs.«01_k».proof.Proof.Ideal.Whole
public import proofs.«01_k».proof.Proof.Ideal.Vs
public import Idealize.ShloMosaic.Lib.Quiescent

@[expose] public section

noncomputable section

namespace Cert.KernelIdeal.Sort

open Cert.KernelIdeal Cert.KernelIdeal.Gen SortK
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation)

variable {F : FTy → Type} [FloatOps F]

local notation "𝕄" => MT nD τ sig ℕ (Elt F) ℕ UU ℕ

/-! ## The cells closed -/

section Close
variable (V : ℕ → Dev nD → ℕ → Vec F S4096x128 .bf16) (K : Dev nD × Fin 7 → ℕ) (ιs : Key → ℕ) (d : Dev nD)

theorem pos_end (s : ℕ) (hs : s < 2) : pos d 16 0 s = 4 * A d := by unfold pos; rw [ac_end]; omega

theorem close_send (s : ℕ) (hs : s < 2) : iprop(Invs V K ιs ∗ SPos (F := F) d s (4 * A d)) ⊢ iprop(|={Set.univ}=> semVal (sendC d s) 0) := by
  unfold SPos
  iintro ⟨#HI, Ha, -⟩
  iapply (Rounds.cell_close ER (Rd V) (Set.mem_univ (K (d, kSend s))) (fun h => h) (R := 4 * A d) (duties_send_end V d s))
  isplitr; · iapply (inv_send V K ιs d s); iexact HI
  iexact Ha
theorem close_recv (s : ℕ) (hs : s < 2) : iprop(Invs V K ιs ∗ RPos (F := F) d s (4 * A d)) ⊢ iprop(|={Set.univ}=> (semVal (recvC d s) 0 ∗ slotAny (F := F) d s)) := by
  unfold RPos SR; rw [if_neg (Nat.lt_irrefl _)]
  iintro ⟨#HI, Ha, -, Hs⟩
  imod (Rounds.cell_close ER (Rd V) (Set.mem_univ (K (d, kRecv s))) (fun h => h) (R := 4 * A d) (duties_recv_end V d s)) $$ [Ha] with H
  · isplitr; · iapply (inv_recv V K ιs d s); iexact HI
    iexact Ha
  imodintro
  isplitl [H]; · iexact H
  iexact Hs
theorem close_intra : iprop(Invs V K ιs ∗ atPos ER (intraC d) (A d) ∅ 0) ⊢ iprop(|={Set.univ}=> semVal (intraC d) 0) := by
  iintro ⟨#HI, Ha⟩
  iapply (Rounds.cell_close ER (Rd V) (Set.mem_univ (K (d, 4))) (fun h => h) (R := A d) (duties_intra_end V d))
  isplitr; · iapply (inv_intra V K ιs d); iexact HI
  iexact Ha
theorem close_inter (e : ℕ) (he : e < 2) : iprop(Invs V K ιs ∗ IP (F := F) d e 16) ⊢ iprop(|={Set.univ}=> semVal (interC d e) 0) := by
  unfold IP
  by_cases h : e = 1 ∧ edge d = true
  · rw [if_pos h]
    iintro ⟨#HI, Ha⟩
    iapply (Rounds.cell_close ER (Rd V) (Set.mem_univ (K (d, kInter e))) (fun h => h) (R := 0) (duties_inter_edge V d e (by omega) h.2))
    isplitr; · iapply (inv_inter V K ιs d e); iexact HI
    iexact Ha
  · have h' : e % 2 = 0 ∨ edge d = false := by
      by_cases h0 : e = 0
      · exact Or.inl (by omega)
      · exact Or.inr (by cases hh : edge d; rfl; exact absurd ⟨by omega, hh⟩ h)
    rw [if_neg h, show taken e 16 = 16 by unfold taken; omega]
    iintro ⟨#HI, Ha⟩
    imod (upos_close V (interPay (F := F) d e) (K (d, kInter e)) (interC d e) 0 16 (duties_inter V d e h') (expect_inter V d e h')) $$ [Ha] with ⟨Ha, -⟩
    · isplitr; · iapply (inv_inter V K ιs d e); iexact HI
      iexact Ha
    iapply (Rounds.cell_close ER (Rd V) (Set.mem_univ (K (d, kInter e))) (fun h => h) (R := 1) (duties_inter_end V d e))
    isplitr; · iapply (inv_inter V K ιs d e); iexact HI
    iexact Ha

omit [FloatOps F] in
theorem big7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- Every semaphore of the device back at zero, and the landing buffer. -/
theorem finish_close : iprop(Invs V K ιs ∗ Finish (F := F) d)
    ⊢ iprop(|={Set.univ}=> (Pipeline.ownSems0 (Ix := ℕ) (Name := ℕ) (U := UU) (Lvl := ℕ) (Val := Elt F) (τ := τ) osem d
      ∗ ∃ f : Buf (Elt F) ((d : Thread nD τ).loc cc0_scratch0), ((d : Thread nD τ).loc cc0_scratch0) ↦{fullShare} f)) := by
  unfold Finish SndS RcvS IPs
  rw [pos_end d 0 (by decide), pos_end d 1 (by decide)]
  unfold Pipeline.ownSems0
  rw [big7]
  iintro ⟨#HI, ⟨Hs0, Hs1⟩, ⟨Hr0, Hr1⟩, Ha, Hi0, Hi1⟩
  imod (close_send V K ιs d 0 (by decide)) $$ [Hs0] with Hs0
  · isplitr; · iexact HI
    iexact Hs0
  imod (close_send V K ιs d 1 (by decide)) $$ [Hs1] with Hs1
  · isplitr; · iexact HI
    iexact Hs1
  imod (close_recv V K ιs d 0 (by decide)) $$ [Hr0] with ⟨Hr0, H0⟩
  · isplitr; · iexact HI
    iexact Hr0
  imod (close_recv V K ιs d 1 (by decide)) $$ [Hr1] with ⟨Hr1, H1⟩
  · isplitr; · iexact HI
    iexact Hr1
  imod (close_intra V K ιs d) $$ [Ha] with Ha
  · isplitr; · iexact HI
    iexact Ha
  imod (close_inter V K ιs d 0 (by decide)) $$ [Hi0] with Hi0
  · isplitr; · iexact HI
    iexact Hi0
  imod (close_inter V K ιs d 1 (by decide)) $$ [Hi1] with Hi1
  · isplitr; · iexact HI
    iexact Hi1
  imodintro
  isplitr [H0 H1]
  · isplitl [Hs0]; · iexact Hs0
    isplitl [Hs1]; · iexact Hs1
    isplitl [Hr0]; · iexact Hr0
    isplitl [Hr1]; · iexact Hr1
    isplitl [Ha]; · iexact Ha
    isplitl [Hi0]; · iexact Hi0
    iexact Hi1
  iapply (slots_join d)
  isplitl [H0]; · iexact H0
  iexact H1
end Close

/-! ## The launch -/

variable (m : (ℓ : Loc nD τ sig) → Buf (Elt F) ℓ) (ρ : Dev nD → PrngReg)

/-- The state at launch. -/
def s₀ : MemSt nD τ sig (Elt F) := ⟨m, fun _ => 0, ρ⟩

/-- A device's block as it is staged. -/
def xb (d : Dev nD) : Vec F S4096x1024 .bf16 := (win0_0.blk (0 : Fin 1)).view.read (Elt F) ((s₀ m ρ).mem ((d : Thread nD τ).loc main_arg0))

/-- The chunks' values in this run. -/
abbrev VV : ℕ → Dev nD → ℕ → Vec F S4096x128 .bf16 := Vs (xb m ρ)

theorem ownSemFacts : Pipeline.OwnSemFacts cfg0.spec osem := by decide

/-- The tokens of the launch, by the device they point at. -/
def toks : Finset (GSem nD τ sig × ℕ × ℕ) := Pipeline.ownToksOf cfgs (0 : Fin 1) ownSemFacts (fun c => (dutyIx c).image (dutyOf c))

/-- The launch element. -/
def u₀ : UU :=
  (initOf (Pipeline.cells cfgs cellOf_inj) (Pipeline.launchToks cfgs cellOf_inj),
    (initOf (Pipeline.ownCells cfgs (0 : Fin 1) ownSemFacts) toks, initSlots Finset.univ 64))

omit [FloatOps F] in
theorem own_pair (b : URounds (GSem nD τ sig) ℕ) (c : USlots Key) :
    (BI.own (((Emb.inr : Emb (URounds (GSem nD τ sig) ℕ × USlots Key) UU).trans
      (uEmb (nD := nD) (τ := τ) (sig := sig) (Ix := ℕ) (Val := Elt F) (Name := ℕ) (U := UU) (Lvl := ℕ)).toEmb) (b, c)) : sProp 𝕄)
    ⊢ iprop(BI.own (ER b) ∗ BI.own (ES c)) :=
  BI.own_op_elim (((Emb.inr : Emb (URounds (GSem nD τ sig) ℕ × USlots Key) UU).trans
      (uEmb (nD := nD) (τ := τ) (sig := sig) (Ix := ℕ) (Val := Elt F) (Name := ℕ) (U := UU) (Lvl := ℕ)).toEmb).op_of_mem
      (Prod.mk_mem_op (URA.mem_op_one b) (URA.mem_one_op c)))

omit [FloatOps F] in
theorem ownU_split (a : URounds (GSem nD τ sig) Unit) (b : URounds (GSem nD τ sig) ℕ) (c : USlots Key) :
    (ownU (a, (b, c)) : sProp 𝕄) ⊢ iprop(BI.own (EP a) ∗ BI.own (ER b) ∗ BI.own (ES c)) := by
  have h1 : (ownU (a, (b, c)) : sProp 𝕄) ⊢ iprop(BI.own (EP a) ∗ BI.own (((Emb.inr : Emb (URounds (GSem nD τ sig) ℕ × USlots Key) UU).trans
      (uEmb (nD := nD) (τ := τ) (sig := sig) (Ix := ℕ) (Val := Elt F) (Name := ℕ) (U := UU) (Lvl := ℕ)).toEmb) (b, c))) :=
    BI.own_op_elim ((uEmb (nD := nD) (τ := τ) (sig := sig) (Ix := ℕ) (Val := Elt F) (Name := ℕ) (U := UU) (Lvl := ℕ)).toEmb.op_of_mem
      (Prod.mk_mem_op (URA.mem_op_one a) (URA.mem_one_op (b, c))))
  iintro H
  ihave H' := h1 $$ H
  icases H' with ⟨Ha, Hb⟩
  isplitl [Ha]; · iexact Ha
  iapply (own_pair b c)
  iexact Hb

/-- The slots' part of the launch element, kept by one device until the global step. -/
def slotPart (c : Dev nD) : sProp 𝕄 := if c = 0 then BI.own (ES (initSlots Finset.univ 64)) else iprop(emp)
omit [FloatOps F] in
theorem slotPart_all : bigSep Finset.univ (fun c : Dev nD => slotPart (F := F) c) = BI.own (ES (initSlots Finset.univ 64)) := by
  unfold slotPart
  rw [show (fun c : Dev nD => (if c = 0 then BI.own (ES (initSlots Finset.univ 64)) else iprop(emp) : sProp 𝕄)) = fun c => if c = 0 then (fun _ => BI.own (ES (initSlots Finset.univ 64))) c else BI.emp from rfl,
    ← bigSep_filter, Finset.filter_eq' Finset.univ (0 : Dev nD), if_pos (Finset.mem_univ _), bigSep_singleton]

/-- What the launch element deals a device. -/
def G (c : Dev nD) : sProp 𝕄 :=
  iprop(Pipeline.ownGhost cfgs (0 : Fin 1) ownSemFacts ER (Rd (VV m ρ)) c
    ∗ bigSep (acts c) (fun p => iprop(tS (F := F) c p ∗ tR (F := F) c p ∗ tA (F := F) c p ∗ tE (F := F) c p)) ∗ slotPart (F := F) c)

/-- A device's places on its own cells and slots. -/
def Places (c : Dev nD) : sProp 𝕄 :=
  iprop(bigSep Finset.univ (fun k : Fin 7 => iprop(atPos ER (kcell (c, k)) 0 ∅ 0 ∗ reached ER (kcell (c, k)) 0))
    ∗ (readerAt ES (c, 0) 0 ∗ readerAt ES (c, 1) 0))

/-- What every device may consult. -/
def records (K : Dev nD × Fin 7 → ℕ) (ιs : Key → ℕ) : sProp 𝕄 :=
  iprop(bigSep Finset.univ (fun ck : Dev nD × Fin 7 => cellInv ER (Rd (VV m ρ)) (K ck) (kcell ck))
    ∗ bigSep Finset.univ (fun k : Key => slotInv ES (ιs k) k (slotAny (F := F) k.1 k.2.val)) ∗ InterR)
instance records_persistent (K : Dev nD × Fin 7 → ℕ) (ιs : Key → ℕ) : BI.Persistent (records m ρ K ιs) := by unfold records; infer_instance

/-- What the global step makes of it. -/
def G' (c : Dev nD) : sProp 𝕄 := iprop(∃ K : Dev nD × Fin 7 → ℕ, ∃ ιs : Key → ℕ, (records m ρ K ιs ∗ Places (F := F) c ∗ Pays (F := F) c))

omit [FloatOps F] in
theorem core_alloc (V : ℕ → Dev nD → ℕ → Vec F S4096x128 .bf16) (c : Dev nD) :
    iprop(Pipeline.ownSems0 osem c ∗ Pipeline.ownGhost cfgs (0 : Fin 1) ownSemFacts ER (Rd V) c)
      ⊢ |={Set.univ}=> iprop((bigSep Finset.univ fun k => iprop(∃ κ : ℕ, cellInv ER (Rd V) κ (kcell (c, k))))
          ∗ (bigSep Finset.univ fun k => iprop(atPos ER (kcell (c, k)) 0 ∅ 0 ∗ reached ER (kcell (c, k)) 0))) := by
  rw [Pipeline.ownGhost_eq]
  iintro ⟨Hos, Hst, Hat⟩
  imod (Pipeline.ownCells_alloc cfgs (0 : Fin 1) ownSemFacts ER (Rd V) c) $$ [Hos Hst] with Hinv
  · isplitl [Hos] <;> iassumption
  imodintro
  isplitl [Hinv]; · iexact Hinv
  iexact Hat

omit [FloatOps F] in
theorem inter_of : (bigSep Finset.univ (fun ck : Dev nD × Fin 7 => (reached ER (kcell ck) 0 : sProp 𝕄))) ⊢ InterR (F := F) := by
  unfold InterR
  refine (BI.bigSep_of_persistent Finset.univ _).trans (bigSep_mono fun k _ => ?_)
  rw [← kInter_cell]
  exact big_elim (Φ := fun ck : Dev nD × Fin 7 => (reached ER (kcell ck) 0 : sProp 𝕄)) (Finset.mem_univ (k.1, kInter k.2.val))

/-- The launch element deals the staging cells' part and every device's share. -/
theorem deal_launch : (ownU u₀ : sProp 𝕄) ⊢ |={Set.univ}=> iprop(BI.own (EP (initOf (Pipeline.cells cfgs cellOf_inj) (Pipeline.launchToks cfgs cellOf_inj)))
    ∗ bigSep Finset.univ (G m ρ)) := by
  have hfund := Pipeline.fund_own cfgs (0 : Fin 1) ownSemFacts ER (Rd (VV m ρ)) toks
  have htoks : (bigSep toks fun x => (dutyTok ER x.1 x.2.1 x.2.2 : sProp 𝕄))
      ⊢ bigSep Finset.univ (fun c => bigSep (acts c) (fun p => iprop(tS (F := F) c p ∗ tR (F := F) c p ∗ tA (F := F) c p ∗ tE (F := F) c p))) := by
    unfold toks
    rw [Pipeline.bigSep_ownToksOf cfgs (0 : Fin 1) ownSemFacts ER]
    refine bigSep_mono fun c _ => ?_
    rw [← duties_list (F := F) c]
    exact BI.Entails.refl _
  have hs : (BI.own (ES (initSlots Finset.univ 64)) : sProp 𝕄) ⊢ bigSep Finset.univ (fun c : Dev nD => slotPart (F := F) c) := by
    rw [slotPart_all]
  unfold u₀ G
  rw [bigSep_sep', bigSep_sep']
  iintro H
  ihave H' := (ownU_split _ _ _) $$ H
  icases H' with ⟨HP, HR, HS⟩
  imod hfund $$ HR with ⟨Hg, Ht⟩
  ihave Ht' := htoks $$ Ht
  ihave HS' := hs $$ HS
  imodintro
  isplitl [HP]; · iexact HP
  isplitl [Hg]; · iexact Hg
  isplitl [Ht']; · iexact Ht'
  iexact HS'

omit [FloatOps F] in
theorem readers_list : (bigSep Finset.univ (fun k : Key => (readerAt ES k 0 : sProp 𝕄)))
    ⊢ bigSep Finset.univ (fun c : Dev nD => iprop(readerAt ES ((c, 0) : Key) 0 ∗ readerAt ES ((c, 1) : Key) 0)) := by
  rw [bigSep_univ_prod]
  refine bigSep_mono fun c _ => ?_
  rw [bigSep_univ_two]
  exact BI.Entails.refl _

theorem slots_open : (BI.own (ES (initSlots Finset.univ 64)) : sProp 𝕄) ⊢ |={Set.univ}=> iprop(∃ ιs : Key → ℕ,
      bigSep Finset.univ (fun k : Key => slotInv ES (ιs k) k (slotAny (F := F) k.1 k.2.val))
      ∗ bigSep Finset.univ (fun c : Dev nD => iprop(readerAt ES ((c, 0) : Key) 0 ∗ readerAt ES ((c, 1) : Key) 0))
      ∗ bigSep Finset.univ (fun d : Dev nD => bigSep (acts d) (tW (F := F) d))) := by
  have h := slots_init (nD := nD) (τ := τ) (sig := sig) (Ix := ℕ) (Val := Elt F) (Name := ℕ) (U := UU) (Lvl := ℕ) (Es := Set.univ) ES (Finset.univ : Finset Key) 64 (fun k : Key => slotAny (F := F) k.1 k.2.val)
  have hw := writes_list (F := F)
  unfold writeAll at hw
  iintro H
  imod h $$ H with ⟨%ιs, -, Hi, Hr, Hw⟩
  imodintro
  iexists ιs
  isplitl [Hi]; · iexact Hi
  isplitl [Hr]; · iapply readers_list; iexact Hr
  iapply hw
  iexact Hw

theorem regroup (V : ℕ → Dev nD → ℕ → Vec F S4096x128 .bf16) :
    (bigSep Finset.univ fun c => iprop((bigSep Finset.univ fun k => iprop(∃ κ : ℕ, cellInv ER (Rd V) κ (kcell (c, k))))
      ∗ (bigSep Finset.univ fun k : Fin 7 => iprop(atPos ER (kcell (c, k)) 0 ∅ 0 ∗ reached ER (kcell (c, k)) 0))) : sProp 𝕄)
    ⊢ iprop((∃ K : Dev nD × Fin 7 → ℕ, bigSep Finset.univ (fun ck : Dev nD × Fin 7 => cellInv ER (Rd V) (K ck) (kcell ck)))
      ∗ InterR ∗ bigSep Finset.univ (fun c : Dev nD => bigSep Finset.univ (fun k : Fin 7 => iprop(atPos ER (kcell (c, k)) 0 ∅ 0 ∗ reached ER (kcell (c, k)) 0)))) := by
  rw [bigSep_sep', ← bigSep_univ_prod (fun ck : Dev nD × Fin 7 => iprop(∃ κ : ℕ, cellInv ER (Rd V) κ (kcell ck)))]
  have hr : (bigSep Finset.univ (fun c : Dev nD => bigSep Finset.univ (fun k : Fin 7 => iprop(atPos ER (kcell (c, k)) 0 ∅ 0 ∗ reached ER (kcell (c, k)) 0))) : sProp 𝕄)
      ⊢ iprop(bigSep Finset.univ (fun ck : Dev nD × Fin 7 => atPos ER (kcell ck) 0 ∅ 0) ∗ bigSep Finset.univ (fun ck : Dev nD × Fin 7 => reached ER (kcell ck) 0)) := by
    rw [← bigSep_univ_prod (fun ck : Dev nD × Fin 7 => iprop(atPos ER (kcell ck) 0 ∅ 0 ∗ reached ER (kcell ck) 0)), bigSep_sep']
  have hr' : iprop(bigSep Finset.univ (fun ck : Dev nD × Fin 7 => atPos ER (kcell ck) 0 ∅ 0) ∗ bigSep Finset.univ (fun ck : Dev nD × Fin 7 => reached ER (kcell ck) 0))
      ⊢ (bigSep Finset.univ (fun c : Dev nD => bigSep Finset.univ (fun k : Fin 7 => iprop(atPos ER (kcell (c, k)) 0 ∅ 0 ∗ reached ER (kcell (c, k)) 0))) : sProp 𝕄) := by
    rw [← bigSep_univ_prod (fun ck : Dev nD × Fin 7 => iprop(atPos ER (kcell ck) 0 ∅ 0 ∗ reached ER (kcell ck) 0)), bigSep_sep']
  iintro ⟨HI, Ha⟩
  ihave HI' := (BI.bigSep_exists_pi Finset.univ (fun (ck : Dev nD × Fin 7) (κ : ℕ) => (cellInv ER (Rd V) κ (kcell ck) : sProp 𝕄))) $$ HI
  ihave Ha' := hr $$ Ha
  icases Ha' with ⟨Ha1, #Hr⟩
  isplitl [HI']; · iexact HI'
  isplitr; · iapply inter_of; iexact Hr
  iapply hr'
  isplitl [Ha1]; · iexact Ha1
  iexact Hr

theorem g'_intro (K : Dev nD × Fin 7 → ℕ) (ιs : Key → ℕ) (c : Dev nD) :
    iprop(records m ρ K ιs ∗ Places (F := F) c ∗ Pays (F := F) c) ⊢ G' m ρ c := by
  unfold G'
  iintro H
  iexists K
  iexists ιs
  iexact H

theorem glob : bigSep Finset.univ (fun c => iprop(Pipeline.ownSems0 osem c ∗ G m ρ c))
    ⊢ |={Set.univ}=> bigSep Finset.univ (G' m ρ) := by
  have hslot : (bigSep Finset.univ (fun c : Dev nD => slotPart (F := F) c)) ⊢ (BI.own (ES (initSlots Finset.univ 64)) : sProp 𝕄) := by
    rw [slotPart_all]
  have halloc : iprop((bigSep Finset.univ fun c : Dev nD => (Pipeline.ownSems0 osem c : sProp 𝕄)) ∗ (bigSep Finset.univ fun c : Dev nD => (Pipeline.ownGhost cfgs (0 : Fin 1) ownSemFacts ER (Rd (VV m ρ)) c : sProp 𝕄)))
      ⊢ |={Set.univ}=> (bigSep Finset.univ fun c => iprop((bigSep Finset.univ fun k => iprop(∃ κ : ℕ, cellInv ER (Rd (VV m ρ)) κ (kcell (c, k))))
      ∗ (bigSep Finset.univ fun k : Fin 7 => iprop(atPos ER (kcell (c, k)) 0 ∅ 0 ∗ reached ER (kcell (c, k)) 0)))) :=
    (Entails.of_eq (bigSep_sep' _ _ _).symm).trans ((bigSep_mono fun c _ => core_alloc (F := F) (VV m ρ) c).trans (bigSep_fupd _ _))
  have hend : ∀ K ιs, iprop(records m ρ K ιs ∗ (bigSep Finset.univ (fun c : Dev nD => bigSep Finset.univ (fun k : Fin 7 => iprop(atPos ER (kcell (c, k)) 0 ∅ 0 ∗ reached ER (kcell (c, k)) 0))))
        ∗ (bigSep Finset.univ (fun c : Dev nD => iprop(readerAt ES ((c, 0) : Key) 0 ∗ readerAt ES ((c, 1) : Key) 0)))
        ∗ bigSep Finset.univ (fun c => Pays (F := F) c)) ⊢ bigSep Finset.univ (G' m ρ) := by
    intro K ιs
    have h1 : iprop((bigSep Finset.univ (fun c : Dev nD => bigSep Finset.univ (fun k : Fin 7 => iprop(atPos ER (kcell (c, k)) 0 ∅ 0 ∗ reached ER (kcell (c, k)) 0))))
        ∗ (bigSep Finset.univ (fun c : Dev nD => iprop(readerAt ES ((c, 0) : Key) 0 ∗ readerAt ES ((c, 1) : Key) 0)))
        ∗ bigSep Finset.univ (fun c => Pays (F := F) c)) ⊢ bigSep Finset.univ (fun c => iprop(Places (F := F) c ∗ Pays (F := F) c)) := by
      rw [bigSep_sep' Finset.univ (fun c : Dev nD => Places (F := F) c) (fun c => Pays (F := F) c)]
      unfold Places
      rw [bigSep_sep' Finset.univ (fun c : Dev nD => bigSep Finset.univ (fun k : Fin 7 => iprop(atPos ER (kcell (c, k)) 0 ∅ 0 ∗ reached ER (kcell (c, k)) 0))) _]
      iintro ⟨H1, H2, H3⟩
      isplitr [H3]
      · isplitl [H1]; · iexact H1
        iexact H2
      iexact H3
    iintro ⟨HR, H⟩
    iapply (bigSep_with_persistent (R := records m ρ K ιs) fun c _ => g'_intro m ρ K ιs c)
    isplitl [HR]; · iexact HR
    iapply h1
    iexact H
  unfold G
  rw [bigSep_sep', bigSep_sep', bigSep_sep']
  iintro ⟨Hs, Hg, Ht, Hl⟩
  imod halloc $$ [Hs Hg] with Hc
  · isplitl [Hs]; · iexact Hs
    iexact Hg
  ihave Hc' := (regroup (F := F) (VV m ρ)) $$ Hc
  icases Hc' with ⟨⟨%K, Hci⟩, Hir, Hpl⟩
  ihave Hl' := hslot $$ Hl
  imod (slots_open (F := F)) $$ Hl' with ⟨%ιs, Hsi, Hrd, Hw⟩
  imodintro
  iapply (hend K ιs)
  isplitl [Hci Hsi Hir]
  · unfold records
    isplitl [Hci]; · iexact Hci
    isplitl [Hsi]; · iexact Hsi
    iexact Hir
  isplitl [Hpl]; · iexact Hpl
  isplitl [Hrd]; · iexact Hrd
  iapply (dealt (F := F))
  isplitl [Ht]; · iexact Ht
  iexact Hw

/-! ## A device's start -/

/-- What a device opens its run with, besides its landing buffer. -/
def start (c : Dev nD) : sProp 𝕄 := iprop(∃ K : Dev nD × Fin 7 → ℕ, ∃ ιs : Key → ℕ, (Invs (VV m ρ) K ιs ∗ InterR ∗ Start (F := F) c))

theorem start_intro (c : Dev nD) :
    iprop(Pipeline.unscopedRestP Pipeline.Prefetch.none cfg0.spec c (fun b => m ((c : Thread nD τ).loc b)) ∗ unscopedSems0 c ∗ levAts L lv ∗ Pipeline.launchCred O₀ c ∗ prngReg c (ρ c) ∗ G' m ρ c)
      ⊢ |={Set.univ}=> iprop(start m ρ c ∗ emp) := by
  have hc := creds (F := F) c
  have ht := toks_intro (F := F) c
  unfold start G' Places
  rw [big7]
  iintro ⟨-, -, #Hlev, Hcred, -, %K, %ιs, ⟨#Hrec, ⟨⟨⟨H0, #R0⟩, ⟨H1, #R1⟩, ⟨H2, #R2⟩, ⟨H3, #R3⟩, ⟨H4, #R4⟩, ⟨H5, -⟩, ⟨H6, -⟩⟩, Hr0, Hr1⟩, Hp⟩⟩
  ihave Hcr := (Entails.of_eq hc) $$ Hcred
  ihave Ht := ht $$ [Hp Hcr]
  · isplitl [Hp]; · iexact Hp
    iexact Hcr
  icases Ht with ⟨⟨Hg0, Hg1⟩, Htok⟩
  unfold records
  icases Hrec with ⟨#HI, #HS, #HR⟩
  imodintro
  isplitl
  · iexists K
    iexists ιs
    isplitr
    · unfold Invs
      isplitr; · iexact HI
      isplitr; · iexact HS
      iexact Hlev
    isplitr; · iexact HR
    unfold Start SPos
    isplitl [H0]
    · isplitl [H0]; · iexact H0
      iexact R0
    isplitl [H1]
    · isplitl [H1]; · iexact H1
      iexact R1
    isplitl [H2]
    · isplitl [H2]; · iexact H2
      iexact R2
    isplitl [H3]
    · isplitl [H3]; · iexact H3
      iexact R3
    isplitl [H4]
    · isplitl [H4]; · iexact H4
      iexact R4
    isplitl [H5 H6]
    · isplitl [H5]; · iexact H5
      iexact H6
    isplitl [Hr0 Hr1]
    · isplitl [Hr0]; · iexact Hr0
      iexact Hr1
    isplitl [Hg0 Hg1]
    · isplitl [Hg0]; · iexact Hg0
      iexact Hg1
    iexact Htok
  · iempintro

/-! ## The pipeline's data -/

/-- Before the body. -/
def Φ₀ (c : Dev nD) : sProp 𝕄 := iprop(start m ρ c ∗ ∃ f : Buf (Elt F) ((c : Thread nD τ).loc cc0_scratch0), ((c : Thread nD τ).loc cc0_scratch0) ↦{fullShare} f)
/-- After it. -/
def Φ₁ (c : Dev nD) : sProp 𝕄 := iprop(Pipeline.ownSems0 osem c ∗ ∃ f : Buf (Elt F) ((c : Thread nD τ).loc cc0_scratch0), ((c : Thread nD τ).loc cc0_scratch0) ↦{fullShare} f)

/-- The one pipeline's data on device `c`. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xb m ρ c
    | ⟨1, _⟩ => finalOf (xb m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = _ from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, show (Pipeline.scopedRest cfg0.spec c : sProp 𝕄) = _ from scopedRest0_eq c]
  unfold Φ₁
  iintro ⟨Hr, Hz⟩
  isplitr; · iempintro
  isplitl [Hr]; · iexact Hr
  iexact Hz

theorem share_eq (c : Dev nD) (w : Fin cfg0.W) : (dats m ρ 0 c).share w = fullShare := by
  unfold Dat.share; split <;> rfl

/-- The waits on the staging cells, before either point. -/
theorem waits (c : Dev nD) : (levAts L lv : sProp 𝕄) ⊢ Pipeline.cellsWaits cfgs (dats m ρ) 0 0 c :=
  Pipeline.cellsWaits_intro cfgs (dats m ρ) 0 0 c fun w s t =>
    mayWait c _ 0 (by decide) (by
      rcases t with ⟨_ | _, ht⟩
      · exact ((above_Ow c (by omega)).add (above_grant c (by decide) (by decide) (by decide))).add (above_grant c (by decide) (by decide) (by decide))
      · exact Above.zero _)

/-- What the library calls the body with. -/
def bodyPre (c : Dev nD) : sProp 𝕄 :=
  iprop(Φ₀ m ρ c ∗ (dats m ρ 0 c).owesAt 0 (t0_0 : Fin cfg0.N).castSucc
    ∗ (∃ d, inAtW (F := F) c ((dats m ρ 0 c).before (0 : Fin 2) t0_0 d))
    ∗ (∃ d, outAtW (F := F) c ((dats m ρ 0 c).before (1 : Fin 2) t0_0 d)))
/-- What it takes back. -/
def bodyPost (c : Dev nD) : sProp 𝕄 :=
  iprop(Φ₁ c ∗ (dats m ρ 0 c).owesAt 0 (t0_0 : Fin cfg0.N).succ ∗ inAtW (F := F) c (xb m ρ c) ∗ outAtW (F := F) c (finalOf (xb m ρ) c))

theorem post_of (K : Dev nD × Fin 7 → ℕ) (ιs : Key → ℕ) (c : Dev nD) :
    iprop(Invs (VV m ρ) K ιs ∗ Finish (F := F) c ∗ inAtW c (xb m ρ c) ∗ outAtW c (wholeOf fun i => finV (od c) (VV m ρ 16 c i)) ∗ owesE c 0)
      ⊢ |={Set.univ}=> bodyPost m ρ c := by
  unfold bodyPost Φ₁ Dat.owesAt Pipeline.owesWithin owesE
  rw [show (dats m ρ 0 c).owed (t0_0 : Fin cfg0.N).succ = 0 from rfl]
  iintro ⟨HI, HF, Hx, Ho, %W, HO⟩
  imod (finish_close (VV m ρ) K ιs c) $$ [HI HF] with Hz
  · isplitl [HI]; · iexact HI
    iexact HF
  imodintro
  isplitl [Hz]; · iexact Hz
  isplitl [HO]
  · iexists W
    isplitr; · ipureintro; exact fun _ _ => Or.inl trivial
    iexact HO
  isplitl [Hx]; · iexact Hx
  iexact Ho

theorem sound_body (c : Dev nD) : bodyPre m ρ c ⊢ WP c (cc0_body xM (Memref.isWhole_whole _) oM (Memref.isWhole_whole _) rM (Memref.isWhole_whole _)
    cc0_scratch1 cc0_scratch2 cc0_scratch3 cc0_scratch4) (fun _ => bodyPost m ρ c) := by
  unfold bodyPre Φ₀ start Dat.owesAt Pipeline.owesWithin
  rw [show (dats m ρ 0 c).owed (t0_0 : Fin cfg0.N).castSucc = O₀ c from rfl]
  iintro ⟨⟨⟨%K, %ιs, HI, HR, HS⟩, %f, Hf⟩, ⟨%W, -, HO⟩, ⟨%d0, Hx⟩, ⟨%d1, Ho⟩⟩
  have hx : (dats m ρ 0 c).before (0 : Fin 2) t0_0 d0 = xb m ρ c := by unfold Dat.before; rw [if_pos (fetch0_0 t0_0)]; rfl
  ihave Hx := (Entails.of_eq (congrArg (inAtW (F := F) c) hx)) $$ Hx
  ihave Hf' := (slots_split c f) $$ Hf
  icases Hf' with ⟨H0, H1⟩
  iapply ((wp_mono _ _ _ (fun _ => post_of m ρ K ιs c)).trans (wp_fupd _ _ _ _ _))
  iapply (whole_body (VV m ρ) K ιs c (vs_steps _) (xb m ρ c) _ (fun i => rfl))
  isplitl [HI]; · iexact HI
  isplitl [HR]; · iexact HR
  isplitl [HS]; · iexact HS
  isplitl [H0]; · iexact H0
  isplitl [H1]; · iexact H1
  isplitl [HO]
  · unfold owesE
    iexists W
    iexact HO
  isplitl [Hx]; · iexact Hx
  iexact Ho

set_option maxRecDepth 4000 in
theorem body_obligation (c : Dev nD) : BodyObligation (dats (F := F) m ρ 0 c) (defs₀ (F := F)) 𝒱₀ 0 Set.univ := fun t => by
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  exact sound_body m ρ c

/-! ## The run -/

/-- An array's contents after the run. -/
def finalA (c : Dev nD) (w : Fin cfg0.W) : Buf (Elt F) ((cfg0.win w).arr.view.loc (c : Thread nD τ)) := (dats m ρ 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution of the sixteen devices terminates, each device's arrays at
    the computed contents and every counter at zero. -/
theorem run_main : θ_run defs (onTc (τ := τ) (main (F := F))) (s₀ m ρ) (fun r => QC m ρ r ∧ r.2.sem = fun _ => 0) :=
  Pipeline.θ_run_region_owing_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := deal_launch m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h hs => ⟨fun c w => (h c).1 w, sem_eq_zero_of_scoped (by decide) hs⟩)

/-- The argument's array ends as it began; -/
theorem finalA_x (c : Dev nD) : finalA m ρ c (0 : Fin 2) = (s₀ m ρ).mem (win0_0.arr.view.loc (c : Thread nD τ)) :=
  (dats (F := F) m ρ 0 c).arrAt_in (0 : Fin 2) rfl _

/-- the result's one block is the device's sorted block. -/
theorem finalA_o (c : Dev nD) : (win0_1.blk (0 : Fin 1)).view.read (Elt F) (finalA m ρ c (1 : Fin 2)) = finalOf (xb m ρ) c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The run read at the argument. -/
theorem frame_main : θ_run (defs (F := F)) (onTc (τ := τ) (main (F := F))) ⟨m, fun _ => 0, ρ⟩ (fun r => (∀ c : Dev nD,
    r.2.mem ((c : Thread nD τ).loc main_arg0) = m ((c : Thread nD τ).loc main_arg0)) ∧ r.2.sem = fun _ => 0) :=
  (θ_run defs _ _).mono (fun _ h => ⟨fun c => (h.1 c (0 : Fin 2)).trans (finalA_x m ρ c), h.2⟩) (run_main m ρ)

end Cert.KernelIdeal.Sort
end
-- ==== Proof.Ideal.Stage.lean ====
/- The compare-exchange stages of the kernel's two networks, each as one function of a chunk: the form in which the
   rows are rotated, and the form in which they are viewed in groups. The local sort, the merge and the last pass of
   Value.lean are compositions of these stages. -/
module

public import proofs.«01_k».proof.Proof.Ideal.Value

@[expose] public section

noncomputable section

namespace Cert.KernelIdeal.Sort

open Cert.KernelIdeal Cert.KernelIdeal.Gen
open Idealize.ShloMosaic Idealize.ShloMosaic.TcCoe

variable {F : FTy → Type} [FloatOps F]

/-- The rows whose number has the bit `k` clear. -/
def maskV (k : BitVec 32) : IVec S4096x1 1 :=
  cmpi .eq (andi (iota .tc S4096x1 32 [0] iota_S4096x1_d0_w32) (broadcast S4096x1 k)) (broadcast S4096x1 0#32)

/-- One mark for each row, along the row. -/
def rowsV (w : IVec S4096x1 1) : IVec S4096x128 1 :=
  broadcastTo S4096x128 (shapeCast S4096x1 w shapeCasts_S4096x1_S4096x1) broadcasts_S4096x1_S4096x128

/-- The other row of each pair at distance `j`, by rotating the rows `j` up and `j` down (`n` is `4096 - j`). -/
def otherV (n j : BitVec 32) (x : FVec F S4096x128 .bf16) : FVec F S4096x128 .bf16 :=
  select (rowsV (maskV j)) (dynamicRotate 0 n none x rotates_S4096x128_d0) (dynamicRotate 0 j none x rotates_S4096x128_d0)

/-- A stage at distance `j` by rotations: where `dir` holds the lower row of a pair takes the minimum. -/
def rollV (n j : BitVec 32) (dir : IVec S4096x1 1) (x : FVec F S4096x128 .bf16) : FVec F S4096x128 .bf16 :=
  select (rowsV (xori (xori (maskV j) dir) (constantI S4096x1 1 1#1)))
    (minimumf x (otherV n j x)) (maximumf x (otherV n j x))

/-- What the stage at distance `j` in `g` groups of `2 j` rows needs of its shapes. -/
structure Resh (g j : ℕ) : Prop where
  c0 : S4096x128.ShapeCasts ⟨4, ![g, 2, j, 128]⟩
  s0 : (⟨4, ![g, 2, j, 128]⟩ : Shape).Slices ![0, 0, 0, 0] ⟨4, ![g, 1, j, 128]⟩
  s1 : (⟨4, ![g, 2, j, 128]⟩ : Shape).Slices ![0, 1, 0, 0] ⟨4, ![g, 1, j, 128]⟩
  c1 : (⟨4, ![g, 1, j, 128]⟩ : Shape).ShapeCasts ⟨3, ![g, j, 128]⟩
  c2 : (⟨3, ![g, j, 128]⟩ : Shape).ShapeCasts ⟨4, ![g, 1, j, 128]⟩
  cc : Shape.Concatenates [⟨4, ![g, 1, j, 128]⟩, ⟨4, ![g, 1, j, 128]⟩] ⟨4, ![g, 2, j, 128]⟩ 1
  c3 : (⟨4, ![g, 2, j, 128]⟩ : Shape).ShapeCasts S4096x128
  io : (⟨3, ![g, 1, 1]⟩ : Shape).Iotas .tc 32 [0]
  cm : (⟨3, ![g, 1, 1]⟩ : Shape).ShapeCasts ⟨3, ![g, 1, 1]⟩
  bm : (⟨3, ![g, 1, 1]⟩ : Shape).Broadcasts ⟨3, ![g, j, 128]⟩

section
variable {g j : ℕ} (H : Resh g j)
include H

/-- The lower rows of all pairs. -/
def lowV (x : FVec F S4096x128 .bf16) : FVec F ⟨3, ![g, j, 128]⟩ .bf16 :=
  shapeCast _ (extractStridedSlice ⟨4, ![g, 1, j, 128]⟩ ![0, 0, 0, 0] (shapeCast ⟨4, ![g, 2, j, 128]⟩ x H.c0) H.s0) H.c1

/-- The upper rows of all pairs. -/
def highV (x : FVec F S4096x128 .bf16) : FVec F ⟨3, ![g, j, 128]⟩ .bf16 :=
  shapeCast _ (extractStridedSlice ⟨4, ![g, 1, j, 128]⟩ ![0, 1, 0, 0] (shapeCast ⟨4, ![g, 2, j, 128]⟩ x H.c0) H.s1) H.c1

/-- The rows put together again from the lower and the upper ones. -/
def joinV (a b : FVec F ⟨3, ![g, j, 128]⟩ .bf16) : FVec F S4096x128 .bf16 :=
  shapeCast S4096x128 (concatenate ⟨4, ![g, 2, j, 128]⟩ 1
    [⟨⟨4, ![g, 1, j, 128]⟩, shapeCast _ a H.c2⟩, ⟨⟨4, ![g, 1, j, 128]⟩, shapeCast _ b H.c2⟩] H.cc) H.c3

/-- The groups whose number has the bit `k` clear, along their rows. -/
def groupsV (k : BitVec 32) : IVec ⟨3, ![g, j, 128]⟩ 1 :=
  broadcastTo ⟨3, ![g, j, 128]⟩ (shapeCast ⟨3, ![g, 1, 1]⟩
    (cmpi .eq (andi (iota .tc ⟨3, ![g, 1, 1]⟩ 32 [0] H.io) (broadcast ⟨3, ![g, 1, 1]⟩ k)) (broadcast ⟨3, ![g, 1, 1]⟩ 0#32)) H.cm) H.bm

/-- A stage in groups, every lower row taking the minimum. -/
def upV (x : FVec F S4096x128 .bf16) : FVec F S4096x128 .bf16 :=
  joinV H (minimumf (lowV H x) (highV H x)) (maximumf (lowV H x) (highV H x))

/-- A stage in groups: the lower rows take the minimum in the groups whose number has the bit `k` clear. -/
def dirV (k : BitVec 32) (x : FVec F S4096x128 .bf16) : FVec F S4096x128 .bf16 :=
  joinV H
    (select (groupsV H k) (minimumf (lowV H x) (highV H x)) (maximumf (lowV H x) (highV H x)))
    (select (groupsV H k) (maximumf (lowV H x) (highV H x)) (minimumf (lowV H x) (highV H x)))

end

theorem resh8 : Resh 256 8 := ⟨by decide, by decide, by decide, by decide, by decide, by decide, by decide, by decide, by decide, by decide⟩
theorem resh16 : Resh 128 16 := ⟨by decide, by decide, by decide, by decide, by decide, by decide, by decide, by decide, by decide, by decide⟩
theorem resh32 : Resh 64 32 := ⟨by decide, by decide, by decide, by decide, by decide, by decide, by decide, by decide, by decide, by decide⟩
theorem resh64 : Resh 32 64 := ⟨by decide, by decide, by decide, by decide, by decide, by decide, by decide, by decide, by decide, by decide⟩
theorem resh128 : Resh 16 128 := ⟨by decide, by decide, by decide, by decide, by decide, by decide, by decide, by decide, by decide, by decide⟩
theorem resh256 : Resh 8 256 := ⟨by decide, by decide, by decide, by decide, by decide, by decide, by decide, by decide, by decide, by decide⟩
theorem resh512 : Resh 4 512 := ⟨by decide, by decide, by decide, by decide, by decide, by decide, by decide, by decide, by decide, by decide⟩
theorem resh1024 : Resh 2 1024 := ⟨by decide, by decide, by decide, by decide, by decide, by decide, by decide, by decide, by decide, by decide⟩
theorem resh2048 : Resh 1 2048 := ⟨by decide, by decide, by decide, by decide, by decide, by decide, by decide, by decide, by decide, by decide⟩

/-- The stages that leave sorted runs of 2 rows. -/
def runs2 (x : FVec F S4096x128 .bf16) : FVec F S4096x128 .bf16 :=
  rollV 4095#32 1#32 (maskV 2#32) x

/-- The stages that leave sorted runs of 4 rows. -/
def runs4 (x : FVec F S4096x128 .bf16) : FVec F S4096x128 .bf16 :=
  rollV 4095#32 1#32 (maskV 4#32) (rollV 4094#32 2#32 (maskV 4#32) x)

/-- The stages that leave sorted runs of 8 rows. -/
def runs8 (x : FVec F S4096x128 .bf16) : FVec F S4096x128 .bf16 :=
  rollV 4095#32 1#32 (maskV 8#32) (rollV 4094#32 2#32 (maskV 8#32) (rollV 4092#32 4#32 (maskV 8#32) x))

/-- The stages that leave sorted runs of 16 rows. -/
def runs16 (x : FVec F S4096x128 .bf16) : FVec F S4096x128 .bf16 :=
  rollV 4095#32 1#32 (maskV 16#32) (rollV 4094#32 2#32 (maskV 16#32) (rollV 4092#32 4#32 (maskV 16#32) (dirV resh8 1#32 x)))

/-- The stages that leave sorted runs of 32 rows. -/
def runs32 (x : FVec F S4096x128 .bf16) : FVec F S4096x128 .bf16 :=
  rollV 4095#32 1#32 (maskV 32#32) (rollV 4094#32 2#32 (maskV 32#32) (rollV 4092#32 4#32 (maskV 32#32) (dirV resh8 2#32 (dirV resh16 1#32 x))))

/-- The stages that leave sorted runs of 64 rows. -/
def runs64 (x : FVec F S4096x128 .bf16) : FVec F S4096x128 .bf16 :=
  rollV 4095#32 1#32 (maskV 64#32) (rollV 4094#32 2#32 (maskV 64#32) (rollV 4092#32 4#32 (maskV 64#32) (dirV resh8 4#32 (dirV resh16 2#32 (dirV resh32 1#32 x)))))

/-- The stages that leave sorted runs of 128 rows. -/
def runs128 (x : FVec F S4096x128 .bf16) : FVec F S4096x128 .bf16 :=
  rollV 4095#32 1#32 (maskV 128#32) (rollV 4094#32 2#32 (maskV 128#32) (rollV 4092#32 4#32 (maskV 128#32) (dirV resh8 8#32 (dirV resh16 4#32 (dirV resh32 2#32 (dirV resh64 1#32 x))))))

/-- The stages that leave sorted runs of 256 rows. -/
def runs256 (x : FVec F S4096x128 .bf16) : FVec F S4096x128 .bf16 :=
  rollV 4095#32 1#32 (maskV 256#32) (rollV 4094#32 2#32 (maskV 256#32) (rollV 4092#32 4#32 (maskV 256#32) (dirV resh8 16#32 (dirV resh16 8#32 (dirV resh32 4#32 (dirV resh64 2#32 (dirV resh128 1#32 x)))))))

/-- The stages that leave sorted runs of 512 rows. -/
def runs512 (x : FVec F S4096x128 .bf16) : FVec F S4096x128 .bf16 :=
  rollV 4095#32 1#32 (maskV 512#32) (rollV 4094#32 2#32 (maskV 512#32) (rollV 4092#32 4#32 (maskV 512#32) (dirV resh8 32#32 (dirV resh16 16#32 (dirV resh32 8#32 (dirV resh64 4#32 (dirV resh128 2#32 (dirV resh256 1#32 x))))))))

/-- The stages that leave sorted runs of 1024 rows. -/
def runs1024 (x : FVec F S4096x128 .bf16) : FVec F S4096x128 .bf16 :=
  rollV 4095#32 1#32 (maskV 1024#32) (rollV 4094#32 2#32 (maskV 1024#32) (rollV 4092#32 4#32 (maskV 1024#32) (dirV resh8 64#32 (dirV resh16 32#32 (dirV resh32 16#32 (dirV resh64 8#32 (dirV resh128 4#32 (dirV resh256 2#32 (dirV resh512 1#32 x)))))))))

/-- The stages that leave sorted runs of 2048 rows. -/
def runs2048 (x : FVec F S4096x128 .bf16) : FVec F S4096x128 .bf16 :=
  rollV 4095#32 1#32 (maskV 2048#32) (rollV 4094#32 2#32 (maskV 2048#32) (rollV 4092#32 4#32 (maskV 2048#32) (dirV resh8 128#32 (dirV resh16 64#32 (dirV resh32 32#32 (dirV resh64 16#32 (dirV resh128 8#32 (dirV resh256 4#32 (dirV resh512 2#32 (dirV resh1024 1#32 x))))))))))

/-- The stages that leave sorted runs of 4096 rows. -/
def runs4096 (x : FVec F S4096x128 .bf16) : FVec F S4096x128 .bf16 :=
  rollV 4095#32 1#32 (maskV 4096#32) (rollV 4094#32 2#32 (maskV 4096#32) (rollV 4092#32 4#32 (maskV 4096#32) (dirV resh8 256#32 (dirV resh16 128#32 (dirV resh32 64#32 (dirV resh64 32#32 (dirV resh128 16#32 (dirV resh256 8#32 (dirV resh512 4#32 (dirV resh1024 2#32 (dirV resh2048 1#32 x)))))))))))

/-- The ascending merge. -/
def mergeV (x : FVec F S4096x128 .bf16) : FVec F S4096x128 .bf16 :=
  rollV 4095#32 1#32 (broadcast S4096x1 1#1) (rollV 4094#32 2#32 (broadcast S4096x1 1#1) (rollV 4092#32 4#32 (broadcast S4096x1 1#1) (upV resh8 (upV resh16 (upV resh32 (upV resh64 (upV resh128 (upV resh256 (upV resh512 (upV resh1024 (upV resh2048 x)))))))))))

/-- The local sort. -/
def sortAscV (x : FVec F S4096x128 .bf16) : FVec F S4096x128 .bf16 :=
  runs4096 (runs2048 (runs1024 (runs512 (runs256 (runs128 (runs64 (runs32 (runs16 (runs8 (runs4 (runs2 x)))))))))))

/-- A chunk with every value's sign turned where `w` is set. -/
def signV (w : BitVec 1) (x : FVec F S4096x128 .bf16) : FVec F S4096x128 .bf16 :=
  Scalar.select w (subf (broadcast S4096x128 (Scalar.ofBits .bf16 0x0000#16)) x) x
set_option maxRecDepth 65536 in
/-- What the first loop stores is the local sort of the chunk, its signs turned where `v13` is set. -/
theorem sortV_eq (v13 : BitVec 1) (x : Vec F S4096x128 .bf16) :
    sortV v13 x = sortAscV (signV v13 (shapeCast S4096x128 x shapeCasts_S4096x128_S4096x128)) := rfl

/-- A landed slot as a chunk, its signs turned. -/
def landedV (r : Vec F S1x4096x128 .bf16) : FVec F S4096x128 .bf16 :=
  subf (broadcast S4096x128 (Scalar.ofBits .bf16 0x0000#16)) (shapeCast S4096x128 r shapeCasts_S1x4096x128_S4096x128)

set_option maxRecDepth 65536 in
/-- What a consumed landing stores is the merge of the kept half. -/
theorem consV_eq (v60 : BitVec 1) (r : Vec F S1x4096x128 .bf16) (x : Vec F S4096x128 .bf16) :
    consV v60 r x = mergeV (Scalar.select v60
      (minimumf (shapeCast S4096x128 x shapeCasts_S4096x128_S4096x128) (landedV r))
      (maximumf (shapeCast S4096x128 x shapeCasts_S4096x128_S4096x128) (landedV r))) := rfl

set_option maxRecDepth 65536 in
/-- What the last pass stores is the merge of the chunk, its signs turned where `v13` is set. -/
theorem finV_eq (v13 : BitVec 1) (x : Vec F S4096x128 .bf16) :
    finV v13 x = mergeV (signV v13 (shapeCast S4096x128 x shapeCasts_S4096x128_S4096x128)) := rfl

end Cert.KernelIdeal.Sort

end
-- ==== Proof.Ideal.Nets.lean ====
/- The stages of Stage.lean read along a column of a chunk, the values being extended reals: each is a stage of a bitonic
   network, so that the local sort is the bitonic sort of every column and the merge the bitonic merge of every column. -/
module

public import proofs.«01_k».proof.Proof.Ideal.Stage
public import Idealize.ShloMosaic.Lib.SortNet.Printed
public import Idealize.ShloMosaic.Lib.SortNet.Sorts
public import Idealize.ShloMosaic.Lib.Pipeline.Value
public import Idealize.ShloMosaic.Lib.Pointwise.Index

@[expose] public section

noncomputable section

namespace Cert.KernelIdeal.Sort

open Cert.KernelIdeal Cert.KernelIdeal.Gen
open Idealize.ShloMosaic Idealize.ShloMosaic.TcCoe Idealize.ShloMosaic.SortNet

/-- Column `l` of a chunk. -/
def colC (l : Fin 128) : Column S4096x128 0 12 where
  col i := ix2 (n0 := 4096) (n1 := 128) i l
  size_eq := rfl
  coord _ := rfl
  other i i' b hb := by
    match b with
    | ⟨0, _⟩ => exact absurd rfl hb
    | ⟨1, _⟩ => rfl

/-- The column of a vector of one word for each row. -/
def colO : Column S4096x1 0 12 where
  col i := ix2 (n0 := 4096) (n1 := 1) i 0
  size_eq := rfl
  coord _ := rfl
  other i i' b hb := by
    match b with
    | ⟨0, _⟩ => exact absurd rfl hb
    | ⟨1, _⟩ => rfl

/-- The values along column `l`. -/
def colOf (x : FVec Ideal S4096x128 .bf16) (l : Fin 128) : Fin (2 ^ 12) → EReal := fun i => x ((colC l).col i)

/-- A vector that at every pair of positions holds what a stage leaves there is what the stage leaves. -/
theorem eq_stage {p s : ℕ} (hs : s < p) (w : Fin (2 ^ p) → Bool) (v u : Fin (2 ^ p) → EReal)
    (h : ∀ i : Fin (2 ^ p), i.val &&& 2 ^ s = 0 →
      u i = (if w i then max (v i) (v (SortNet.partner p s i)) else min (v i) (v (SortNet.partner p s i)))
      ∧ u (SortNet.partner p s i) = (if w i then min (v i) (v (SortNet.partner p s i)) else max (v i) (v (SortNet.partner p s i)))) :
    u = Network.apply (stage p s w) v := by
  funext i
  by_cases hi : i.val &&& 2 ^ s = 0
  · exact (h i hi).1.trans (apply_stage hs w v i hi).1.symm
  · have hp := partner_and_of_set hs i hi
    have := (h _ hp).2.trans (apply_stage hs w v _ hp).2.symm
    rwa [partner_partner hs] at this

theorem rowsV_apply (w : IVec S4096x1 1) (l : Fin 128) (i : Fin (2 ^ 12)) : rowsV w ((colC l).col i) = w (colO.col i) := by
  unfold rowsV
  rw [shapeCast_self]
  refine broadcastTo_apply w _ _ _ fun a => ?_
  match a with
  | ⟨0, _⟩ => rfl
  | ⟨1, _⟩ => rfl

theorem maskV_apply (k : BitVec 32) {m : ℕ} (hk : k.toNat = 2 ^ m) (i : Fin (2 ^ 12)) :
    maskV k (colO.col i) = BitVec.ofBool (decide (i.val &&& 2 ^ m = 0)) := by
  have hi : i.val < 2 ^ 32 := Nat.lt_of_lt_of_le i.isLt (by decide)
  show BitVec.ofBool (IntOp.andi (iota .tc S4096x1 32 [0] iota_S4096x1_d0_w32 (colO.col i)) k == 0#32) = _
  rw [colO.iota_apply]
  congr 1
  rw [Bool.eq_iff_iff, beq_iff_eq, decide_eq_true_eq, and_distance_eq_zero_iff hi k hk]

theorem otherV_apply {s : ℕ} (hs : s < 12) (n j : BitVec 32) (hj : j.toNat = 2 ^ s) (hn : n.toNat = 2 ^ 12 - 2 ^ s)
    (x : FVec Ideal S4096x128 .bf16) (l : Fin 128) (i : Fin (2 ^ 12)) :
    otherV n j x ((colC l).col i) = x ((colC l).col (SortNet.partner 12 s i)) := by
  show Scalar.select (rowsV (maskV j) ((colC l).col i)) _ _ = _
  rw [rowsV_apply, maskV_apply j hj, select_ofBool]
  by_cases hi : i.val &&& 2 ^ s = 0
  · rw [decide_eq_true hi, if_pos rfl]; exact (colC l).rotate_of_clear hs n hn x _ i hi
  · rw [decide_eq_false hi, if_neg Bool.false_ne_true]; exact (colC l).rotate_of_set hs j hj x _ i hi

/-- A rotating stage along a column. -/
theorem rollV_col {s : ℕ} (hs : s < 12) (n j : BitVec 32) (hj : j.toNat = 2 ^ s) (hn : n.toNat = 2 ^ 12 - 2 ^ s)
    (dir : IVec S4096x1 1) (c : Fin (2 ^ 12) → Bool) (hd : ∀ i, dir (colO.col i) = BitVec.ofBool (c i))
    (hc : ∀ i, c (SortNet.partner 12 s i) = c i) (x : FVec Ideal S4096x128 .bf16) (l : Fin 128) :
    colOf (rollV n j dir x) l = Network.apply (stage 12 s fun i => c i == false) (colOf x l) := by
  have key : ∀ i, colOf (rollV n j dir x) l i
      = if decide (i.val &&& 2 ^ s = 0) = c i then min (colOf x l i) (colOf x l (SortNet.partner 12 s i))
        else max (colOf x l i) (colOf x l (SortNet.partner 12 s i)) := by
    intro i
    show Scalar.select (rowsV (xori (xori (maskV j) dir) (constantI S4096x1 1 1#1)) ((colC l).col i))
      (min (x ((colC l).col i)) (otherV n j x ((colC l).col i))) (max (x ((colC l).col i)) (otherV n j x ((colC l).col i))) = _
    rw [rowsV_apply, otherV_apply hs n j hj hn]
    have e : xori (xori (maskV j) dir) (constantI S4096x1 1 1#1) (colO.col i)
        = BitVec.ofBool (decide (decide (i.val &&& 2 ^ s = 0) = c i)) := by
      show IntOp.xori (IntOp.xori (maskV j (colO.col i)) (dir (colO.col i))) 1#1 = _
      rw [maskV_apply j hj, hd, ofBool_xor_xor_one]
    rw [e, select_ofBool]
    by_cases h : decide (i.val &&& 2 ^ s = 0) = c i
    · rw [if_pos h, if_pos (decide_eq_true h)]; rfl
    · rw [if_neg h, if_neg (by rw [decide_eq_false h]; exact Bool.false_ne_true)]; rfl
  refine eq_stage hs _ _ _ fun i hi => ?_
  have hp : (SortNet.partner 12 s i).val &&& 2 ^ s ≠ 0 := by
    rw [partner_and hs i hi]; exact Nat.pos_iff_ne_zero.mp (Nat.two_pow_pos s)
  rw [key, key, hc, partner_partner hs, decide_eq_true hi, decide_eq_false hp, max_comm (colOf x l (SortNet.partner 12 s i)),
    min_comm (colOf x l (SortNet.partner 12 s i))]
  cases c i <;> exact ⟨rfl, rfl⟩

section
variable {g j : ℕ} (H : Resh g j)
include H

/-- Where row `q * 2 * j + b * j + r` of a column is. -/
def rowAt (hgj : g * 2 * j = 2 ^ 12) (q : Fin g) (b : Fin 2) (r : Fin j) : Fin (2 ^ 12) :=
  ⟨(q.val * 2 + b.val) * j + r.val, by
    rw [← hgj]
    have hq := q.isLt; have hb := b.isLt; have hr := r.isLt
    calc (q.val * 2 + b.val) * j + r.val < (q.val * 2 + b.val) * j + j := by omega
      _ = (q.val * 2 + b.val + 1) * j := by rw [Nat.add_mul _ 1, Nat.one_mul]
      _ ≤ (g * 2) * j := Nat.mul_le_mul_right _ (by omega)⟩

variable (hgj : g * 2 * j = 2 ^ 12) (q : Fin g) (r : Fin j) (l : Fin 128)

theorem cast4 (x : FVec Ideal S4096x128 .bf16) (b : Fin 2) :
    shapeCast ⟨4, ![g, 2, j, 128]⟩ x H.c0 (ix4 q b r l) = x ((colC l).col (rowAt hgj q b r)) := by
  refine shapeCast_apply x H.c0 _ _ ?_
  rw [Shape.rowMajor_val_two, Shape.rowMajor_val_four]; rfl

theorem lowV_apply (x : FVec Ideal S4096x128 .bf16) : lowV H x (ix3 q r l) = x ((colC l).col (rowAt hgj q 0 r)) := by
  unfold lowV
  refine (shapeCast_apply _ H.c1 (ix3 q r l) (ix4 q (0 : Fin 1) r l) ?_).trans ?_
  · rw [Shape.rowMajor_val_three, Shape.rowMajor_val_four]
    show ((q.val * 1 + 0) * j + r.val) * 128 + l.val = (q.val * j + r.val) * 128 + l.val
    rw [Nat.mul_one, Nat.add_zero]
  refine (extractStridedSlice_apply _ _ H.s0 (ix4 q (0 : Fin 1) r l) (ix4 q (0 : Fin 2) r l) fun a => ?_).trans (cast4 H hgj q r l x 0)
  match a with
  | ⟨0, _⟩ => exact (Nat.zero_add _).symm
  | ⟨1, _⟩ => rfl
  | ⟨2, _⟩ => exact (Nat.zero_add _).symm
  | ⟨3, _⟩ => exact (Nat.zero_add _).symm

theorem highV_apply (x : FVec Ideal S4096x128 .bf16) : highV H x (ix3 q r l) = x ((colC l).col (rowAt hgj q 1 r)) := by
  unfold highV
  refine (shapeCast_apply _ H.c1 (ix3 q r l) (ix4 q (0 : Fin 1) r l) ?_).trans ?_
  · rw [Shape.rowMajor_val_three, Shape.rowMajor_val_four]
    show ((q.val * 1 + 0) * j + r.val) * 128 + l.val = (q.val * j + r.val) * 128 + l.val
    rw [Nat.mul_one, Nat.add_zero]
  refine (extractStridedSlice_apply _ _ H.s1 (ix4 q (0 : Fin 1) r l) (ix4 q (1 : Fin 2) r l) fun a => ?_).trans (cast4 H hgj q r l x 1)
  match a with
  | ⟨0, _⟩ => exact (Nat.zero_add _).symm
  | ⟨1, _⟩ => rfl
  | ⟨2, _⟩ => exact (Nat.zero_add _).symm
  | ⟨3, _⟩ => exact (Nat.zero_add _).symm

theorem unit4 (a : FVec Ideal ⟨3, ![g, j, 128]⟩ .bf16) : shapeCast ⟨4, ![g, 1, j, 128]⟩ a H.c2 (ix4 q (0 : Fin 1) r l) = a (ix3 q r l) := by
  refine shapeCast_apply _ H.c2 _ _ ?_
  rw [Shape.rowMajor_val_three, Shape.rowMajor_val_four]
  show (q.val * j + r.val) * 128 + l.val = ((q.val * 1 + 0) * j + r.val) * 128 + l.val
  rw [Nat.mul_one, Nat.add_zero]

theorem joinV_low (a b : FVec Ideal ⟨3, ![g, j, 128]⟩ .bf16) : joinV H a b ((colC l).col (rowAt hgj q 0 r)) = a (ix3 q r l) := by
  unfold joinV
  refine (shapeCast_apply _ H.c3 _ (ix4 q (0 : Fin 2) r l) ?_).trans ?_
  · rw [Shape.rowMajor_val_two, Shape.rowMajor_val_four]; rfl
  refine (concatenate_pair_apply_left (s₁ := ⟨4, ![g, 1, j, 128]⟩) (s₂ := ⟨4, ![g, 1, j, 128]⟩) (1 : Fin 4) _ _ H.cc (ix4 q (0 : Fin 2) r l) rfl (ix4 q (0 : Fin 1) r l) fun b => ?_).trans (unit4 H q r l a)
  match b with
  | ⟨0, _⟩ => rfl
  | ⟨1, _⟩ => rfl
  | ⟨2, _⟩ => rfl
  | ⟨3, _⟩ => rfl

theorem joinV_high (a b : FVec Ideal ⟨3, ![g, j, 128]⟩ .bf16) : joinV H a b ((colC l).col (rowAt hgj q 1 r)) = b (ix3 q r l) := by
  unfold joinV
  refine (shapeCast_apply _ H.c3 _ (ix4 q (1 : Fin 2) r l) ?_).trans ?_
  · rw [Shape.rowMajor_val_two, Shape.rowMajor_val_four]; rfl
  refine (concatenate_pair_apply_right (s₁ := ⟨4, ![g, 1, j, 128]⟩) (s₂ := ⟨4, ![g, 1, j, 128]⟩) (1 : Fin 4) _ _ H.cc (ix4 q (1 : Fin 2) r l) rfl rfl (ix4 q (0 : Fin 1) r l) (fun b hb => ?_) rfl).trans (unit4 H q r l b)
  match b with
  | ⟨0, _⟩ => rfl
  | ⟨1, _⟩ => exact absurd rfl hb
  | ⟨2, _⟩ => rfl
  | ⟨3, _⟩ => rfl

theorem groupsV_apply (k : BitVec 32) {m : ℕ} (hk : k.toNat = 2 ^ m) (hg : g ≤ 2 ^ 12) :
    groupsV H k (ix3 q r l) = BitVec.ofBool (decide (q.val &&& 2 ^ m = 0)) := by
  have hq : q.val < 2 ^ 32 := Nat.lt_of_lt_of_le q.isLt (hg.trans (by decide))
  unfold groupsV
  rw [shapeCast_self]
  refine (broadcastTo_apply _ H.bm (ix3 q r l) (ix3 q (0 : Fin 1) (0 : Fin 1)) fun a => ?_).trans ?_
  · match a with
    | ⟨0, _⟩ =>
      show q.val = if g = 1 then 0 else q.val
      split
      · have := q.isLt; omega
      · rfl
    | ⟨1, _⟩ => rfl
    | ⟨2, _⟩ => rfl
  show BitVec.ofBool (IntOp.andi (iota .tc ⟨3, ![g, 1, 1]⟩ 32 [0] H.io (ix3 q (0 : Fin 1) (0 : Fin 1))) k == 0#32) = _
  rw [iota_single_apply]
  congr 1
  rw [Bool.eq_iff_iff, beq_iff_eq, decide_eq_true_eq]
  exact and_distance_eq_zero_iff hq k hk

end

/-- A position with bit `s` clear, by its group and its place there; its partner is `2 ^ s` further. -/
theorem rowAt_of_clear {g s : ℕ} (hs : s < 12) (hgj : g * 2 * 2 ^ s = 2 ^ 12) (i : Fin (2 ^ 12)) (hi : i.val &&& 2 ^ s = 0) :
    ∃ (q : Fin g) (r : Fin (2 ^ s)), i = rowAt hgj q 0 r ∧ SortNet.partner 12 s i = rowAt hgj q 1 r ∧ q.val = i.val / 2 ^ (s + 1) := by
  have hpos := Nat.two_pow_pos s
  have hs2 : 2 ^ (s + 1) = 2 ^ s * 2 := Nat.pow_succ _ _
  have hb : i.val / 2 ^ s % 2 = 0 := by
    have := (and_two_pow_eq_zero_iff_testBit i.val s).mp hi
    rw [Nat.testBit_eq_decide_div_mod_eq, decide_eq_false_iff_not] at this
    omega
  have hq : i.val / 2 ^ (s + 1) = i.val / 2 ^ s / 2 := by rw [hs2, Nat.div_div_eq_div_mul]
  have h2 : i.val / 2 ^ s / 2 * 2 = i.val / 2 ^ s := by omega
  have hlt : i.val / 2 ^ (s + 1) < g := by
    rw [Nat.div_lt_iff_lt_mul (Nat.two_pow_pos _), hs2, Nat.mul_comm (2 ^ s), ← Nat.mul_assoc, hgj]; exact i.isLt
  have hi' : i.val = i.val / 2 ^ s * 2 ^ s + i.val % 2 ^ s := by rw [Nat.mul_comm]; exact (Nat.div_add_mod _ _).symm
  refine ⟨⟨i.val / 2 ^ (s + 1), hlt⟩, ⟨i.val % 2 ^ s, Nat.mod_lt _ hpos⟩, Fin.ext ?_, Fin.ext ?_, rfl⟩
  · show i.val = (i.val / 2 ^ (s + 1) * 2 + 0) * 2 ^ s + i.val % 2 ^ s
    rw [hq, h2, Nat.add_zero]; exact hi'
  · rw [partner_val_of_clear hs i hi]
    show i.val + 2 ^ s = (i.val / 2 ^ (s + 1) * 2 + 1) * 2 ^ s + i.val % 2 ^ s
    rw [hq, h2, Nat.add_mul, Nat.one_mul]; omega

/-- A stage in groups along a column, every lower row taking the minimum. -/
theorem upV_col {g s : ℕ} (hs : s < 12) (H : Resh g (2 ^ s)) (hgj : g * 2 * 2 ^ s = 2 ^ 12) (x : FVec Ideal S4096x128 .bf16) (l : Fin 128) :
    colOf (upV H x) l = Network.apply (stage 12 s fun _ => false) (colOf x l) := by
  refine eq_stage hs _ _ _ fun i hi => ?_
  obtain ⟨q, r, h0, h1, -⟩ := rowAt_of_clear hs hgj i hi
  rw [h1]; subst h0
  refine ⟨(joinV_low H hgj q r l _ _).trans ?_, (joinV_high H hgj q r l _ _).trans ?_⟩
  · show min (lowV H x (ix3 q r l)) (highV H x (ix3 q r l)) = _
    rw [lowV_apply H hgj, highV_apply H hgj]; rfl
  · show max (lowV H x (ix3 q r l)) (highV H x (ix3 q r l)) = _
    rw [lowV_apply H hgj, highV_apply H hgj]; rfl

/-- A stage in groups along a column, the direction alternating with bit `m` of the group's number. -/
theorem dirV_col {g s m : ℕ} (hs : s < 12) (H : Resh g (2 ^ s)) (hgj : g * 2 * 2 ^ s = 2 ^ 12) (k : BitVec 32) (hk : k.toNat = 2 ^ m)
    (x : FVec Ideal S4096x128 .bf16) (l : Fin 128) :
    colOf (dirV H k x) l = Network.apply (stage 12 s fun i => decide (i.val &&& 2 ^ (s + m + 1) = 0) == false) (colOf x l) := by
  have hg : g ≤ 2 ^ 12 := by
    rw [← hgj, Nat.mul_assoc]; exact Nat.le_mul_of_pos_right _ (by have := Nat.two_pow_pos s; omega)
  refine eq_stage hs _ _ _ fun i hi => ?_
  obtain ⟨q, r, h0, h1, hq⟩ := rowAt_of_clear hs hgj i hi
  have hbit : decide (q.val &&& 2 ^ m = 0) = decide (i.val &&& 2 ^ (s + m + 1) = 0) := by
    rw [decide_eq_decide, and_two_pow_eq_zero_iff_testBit, and_two_pow_eq_zero_iff_testBit, hq, Nat.testBit_div_two_pow,
      show m + (s + 1) = s + m + 1 by omega]
  rw [← hbit, h1]; subst h0
  have hm := groupsV_apply H q r l k hk hg
  refine ⟨(joinV_low H hgj q r l _ _).trans ?_, (joinV_high H hgj q r l _ _).trans ?_⟩
  · show Scalar.select (groupsV H k (ix3 q r l)) (min (lowV H x (ix3 q r l)) (highV H x (ix3 q r l)))
      (max (lowV H x (ix3 q r l)) (highV H x (ix3 q r l))) = _
    rw [hm, select_ofBool, lowV_apply H hgj, highV_apply H hgj]
    cases decide (q.val &&& 2 ^ m = 0) <;> rfl
  · show Scalar.select (groupsV H k (ix3 q r l)) (max (lowV H x (ix3 q r l)) (highV H x (ix3 q r l)))
      (min (lowV H x (ix3 q r l)) (highV H x (ix3 q r l))) = _
    rw [hm, select_ofBool, lowV_apply H hgj, highV_apply H hgj]
    cases decide (q.val &&& 2 ^ m = 0) <;> rfl

/-! ## The networks -/

/-- A network of stages does its stages one after another. -/
theorem apply_stages (L : List ℕ) (f : ℕ → Network (2 ^ 12)) (v : Fin (2 ^ 12) → EReal) :
    Network.apply (L.flatMap f) v = L.foldl (fun v s => Network.apply (f s) v) v := by
  induction L generalizing v with
  | nil => rfl
  | cons s L ih => rw [List.flatMap_cons, Network.apply_append, ih]; rfl

/-- A rotating stage of level `e` of the sort. -/
theorem rollV_level {s e : ℕ} (hs : s < 12) (he : s ≤ e) (n j k : BitVec 32) (hj : j.toNat = 2 ^ s) (hn : n.toNat = 2 ^ 12 - 2 ^ s)
    (hk : k.toNat = 2 ^ (e + 1)) (x : FVec Ideal S4096x128 .bf16) (l : Fin 128) :
    colOf (rollV n j (maskV k) x) l = Network.apply (stage 12 s fun i => decide (i.val &&& 2 ^ (e + 1) = 0) == false) (colOf x l) :=
  rollV_col hs n j hj hn (maskV k) (fun i => decide (i.val &&& 2 ^ (e + 1) = 0)) (maskV_apply k hk)
    (fun i => by simpa using sizeClear_partner hs he true i) x l

/-- A rotating stage of the merge. -/
theorem rollV_merge {s : ℕ} (hs : s < 12) (n j : BitVec 32) (hj : j.toNat = 2 ^ s) (hn : n.toNat = 2 ^ 12 - 2 ^ s)
    (x : FVec Ideal S4096x128 .bf16) (l : Fin 128) :
    colOf (rollV n j (broadcast S4096x1 1#1) x) l = Network.apply (stage 12 s fun _ => false) (colOf x l) :=
  rollV_col hs n j hj hn _ (fun _ => true) (fun _ => rfl) (fun _ => rfl) x l

/-- A stage in groups of level `e` of the sort. -/
theorem dirV_level {g s m e : ℕ} (hs : s < 12) (he : s + m = e) (H : Resh g (2 ^ s)) (hgj : g * 2 * 2 ^ s = 2 ^ 12) (k : BitVec 32)
    (hk : k.toNat = 2 ^ m) (x : FVec Ideal S4096x128 .bf16) (l : Fin 128) :
    colOf (dirV H k x) l = Network.apply (stage 12 s fun i => decide (i.val &&& 2 ^ (e + 1) = 0) == false) (colOf x l) := by
  subst he; exact dirV_col hs H hgj k hk x l

variable (x : FVec Ideal S4096x128 .bf16) (l : Fin 128)

theorem runs2_col : colOf (runs2 x) l = Network.apply (levelNet 12 false 0) (colOf x l) := by
  unfold runs2 levelNet
  rw [apply_stages, show (List.range (0 + 1)).reverse = [0] from rfl]
  simp only [List.foldl_cons, List.foldl_nil]
  rw [rollV_level (s := 0) (e := 0) (by decide) (by decide) 4095#32 1#32 2#32 (by decide) (by decide) (by decide)]

theorem runs4_col : colOf (runs4 x) l = Network.apply (levelNet 12 false 1) (colOf x l) := by
  unfold runs4 levelNet
  rw [apply_stages, show (List.range (1 + 1)).reverse = [1, 0] from rfl]
  simp only [List.foldl_cons, List.foldl_nil]
  rw [rollV_level (s := 0) (e := 1) (by decide) (by decide) 4095#32 1#32 4#32 (by decide) (by decide) (by decide),
    rollV_level (s := 1) (e := 1) (by decide) (by decide) 4094#32 2#32 4#32 (by decide) (by decide) (by decide)]

theorem runs8_col : colOf (runs8 x) l = Network.apply (levelNet 12 false 2) (colOf x l) := by
  unfold runs8 levelNet
  rw [apply_stages, show (List.range (2 + 1)).reverse = [2, 1, 0] from rfl]
  simp only [List.foldl_cons, List.foldl_nil]
  rw [rollV_level (s := 0) (e := 2) (by decide) (by decide) 4095#32 1#32 8#32 (by decide) (by decide) (by decide),
    rollV_level (s := 1) (e := 2) (by decide) (by decide) 4094#32 2#32 8#32 (by decide) (by decide) (by decide),
    rollV_level (s := 2) (e := 2) (by decide) (by decide) 4092#32 4#32 8#32 (by decide) (by decide) (by decide)]

theorem runs16_col : colOf (runs16 x) l = Network.apply (levelNet 12 false 3) (colOf x l) := by
  unfold runs16 levelNet
  rw [apply_stages, show (List.range (3 + 1)).reverse = [3, 2, 1, 0] from rfl]
  simp only [List.foldl_cons, List.foldl_nil]
  rw [rollV_level (s := 0) (e := 3) (by decide) (by decide) 4095#32 1#32 16#32 (by decide) (by decide) (by decide),
    rollV_level (s := 1) (e := 3) (by decide) (by decide) 4094#32 2#32 16#32 (by decide) (by decide) (by decide),
    rollV_level (s := 2) (e := 3) (by decide) (by decide) 4092#32 4#32 16#32 (by decide) (by decide) (by decide),
    dirV_level (s := 3) (m := 0) (e := 3) (by decide) rfl resh8 (by decide) 1#32 (by decide)]

theorem runs32_col : colOf (runs32 x) l = Network.apply (levelNet 12 false 4) (colOf x l) := by
  unfold runs32 levelNet
  rw [apply_stages, show (List.range (4 + 1)).reverse = [4, 3, 2, 1, 0] from rfl]
  simp only [List.foldl_cons, List.foldl_nil]
  rw [rollV_level (s := 0) (e := 4) (by decide) (by decide) 4095#32 1#32 32#32 (by decide) (by decide) (by decide),
    rollV_level (s := 1) (e := 4) (by decide) (by decide) 4094#32 2#32 32#32 (by decide) (by decide) (by decide),
    rollV_level (s := 2) (e := 4) (by decide) (by decide) 4092#32 4#32 32#32 (by decide) (by decide) (by decide),
    dirV_level (s := 3) (m := 1) (e := 4) (by decide) rfl resh8 (by decide) 2#32 (by decide),
    dirV_level (s := 4) (m := 0) (e := 4) (by decide) rfl resh16 (by decide) 1#32 (by decide)]

theorem runs64_col : colOf (runs64 x) l = Network.apply (levelNet 12 false 5) (colOf x l) := by
  unfold runs64 levelNet
  rw [apply_stages, show (List.range (5 + 1)).reverse = [5, 4, 3, 2, 1, 0] from rfl]
  simp only [List.foldl_cons, List.foldl_nil]
  rw [rollV_level (s := 0) (e := 5) (by decide) (by decide) 4095#32 1#32 64#32 (by decide) (by decide) (by decide),
    rollV_level (s := 1) (e := 5) (by decide) (by decide) 4094#32 2#32 64#32 (by decide) (by decide) (by decide),
    rollV_level (s := 2) (e := 5) (by decide) (by decide) 4092#32 4#32 64#32 (by decide) (by decide) (by decide),
    dirV_level (s := 3) (m := 2) (e := 5) (by decide) rfl resh8 (by decide) 4#32 (by decide),
    dirV_level (s := 4) (m := 1) (e := 5) (by decide) rfl resh16 (by decide) 2#32 (by decide),
    dirV_level (s := 5) (m := 0) (e := 5) (by decide) rfl resh32 (by decide) 1#32 (by decide)]

theorem runs128_col : colOf (runs128 x) l = Network.apply (levelNet 12 false 6) (colOf x l) := by
  unfold runs128 levelNet
  rw [apply_stages, show (List.range (6 + 1)).reverse = [6, 5, 4, 3, 2, 1, 0] from rfl]
  simp only [List.foldl_cons, List.foldl_nil]
  rw [rollV_level (s := 0) (e := 6) (by decide) (by decide) 4095#32 1#32 128#32 (by decide) (by decide) (by decide),
    rollV_level (s := 1) (e := 6) (by decide) (by decide) 4094#32 2#32 128#32 (by decide) (by decide) (by decide),
    rollV_level (s := 2) (e := 6) (by decide) (by decide) 4092#32 4#32 128#32 (by decide) (by decide) (by decide),
    dirV_level (s := 3) (m := 3) (e := 6) (by decide) rfl resh8 (by decide) 8#32 (by decide),
    dirV_level (s := 4) (m := 2) (e := 6) (by decide) rfl resh16 (by decide) 4#32 (by decide),
    dirV_level (s := 5) (m := 1) (e := 6) (by decide) rfl resh32 (by decide) 2#32 (by decide),
    dirV_level (s := 6) (m := 0) (e := 6) (by decide) rfl resh64 (by decide) 1#32 (by decide)]

theorem runs256_col : colOf (runs256 x) l = Network.apply (levelNet 12 false 7) (colOf x l) := by
  unfold runs256 levelNet
  rw [apply_stages, show (List.range (7 + 1)).reverse = [7, 6, 5, 4, 3, 2, 1, 0] from rfl]
  simp only [List.foldl_cons, List.foldl_nil]
  rw [rollV_level (s := 0) (e := 7) (by decide) (by decide) 4095#32 1#32 256#32 (by decide) (by decide) (by decide),
    rollV_level (s := 1) (e := 7) (by decide) (by decide) 4094#32 2#32 256#32 (by decide) (by decide) (by decide),
    rollV_level (s := 2) (e := 7) (by decide) (by decide) 4092#32 4#32 256#32 (by decide) (by decide) (by decide),
    dirV_level (s := 3) (m := 4) (e := 7) (by decide) rfl resh8 (by decide) 16#32 (by decide),
    dirV_level (s := 4) (m := 3) (e := 7) (by decide) rfl resh16 (by decide) 8#32 (by decide),
    dirV_level (s := 5) (m := 2) (e := 7) (by decide) rfl resh32 (by decide) 4#32 (by decide),
    dirV_level (s := 6) (m := 1) (e := 7) (by decide) rfl resh64 (by decide) 2#32 (by decide),
    dirV_level (s := 7) (m := 0) (e := 7) (by decide) rfl resh128 (by decide) 1#32 (by decide)]

theorem runs512_col : colOf (runs512 x) l = Network.apply (levelNet 12 false 8) (colOf x l) := by
  unfold runs512 levelNet
  rw [apply_stages, show (List.range (8 + 1)).reverse = [8, 7, 6, 5, 4, 3, 2, 1, 0] from rfl]
  simp only [List.foldl_cons, List.foldl_nil]
  rw [rollV_level (s := 0) (e := 8) (by decide) (by decide) 4095#32 1#32 512#32 (by decide) (by decide) (by decide),
    rollV_level (s := 1) (e := 8) (by decide) (by decide) 4094#32 2#32 512#32 (by decide) (by decide) (by decide),
    rollV_level (s := 2) (e := 8) (by decide) (by decide) 4092#32 4#32 512#32 (by decide) (by decide) (by decide),
    dirV_level (s := 3) (m := 5) (e := 8) (by decide) rfl resh8 (by decide) 32#32 (by decide),
    dirV_level (s := 4) (m := 4) (e := 8) (by decide) rfl resh16 (by decide) 16#32 (by decide),
    dirV_level (s := 5) (m := 3) (e := 8) (by decide) rfl resh32 (by decide) 8#32 (by decide),
    dirV_level (s := 6) (m := 2) (e := 8) (by decide) rfl resh64 (by decide) 4#32 (by decide),
    dirV_level (s := 7) (m := 1) (e := 8) (by decide) rfl resh128 (by decide) 2#32 (by decide),
    dirV_level (s := 8) (m := 0) (e := 8) (by decide) rfl resh256 (by decide) 1#32 (by decide)]

theorem runs1024_col : colOf (runs1024 x) l = Network.apply (levelNet 12 false 9) (colOf x l) := by
  unfold runs1024 levelNet
  rw [apply_stages, show (List.range (9 + 1)).reverse = [9, 8, 7, 6, 5, 4, 3, 2, 1, 0] from rfl]
  simp only [List.foldl_cons, List.foldl_nil]
  rw [rollV_level (s := 0) (e := 9) (by decide) (by decide) 4095#32 1#32 1024#32 (by decide) (by decide) (by decide),
    rollV_level (s := 1) (e := 9) (by decide) (by decide) 4094#32 2#32 1024#32 (by decide) (by decide) (by decide),
    rollV_level (s := 2) (e := 9) (by decide) (by decide) 4092#32 4#32 1024#32 (by decide) (by decide) (by decide),
    dirV_level (s := 3) (m := 6) (e := 9) (by decide) rfl resh8 (by decide) 64#32 (by decide),
    dirV_level (s := 4) (m := 5) (e := 9) (by decide) rfl resh16 (by decide) 32#32 (by decide),
    dirV_level (s := 5) (m := 4) (e := 9) (by decide) rfl resh32 (by decide) 16#32 (by decide),
    dirV_level (s := 6) (m := 3) (e := 9) (by decide) rfl resh64 (by decide) 8#32 (by decide),
    dirV_level (s := 7) (m := 2) (e := 9) (by decide) rfl resh128 (by decide) 4#32 (by decide),
    dirV_level (s := 8) (m := 1) (e := 9) (by decide) rfl resh256 (by decide) 2#32 (by decide),
    dirV_level (s := 9) (m := 0) (e := 9) (by decide) rfl resh512 (by decide) 1#32 (by decide)]

theorem runs2048_col : colOf (runs2048 x) l = Network.apply (levelNet 12 false 10) (colOf x l) := by
  unfold runs2048 levelNet
  rw [apply_stages, show (List.range (10 + 1)).reverse = [10, 9, 8, 7, 6, 5, 4, 3, 2, 1, 0] from rfl]
  simp only [List.foldl_cons, List.foldl_nil]
  rw [rollV_level (s := 0) (e := 10) (by decide) (by decide) 4095#32 1#32 2048#32 (by decide) (by decide) (by decide),
    rollV_level (s := 1) (e := 10) (by decide) (by decide) 4094#32 2#32 2048#32 (by decide) (by decide) (by decide),
    rollV_level (s := 2) (e := 10) (by decide) (by decide) 4092#32 4#32 2048#32 (by decide) (by decide) (by decide),
    dirV_level (s := 3) (m := 7) (e := 10) (by decide) rfl resh8 (by decide) 128#32 (by decide),
    dirV_level (s := 4) (m := 6) (e := 10) (by decide) rfl resh16 (by decide) 64#32 (by decide),
    dirV_level (s := 5) (m := 5) (e := 10) (by decide) rfl resh32 (by decide) 32#32 (by decide),
    dirV_level (s := 6) (m := 4) (e := 10) (by decide) rfl resh64 (by decide) 16#32 (by decide),
    dirV_level (s := 7) (m := 3) (e := 10) (by decide) rfl resh128 (by decide) 8#32 (by decide),
    dirV_level (s := 8) (m := 2) (e := 10) (by decide) rfl resh256 (by decide) 4#32 (by decide),
    dirV_level (s := 9) (m := 1) (e := 10) (by decide) rfl resh512 (by decide) 2#32 (by decide),
    dirV_level (s := 10) (m := 0) (e := 10) (by decide) rfl resh1024 (by decide) 1#32 (by decide)]

theorem runs4096_col : colOf (runs4096 x) l = Network.apply (levelNet 12 false 11) (colOf x l) := by
  unfold runs4096 levelNet
  rw [apply_stages, show (List.range (11 + 1)).reverse = [11, 10, 9, 8, 7, 6, 5, 4, 3, 2, 1, 0] from rfl]
  simp only [List.foldl_cons, List.foldl_nil]
  rw [rollV_level (s := 0) (e := 11) (by decide) (by decide) 4095#32 1#32 4096#32 (by decide) (by decide) (by decide),
    rollV_level (s := 1) (e := 11) (by decide) (by decide) 4094#32 2#32 4096#32 (by decide) (by decide) (by decide),
    rollV_level (s := 2) (e := 11) (by decide) (by decide) 4092#32 4#32 4096#32 (by decide) (by decide) (by decide),
    dirV_level (s := 3) (m := 8) (e := 11) (by decide) rfl resh8 (by decide) 256#32 (by decide),
    dirV_level (s := 4) (m := 7) (e := 11) (by decide) rfl resh16 (by decide) 128#32 (by decide),
    dirV_level (s := 5) (m := 6) (e := 11) (by decide) rfl resh32 (by decide) 64#32 (by decide),
    dirV_level (s := 6) (m := 5) (e := 11) (by decide) rfl resh64 (by decide) 32#32 (by decide),
    dirV_level (s := 7) (m := 4) (e := 11) (by decide) rfl resh128 (by decide) 16#32 (by decide),
    dirV_level (s := 8) (m := 3) (e := 11) (by decide) rfl resh256 (by decide) 8#32 (by decide),
    dirV_level (s := 9) (m := 2) (e := 11) (by decide) rfl resh512 (by decide) 4#32 (by decide),
    dirV_level (s := 10) (m := 1) (e := 11) (by decide) rfl resh1024 (by decide) 2#32 (by decide),
    dirV_level (s := 11) (m := 0) (e := 11) (by decide) rfl resh2048 (by decide) 1#32 (by decide)]

/-- The merge is the ascending bitonic merge of every column. -/
theorem mergeV_col : colOf (mergeV x) l = Network.apply (mergeAscNet 12) (colOf x l) := by
  unfold mergeV mergeAscNet
  rw [apply_stages, show (List.range 12).reverse = [11, 10, 9, 8, 7, 6, 5, 4, 3, 2, 1, 0] from rfl]
  simp only [List.foldl_cons, List.foldl_nil]
  rw [rollV_merge (s := 0) (by decide) 4095#32 1#32 (by decide) (by decide),
    rollV_merge (s := 1) (by decide) 4094#32 2#32 (by decide) (by decide),
    rollV_merge (s := 2) (by decide) 4092#32 4#32 (by decide) (by decide),
    upV_col (s := 3) (by decide) resh8 (by decide),
    upV_col (s := 4) (by decide) resh16 (by decide),
    upV_col (s := 5) (by decide) resh32 (by decide),
    upV_col (s := 6) (by decide) resh64 (by decide),
    upV_col (s := 7) (by decide) resh128 (by decide),
    upV_col (s := 8) (by decide) resh256 (by decide),
    upV_col (s := 9) (by decide) resh512 (by decide),
    upV_col (s := 10) (by decide) resh1024 (by decide),
    upV_col (s := 11) (by decide) resh2048 (by decide)]

/-- The local sort is the ascending bitonic sort of every column. -/
theorem sortAscV_col : colOf (sortAscV x) l = Network.apply (sortNet 12 false) (colOf x l) := by
  unfold sortAscV
  rw [runs4096_col, runs2048_col, runs1024_col, runs512_col, runs256_col, runs128_col, runs64_col, runs32_col, runs16_col, runs8_col, runs4_col, runs2_col, sortNet_eq_levelsNet]
  unfold levelsNet
  rw [apply_stages, show List.range 12 = [0, 1, 2, 3, 4, 5, 6, 7, 8, 9, 10, 11] from rfl]
  simp only [List.foldl_cons, List.foldl_nil]

/-- A sorted column ascends. -/
theorem sortAscV_mono : Monotone (colOf (sortAscV x) l) := by
  rw [sortAscV_col]; exact sortNet_apply_monotone 12 _

/-- A sorted column holds the values of the column it comes from. -/
theorem sortAscV_perm : ∃ σ : Equiv.Perm (Fin (2 ^ 12)), colOf (sortAscV x) l = colOf x l ∘ σ := by
  rw [sortAscV_col]; exact Network.exists_perm _ _

/-- The merge of a column that falls and rises, or rises and falls, ascends. -/
theorem mergeV_mono (h : DescAsc (colOf x l)) : Monotone (colOf (mergeV x) l) := by
  rw [mergeV_col]; exact mergeAscNet_apply_monotone 12 _ h

/-- A merged column holds the values of the column it comes from. -/
theorem mergeV_perm : ∃ σ : Equiv.Perm (Fin (2 ^ 12)), colOf (mergeV x) l = colOf x l ∘ σ := by
  rw [mergeV_col]; exact Network.exists_perm _ _

end Cert.KernelIdeal.Sort

end
-- ==== Proof.Blocks.lean ====
/- The mathematics of the exchange between the devices. A block is a column of 4096 values; what decides its order is, for
   every threshold, how many of its values lie above. Merging two blocks and handing the smaller half to the first and the
   greater to the second moves these counts in a simple way, and sixteen rounds of it on neighbouring blocks, alternately
   from the first and from the second on, put every value of a block below every value of the next ones. -/
module

public import Mathlib.Data.EReal.Operations
public import Mathlib.Data.Finset.Card
public import Mathlib.Data.Fintype.Card
public import Mathlib.Algebra.BigOperators.Group.Finset.Basic
public import Idealize.ShloMosaic.Lib.SortNet.Fold

@[expose] public section

set_option maxRecDepth 20000

noncomputable section

namespace SortK

open Idealize.ShloMosaic.SortNet

/-! ## Counts above a threshold -/

/-- How many of the values lie above `t`. -/
def cnt {n : ℕ} (t : EReal) (v : Fin n → EReal) : ℕ := (Finset.univ.filter fun i => t < v i).card

theorem cnt_le {n : ℕ} (t : EReal) (v : Fin n → EReal) : cnt t v ≤ n := by
  have := Finset.card_le_univ (Finset.univ.filter fun i => t < v i)
  rwa [Fintype.card_fin] at this

theorem cnt_comp {n : ℕ} (t : EReal) (v : Fin n → EReal) (σ : Equiv.Perm (Fin n)) : cnt t (v ∘ σ) = cnt t v := by
  refine Finset.card_bij (fun i _ => σ i) (fun i hi => ?_) (fun i _ i' _ h => σ.injective h) (fun i hi => ?_)
  · rw [Finset.mem_filter] at hi ⊢; exact ⟨Finset.mem_univ _, hi.2⟩
  · rw [Finset.mem_filter] at hi
    refine ⟨σ.symm i, Finset.mem_filter.mpr ⟨Finset.mem_univ _, ?_⟩, σ.apply_symm_apply i⟩
    show t < v (σ (σ.symm i)); rw [σ.apply_symm_apply]; exact hi.2

theorem cnt_pos {n : ℕ} {t : EReal} {v : Fin n → EReal} (i : Fin n) (h : t < v i) : 0 < cnt t v :=
  Finset.card_pos.mpr ⟨i, Finset.mem_filter.mpr ⟨Finset.mem_univ _, h⟩⟩

theorem lt_of_cnt {n : ℕ} {t : EReal} {v : Fin n → EReal} (h : cnt t v = n) (i : Fin n) : t < v i := by
  have e : (Finset.univ.filter fun i => t < v i) = Finset.univ := Finset.eq_univ_of_card _ (by rw [Fintype.card_fin]; exact h)
  have hi := Finset.mem_univ i
  rw [← e] at hi
  exact (Finset.mem_filter.mp hi).2

/-- A rising and a falling column of `n` values: above a threshold the pointwise maximum has as many values as both together,
    up to `n`, and the pointwise minimum has the rest. -/
theorem cnt_minmax {n : ℕ} (t : EReal) (A B : Fin n → EReal) (hA : Monotone A) (hB : Antitone B) :
    cnt t (fun i => min (A i) (B i)) = cnt t A + cnt t B - n ∧ cnt t (fun i => max (A i) (B i)) = min n (cnt t A + cnt t B) := by
  have hi : cnt t (fun i => min (A i) (B i)) = ((Finset.univ.filter fun i => t < A i) ∩ (Finset.univ.filter fun i => t < B i)).card := by
    unfold cnt; congr 1; ext i; simp
  have hu : cnt t (fun i => max (A i) (B i)) = ((Finset.univ.filter fun i => t < A i) ∪ (Finset.univ.filter fun i => t < B i)).card := by
    unfold cnt; congr 1; ext i; simp
  have hs : cnt t (fun i => max (A i) (B i)) + cnt t (fun i => min (A i) (B i)) = cnt t A + cnt t B := by
    rw [hi, hu]; exact Finset.card_union_add_card_inter _ _
  have h1 := cnt_le t (fun i => max (A i) (B i))
  have hc : cnt t (fun i => max (A i) (B i)) = n ∨ cnt t (fun i => min (A i) (B i)) = 0 := by
    by_cases h : ∀ i, t < max (A i) (B i)
    · left
      unfold cnt
      rw [Finset.filter_true_of_mem fun i _ => h i, Finset.card_univ, Fintype.card_fin]
    · right
      obtain ⟨i, hi⟩ := not_forall.mp h
      rw [lt_max_iff, not_or, not_lt, not_lt] at hi
      refine Finset.card_eq_zero.mpr (Finset.filter_eq_empty_iff.mpr fun k _ hk => ?_)
      rw [lt_min_iff] at hk
      rcases le_total i k with h | h
      · exact absurd (hk.2.trans_le (hB h)) (not_lt.mpr hi.2)
      · exact absurd (hk.1.trans_le (hA h)) (not_lt.mpr hi.1)
  omega

/-- Two rising columns with as many values above every threshold are one. -/
theorem eq_of_cnt {n : ℕ} (g h : Fin n → EReal) (hg : Monotone g) (hh : Monotone h) (e : ∀ t, cnt t g = cnt t h) : g = h := by
  have aux : ∀ g h : Fin n → EReal, Monotone g → Monotone h → (∀ t, cnt t g = cnt t h) → ∀ i, h i ≤ g i := by
    intro g h hg hh e i
    by_contra hlt
    rw [not_le] at hlt
    have h1 : cnt (g i) g < cnt (g i) h := by
      refine Finset.card_lt_card ⟨fun k hk => ?_, fun hs => ?_⟩
      · rw [Finset.mem_filter] at hk ⊢
        have hik : i < k := by
          by_contra hk'
          exact absurd hk.2 (not_lt.mpr (hg (not_lt.mp hk')))
        exact ⟨Finset.mem_univ _, hlt.trans_le (hh hik.le)⟩
      · have := hs (Finset.mem_filter.mpr ⟨Finset.mem_univ i, hlt⟩)
        exact absurd (Finset.mem_filter.mp this).2 (lt_irrefl _)
    exact absurd (e (g i)) (Nat.ne_of_lt h1)
  exact funext fun i => le_antisymm (aux h g hh hg (fun t => (e t).symm) i) (aux g h hg hh e i)

/-- The pointwise minimum of a rising and a falling column rises and then falls. -/
theorem descAsc_min {n : ℕ} (A B : Fin n → EReal) (hA : Monotone A) (hB : Antitone B) : DescAsc fun i => min (A i) (B i) := by
  have h := descAsc_max (α := EReal) (fun i => -(A i)) (fun i => -(B i)) (fun i j h => EReal.neg_le_neg_iff.mpr (hA h))
    (fun i j h => EReal.neg_le_neg_iff.mpr (hB h))
  have e : ∀ i, max (-(A i)) (-(B i)) = -(min (A i) (B i)) := fun i => by
    rcases le_total (A i) (B i) with hab | hab
    · rw [min_eq_left hab, max_eq_left (EReal.neg_le_neg_iff.mpr hab)]
    · rw [min_eq_right hab, max_eq_right (EReal.neg_le_neg_iff.mpr hab)]
  simp only [e] at h
  obtain ⟨m, h | h⟩ := h
  · exact ⟨m, Or.inr ⟨fun i j a b => EReal.neg_le_neg_iff.mp (h.1 i j a b), fun i j a b => EReal.neg_le_neg_iff.mp (h.2 i j a b)⟩⟩
  · exact ⟨m, Or.inl ⟨fun i j a b => EReal.neg_le_neg_iff.mp (h.1 i j a b), fun i j a b => EReal.neg_le_neg_iff.mp (h.2 i j a b)⟩⟩

/-! ## Sixteen rounds of neighbouring merges -/

section
variable (k : ℕ → ℕ → ℕ)

/-- How many of the marked values the blocks before `j` hold before round `p`. -/
def before (p j : ℕ) : ℕ := ∑ d ∈ Finset.range j, k p d

theorem before_zero (p : ℕ) : before k p 0 = 0 := rfl
theorem before_succ (p j : ℕ) : before k p (j + 1) = before k p j + k p j := Finset.sum_range_succ _ _

variable (hM : ∀ p d, k p d ≤ 4096)
  (hpair : ∀ p e, e % 2 = p % 2 → e + 1 < 16 →
    k (p + 1) e = k p e + k p (e + 1) - 4096 ∧ k (p + 1) (e + 1) = min 4096 (k p e + k p (e + 1)))
  (hedge : ∀ p, p % 2 = 1 → k (p + 1) 0 = k p 0 ∧ k (p + 1) 15 = k p 15)
include hM

theorem before_add (p j m : ℕ) : before k p j ≤ before k p (j + m) ∧ before k p (j + m) ≤ before k p j + m * 4096 := by
  induction m with
  | zero => simp
  | succ m ih => have := hM p (j + m); rw [← Nat.add_assoc, before_succ]; omega

include hpair hedge

/-- Where no pair of a round crosses, the count of the blocks before stays. -/
theorem before_keep (p m : ℕ) : p % 2 + 2 * m ≤ 16 → before k (p + 1) (p % 2 + 2 * m) = before k p (p % 2 + 2 * m) := by
  induction m with
  | zero =>
    intro _
    rcases Nat.mod_two_eq_zero_or_one p with h | h
    · rw [h]; rfl
    · rw [h, Nat.mul_zero, Nat.add_zero, before_succ, before_succ, before_zero, before_zero, (hedge p h).1]
  | succ m ih =>
    intro hm
    have h := hpair p (p % 2 + 2 * m) (by omega) (by omega)
    have := ih (by omega)
    rw [show p % 2 + 2 * (m + 1) = p % 2 + 2 * m + 1 + 1 by omega, before_succ, before_succ, before_succ, before_succ]
    omega

theorem before_same {p j : ℕ} (hj : j ≤ 16) (h : j % 2 = p % 2) : before k (p + 1) j = before k p j := by
  have := before_keep k hM hpair hedge p ((j - p % 2) / 2) (by omega)
  rwa [show p % 2 + 2 * ((j - p % 2) / 2) = j by omega] at this

theorem before_all (p : ℕ) : before k p 16 = before k 0 16 := by
  induction p with
  | zero => rfl
  | succ p ih =>
    rw [← ih]
    rcases Nat.mod_two_eq_zero_or_one p with h | h
    · exact before_same k hM hpair hedge le_rfl (by omega)
    · rw [before_succ k (p + 1) 15, before_succ k p 15, before_same k hM hpair hedge (j := 15) (by decide) (by omega), (hedge p h).2]

/-- Where a pair of a round crosses, the count follows from its two neighbours. -/
theorem before_cross {p j : ℕ} (hj : j + 1 < 16) (h : j % 2 = p % 2) :
    before k (p + 1) (j + 1) = max (before k p j) (before k p (j + 2) - 4096) := by
  have h1 := before_same k hM hpair hedge (p := p) (j := j) (by omega) h
  have h2 := hpair p j h hj
  rw [before_succ, before_succ, before_succ]
  omega

omit hM hpair hedge in
/-- The bound a count has after `n` rounds of following its neighbours. -/
def Bound (S n j P : ℕ) : Prop :=
  P = 0 ∨ P + (16 - j) * 4096 ≤ S ∨ ∃ L R, L + R = n ∧ P + L * 4096 ≤ j * 4096 ∧ P + R * 4096 ≤ S

omit hM hpair hedge in
theorem Bound.cross {S n j P Q X : ℕ} (hj : j + 1 < 16) (hP : Bound S n j P) (hQ : Bound S n (j + 2) Q) (hX : X = max P (Q - 4096)) :
    Bound S (n + 1) (j + 1) X := by
  unfold Bound at *
  rcases Nat.le_total (Q - 4096) P with h | h
  · rw [max_eq_left h] at hX; subst hX
    rcases hP with h0 | h0 | ⟨L, R, h0, h1, h2⟩
    · left; exact h0
    · right; left; omega
    · right; right; refine ⟨L + 1, R, ?_, ?_, ?_⟩ <;> omega
  · rw [max_eq_right h] at hX; subst hX
    by_cases hq : Q ≤ 4096
    · left; omega
    rcases hQ with h0 | h0 | ⟨L, R, h0, h1, h2⟩
    · left; omega
    · right; left; omega
    · right; right; refine ⟨L, R + 1, ?_, ?_, ?_⟩ <;> omega

theorem bound_round (p : ℕ) : ∀ j, j ≤ 16 → Bound (before k 0 16) (if j % 2 = p % 2 then p else p - 1) j (before k p j) := by
  induction p with
  | zero =>
    intro j hj
    have h1 := before_add k hM 0 0 j
    have h2 := before_add k hM 0 j (16 - j)
    rw [Nat.zero_add, before_zero] at h1
    rw [show j + (16 - j) = 16 by omega] at h2
    unfold Bound
    right; right; refine ⟨0, 0, ?_, ?_, ?_⟩
    · split <;> rfl
    · omega
    · omega
  | succ p ih =>
    intro j hj
    by_cases h0 : j = 0
    · subst h0; unfold Bound; left; rfl
    by_cases h16 : j = 16
    · subst h16; unfold Bound; right; left; rw [before_all k hM hpair hedge]; omega
    by_cases hp : j % 2 = (p + 1) % 2
    · rw [if_pos hp]
      obtain ⟨i, rfl⟩ : ∃ i, j = i + 1 := ⟨j - 1, by omega⟩
      have a := ih i (by omega)
      have b := ih (i + 2) (by omega)
      rw [if_pos (by omega)] at a b
      exact Bound.cross (by omega) a b (before_cross k hM hpair hedge (by omega) (by omega))
    · rw [if_neg hp, before_same k hM hpair hedge hj (by omega)]
      have a := ih j hj
      rwa [if_pos (by omega)] at a

/-- After sixteen rounds a block that holds a marked value is followed by blocks of marked values alone. -/
theorem full_after {d d' : ℕ} (hd : d < d') (hd' : d' < 16) (h : 0 < k 16 d) : k 16 d' = 4096 := by
  have end_ : ∀ j, j ≤ 16 → 0 < before k 16 j → before k 16 j + (16 - j) * 4096 ≤ before k 0 16 := by
    intro j hj hpos
    have hn : 15 ≤ (if j % 2 = 16 % 2 then 16 else 16 - 1) := by split <;> omega
    rcases bound_round k hM hpair hedge 16 j hj with h0 | h0 | ⟨L, R, h0, h1, h2⟩
    · omega
    · exact h0
    · omega
  have hp1 : 0 < before k 16 (d + 1) := by rw [before_succ]; omega
  have hp2 : 0 < before k 16 d' := by
    have := (before_add k hM 16 (d + 1) (d' - (d + 1))).1
    rw [show d + 1 + (d' - (d + 1)) = d' by omega] at this
    omega
  have a := end_ d' (by omega) hp2
  have c := (before_add k hM 16 (d' + 1) (16 - (d' + 1))).2
  rw [show d' + 1 + (16 - (d' + 1)) = 16 by omega, before_all k hM hpair hedge] at c
  have s := before_succ k 16 d'
  have m := hM 16 d'
  omega

end

end SortK

end
-- ==== Proof.Line.lean ====
/- The sixteen devices' rounds as one sort: what a merge of two devices does to the counts, a device of odd number holding
   its values negated; and the blocks laid one after the other, which the rounds leave sorted. -/
module

public import proofs.«01_k».proof.Proof.Arith
public import proofs.«01_k».proof.Proof.Blocks
public import Mathlib.Data.Fintype.BigOperators

@[expose] public section

set_option maxRecDepth 20000

noncomputable section

namespace SortK

open Idealize.ShloMosaic.SortNet

/-! ## One merge -/

/-- A column, negated where `o` says so. -/
def sg {n : ℕ} (o : Bool) (v : Fin n → EReal) : Fin n → EReal := fun i => if o = true then -(v i) else v i

theorem sg_sg {n : ℕ} (o : Bool) (v : Fin n → EReal) : sg o (sg o v) = v := by
  funext i; cases o <;> simp [sg]

theorem sg_comp {n : ℕ} (o : Bool) (v : Fin n → EReal) (σ : Equiv.Perm (Fin n)) : sg o (v ∘ σ) = sg o v ∘ σ := rfl

theorem neg_antitone {n : ℕ} {v : Fin n → EReal} (h : Monotone v) : Antitone fun i => -(v i) :=
  fun _ _ hij => EReal.neg_le_neg_iff.mpr (h hij)

theorem sg_descAsc {n : ℕ} (o : Bool) {v : Fin n → EReal} (h : Monotone v) : DescAsc (sg o v) := by
  cases o
  · exact DescAsc.of_monotone h
  · exact DescAsc.of_antitone (neg_antitone h)

/-- What a device keeps of its column and its partner's, each as it is held, before it puts it in order: `o` for a device of
    odd number, `lo` for the lower one of the pair. -/
def pick {n : ℕ} (o lo : Bool) (cur pv : Fin n → EReal) : Fin n → EReal :=
  fun i => if lo = o then max (cur i) (-(pv i)) else min (cur i) (-(pv i))

theorem pick_descAsc {n : ℕ} (o lo : Bool) {cur pv : Fin n → EReal} (hc : Monotone cur) (hp : Monotone pv) :
    DescAsc (pick o lo cur pv) := by
  unfold pick
  by_cases h : lo = o
  · simp only [if_pos h]
    have := descAsc_max (α := EReal) (fun i => -(pv i)) cur (neg_antitone hp) hc
    simpa only [max_comm] using this
  · simp only [if_neg h]
    exact descAsc_min cur (fun i => -(pv i)) hc (neg_antitone hp)

theorem neg_max' (a b : EReal) : -(max a (-b)) = min b (-a) := by
  rcases le_total a (-b) with h | h
  · rw [max_eq_right h, neg_neg, min_eq_left]; rw [← neg_neg b]; exact EReal.neg_le_neg_iff.mpr h
  · rw [max_eq_left h, min_eq_right]; rw [← neg_neg b]; exact EReal.neg_le_neg_iff.mpr h

theorem neg_min' (a b : EReal) : -(min a (-b)) = max b (-a) := by
  rcases le_total a (-b) with h | h
  · rw [min_eq_left h, max_eq_right]; rw [← neg_neg b]; exact EReal.neg_le_neg_iff.mpr h
  · rw [min_eq_right h, neg_neg, max_eq_left]; rw [← neg_neg b]; exact EReal.neg_le_neg_iff.mpr h

/-- The counts of what is kept: the lower device has what both have above the threshold beyond a full block, the upper
    device the rest. -/
theorem pick_cnt {n : ℕ} (t : EReal) (o lo : Bool) {cur pv : Fin n → EReal} (hc : Monotone cur) (hp : Monotone pv) :
    cnt t (sg o (pick o lo cur pv)) = if lo = true then cnt t (sg o cur) + cnt t (sg (!o) pv) - n
      else min n (cnt t (sg o cur) + cnt t (sg (!o) pv)) := by
  have h1 := cnt_minmax t cur (fun i => -(pv i)) hc (neg_antitone hp)
  have h2 := cnt_minmax t pv (fun i => -(cur i)) hp (neg_antitone hc)
  rw [Nat.add_comm] at h2
  cases o <;> cases lo
  · exact h1.2
  · exact h1.1
  · refine (congrArg (cnt t) (funext fun i => ?_)).trans h2.2
    exact neg_min' _ _
  · refine (congrArg (cnt t) (funext fun i => ?_)).trans h2.1
    exact neg_max' _ _

/-! ## The blocks one after the other -/

/-- Sixteen blocks laid one after the other. -/
def glue (f : Dv → Fin (2 ^ 12) → EReal) : Fin 65536 → EReal :=
  fun n => f ⟨n.val / 4096, by omega⟩ ⟨n.val % 4096, by omega⟩

theorem glue_apply (f : Dv → Fin (2 ^ 12) → EReal) (d : Dv) (i : Fin (2 ^ 12)) (h : d.val * 4096 + i.val < 65536) :
    glue f ⟨d.val * 4096 + i.val, h⟩ = f d i :=
  congrArg₂ f (Fin.ext (show (d.val * 4096 + i.val) / 4096 = d.val by omega)) (Fin.ext (show (d.val * 4096 + i.val) % 4096 = i.val by omega))

/-- A position of the whole is a block and a position in it. -/
def place : Fin 65536 ≃ Dv × Fin (2 ^ 12) where
  toFun n := (⟨n.val / 4096, by omega⟩, ⟨n.val % 4096, by omega⟩)
  invFun q := ⟨q.1.val * 4096 + q.2.val, by omega⟩
  left_inv n := Fin.ext (by show n.val / 4096 * 4096 + n.val % 4096 = n.val; omega)
  right_inv q := Prod.ext (Fin.ext (by show (q.1.val * 4096 + q.2.val) / 4096 = q.1.val; omega))
    (Fin.ext (by show (q.1.val * 4096 + q.2.val) % 4096 = q.2.val; omega))

theorem cnt_glue (t : EReal) (f : Dv → Fin (2 ^ 12) → EReal) : cnt t (glue f) = ∑ d : Dv, cnt t (f d) := by
  unfold cnt
  simp only [Finset.card_filter]
  rw [← Fintype.sum_prod_type' (f := fun (d : Dv) (i : Fin (2 ^ 12)) => if t < f d i then 1 else 0)]
  exact Fintype.sum_equiv place _ _ fun _ => rfl

theorem glue_mono {f : Dv → Fin (2 ^ 12) → EReal} (hf : ∀ d, Monotone (f d)) (h : ∀ d d', d < d' → ∀ i i', f d i ≤ f d' i') :
    Monotone (glue f) := by
  intro n n' hn
  have hv : n.val ≤ n'.val := hn
  unfold glue
  by_cases he : n.val / 4096 = n'.val / 4096
  · have e : (⟨n'.val / 4096, by omega⟩ : Dv) = ⟨n.val / 4096, by omega⟩ := Fin.ext he.symm
    rw [e]
    exact hf _ (show n.val % 4096 ≤ n'.val % 4096 by omega)
  · exact h _ _ (show n.val / 4096 < n'.val / 4096 by omega) _ _

/-! ## The rounds -/

theorem pair_decided : ∀ q : Fin 2, ∀ e : Fin 15, e.val % 2 = q.val →
    active q.val ⟨e.val, by omega⟩ = true ∧ active q.val ⟨e.val + 1, by omega⟩ = true
      ∧ partner q.val ⟨e.val, by omega⟩ = ⟨e.val + 1, by omega⟩ ∧ partner q.val ⟨e.val + 1, by omega⟩ = ⟨e.val, by omega⟩ := by
  decide

theorem pair_of (p e : ℕ) (he : e % 2 = p % 2) (h1 : e + 1 < 16) :
    active p ⟨e, by omega⟩ = true ∧ active p ⟨e + 1, h1⟩ = true
      ∧ partner p ⟨e, by omega⟩ = ⟨e + 1, h1⟩ ∧ partner p ⟨e + 1, h1⟩ = ⟨e, by omega⟩ := by
  rw [active_mod p ⟨e, _⟩, active_mod p ⟨e + 1, _⟩, partner_mod p ⟨e, _⟩, partner_mod p ⟨e + 1, _⟩]
  exact pair_decided ⟨p % 2, by omega⟩ ⟨e, by omega⟩ he

theorem idle_of (p : ℕ) (h : p % 2 = 1) : active p 0 = false ∧ active p 15 = false := by
  rw [active_mod p 0, active_mod p 15, h]; decide

/-- Columns `T p d` that change by the rounds' merges and are left sorted within every block as `f` are left sorted as a
    whole, with the values they began with. -/
theorem sorted_of_rounds (T : ℕ → Dv → Fin (2 ^ 12) → EReal)
    (hact : ∀ t p d, active p d = true → cnt t (T (p + 1) d) = if d < partner p d
      then cnt t (T p d) + cnt t (T p (partner p d)) - 2 ^ 12 else min (2 ^ 12) (cnt t (T p d) + cnt t (T p (partner p d))))
    (hidle : ∀ t p d, active p d = false → cnt t (T (p + 1) d) = cnt t (T p d))
    (f g : Dv → Fin (2 ^ 12) → EReal) (hf : ∀ d, Monotone (f d)) (hc : ∀ t d, cnt t (f d) = cnt t (T 16 d))
    (hg : ∀ t d, cnt t (g d) = cnt t (T 0 d)) :
    Monotone (glue f) ∧ ∀ t, cnt t (glue f) = cnt t (glue g) := by
  have e12 : 2 ^ 12 = 4096 := rfl
  let k : EReal → ℕ → ℕ → ℕ := fun t p d => if h : d < 16 then cnt t (T p ⟨d, h⟩) else 0
  have kd : ∀ t p (d : Dv), k t p d.val = cnt t (T p d) := fun t p d => dif_pos d.isLt
  have hM : ∀ t p d, k t p d ≤ 4096 := fun t p d => by
    by_cases h : d < 16
    · exact (kd t p ⟨d, h⟩).trans_le (cnt_le t (T p ⟨d, h⟩))
    · show dite _ _ _ ≤ _; rw [dif_neg h]; exact Nat.zero_le _
  have hpair : ∀ t p e, e % 2 = p % 2 → e + 1 < 16 →
      k t (p + 1) e = k t p e + k t p (e + 1) - 4096 ∧ k t (p + 1) (e + 1) = min 4096 (k t p e + k t p (e + 1)) := by
    intro t p e he h1
    obtain ⟨a1, a2, a3, a4⟩ := pair_of p e he h1
    have b1 := hact t p _ a1
    have b2 := hact t p _ a2
    rw [a3, if_pos (show (⟨e, by omega⟩ : Dv) < ⟨e + 1, h1⟩ from Nat.lt_succ_self e)] at b1
    rw [a4, if_neg (show ¬ (⟨e + 1, h1⟩ : Dv) < ⟨e, by omega⟩ from Nat.not_lt.mpr (Nat.le_succ e))] at b2
    rw [kd t p ⟨e, by omega⟩, kd t p ⟨e + 1, h1⟩, kd t (p + 1) ⟨e, by omega⟩, kd t (p + 1) ⟨e + 1, h1⟩]
    exact ⟨b1, b2.trans (congrArg (min 4096) (Nat.add_comm _ _))⟩
  have hedge : ∀ t p, p % 2 = 1 → k t (p + 1) 0 = k t p 0 ∧ k t (p + 1) 15 = k t p 15 := by
    intro t p h
    obtain ⟨a, b⟩ := idle_of p h
    exact ⟨(kd t (p + 1) 0).trans ((hidle t p 0 a).trans (kd t p 0).symm), (kd t (p + 1) 15).trans ((hidle t p 15 b).trans (kd t p 15).symm)⟩
  have tot : ∀ t p, before (k t) p 16 = ∑ d : Dv, cnt t (T p d) := fun t p => by
    unfold before
    rw [Finset.sum_range]
    exact Finset.sum_congr rfl fun d _ => kd t p d
  refine ⟨glue_mono hf fun d d' hd i i' => ?_, fun t => ?_⟩
  · by_contra hlt
    rw [not_le] at hlt
    have h0 : 0 < k (f d' i') 16 d.val := by rw [kd, ← hc]; exact cnt_pos i hlt
    have h1 := full_after (k (f d' i')) (hM _) (hpair _) (hedge _) hd d'.isLt h0
    rw [kd, ← hc] at h1
    exact lt_irrefl _ (lt_of_cnt (t := f d' i') (v := f d') (h1.trans e12.symm) i')
  · rw [cnt_glue, cnt_glue]
    simp only [hc, hg]
    rw [← tot, ← tot]
    exact before_all (k t) (hM t) (hpair t) (hedge t) 16

end SortK

end
-- ==== Proof.Ideal.Columns.lean ====
/- What the kernel leaves in a column of every chunk, over the extended reals: the sixteen devices' columns, laid one after
   the other, ascend and have the values that the devices began with. -/
module

public import proofs.«01_k».proof.Proof.Ideal.Nets
public import proofs.«01_k».proof.Proof.Ideal.Vs
public import proofs.«01_k».proof.Proof.Line

@[expose] public section

set_option maxRecDepth 20000

noncomputable section

namespace Cert.KernelIdeal.Sort

open Cert.KernelIdeal Cert.KernelIdeal.Gen SortK
open Idealize.ShloMosaic Idealize.ShloMosaic.TcCoe
open Idealize.ShloMosaic.SortNet hiding partner

/-- The device's number is odd. -/
def odb (d : Dv) : Bool := decide (d.val % 2 = 1)

theorem zero_bf16 : (Scalar.ofBits .bf16 0x0000#16 : Ideal .bf16) = (0 : EReal) := by
  show Ideal.ofBits .bf16 0x0000#16 = 0
  simp [Ideal.ofBits, Ideal.ieee]

theorem flip_apply (x : FVec Ideal S4096x128 .bf16) (i : S4096x128.Idx) :
    subf (broadcast S4096x128 (Scalar.ofBits .bf16 0x0000#16)) x i = (-(x i) : EReal) := by
  show ((Scalar.ofBits .bf16 0x0000#16 : Ideal .bf16) : EReal) - x i = _
  rw [zero_bf16, sub_eq_add_neg, zero_add]

theorem signV_col (d : Dv) (x : FVec Ideal S4096x128 .bf16) (l : Fin 128) : colOf (signV (od d) x) l = sg (odb d) (colOf x l) := by
  funext i
  unfold colOf signV od sg odb
  by_cases h : d.val % 2 = 1
  · rw [if_pos h, if_pos (decide_eq_true h)]
    exact flip_apply _ _
  · rw [if_neg h, if_neg (by simpa using h)]
    rfl

theorem landedV_col (v : Vec Ideal S4096x128 .bf16) (l : Fin 128) (i : Fin (2 ^ 12)) :
    landedV (unsq v) ((colC l).col i) = (-(colOf v l i) : EReal) := by
  unfold landedV
  rw [flip_apply]
  show -(v _) = -(v _)
  congr 2
  exact Equiv.symm_apply_apply _ _

section
variable (X : Dev nD → Vec Ideal S4096x1024 .bf16) (c : ℕ) (l : Fin 128)

/-- The column a device holds before phase `p`. -/
def held (p : ℕ) (d : Dv) : Fin (2 ^ 12) → EReal := colOf (Vs X p d c) l

/-- The column as its values are: a device of odd number holds them negated. -/
def vals (p : ℕ) (d : Dv) : Fin (2 ^ 12) → EReal := sg (odb d) (held X c l p d)

theorem held_zero (d : Dv) : held X c l 0 d = colOf (sortAscV (signV (od d) (colsOf (X d) c))) l := by
  unfold held
  rw [Vs, sortV_eq, shapeCast_self]

theorem held_idle (p : ℕ) (d : Dv) (h : active p d = false) : held X c l (p + 1) d = held X c l p d := by
  unfold held
  rw [Vs, if_neg (by rw [h]; exact Bool.false_ne_true)]

/-- The chunk a merge works on. -/
def kept (p : ℕ) (d : Dv) : FVec Ideal S4096x128 .bf16 :=
  Scalar.select (tm p d) (minimumf (Vs X p d c) (landedV (unsq (Vs X p (partner p d) c))))
    (maximumf (Vs X p d c) (landedV (unsq (Vs X p (partner p d) c))))

theorem held_active (p : ℕ) (d : Dv) (h : active p d = true) : held X c l (p + 1) d = colOf (mergeV (kept X c p d)) l := by
  unfold held kept
  rw [Vs, if_pos h, consV_eq, shapeCast_self]

theorem kept_col (p : ℕ) (d : Dv) : colOf (kept X c p d) l
    = pick (odb d) (decide (d < partner p d)) (held X c l p d) (held X c l p (partner p d)) := by
  funext i
  unfold kept colOf tm pick odb
  by_cases h : (decide (d < partner p d)) = (decide (d.val % 2 = 1))
  · rw [if_pos h, if_pos h]
    exact congrArg (max _) (landedV_col _ l i)
  · rw [if_neg h, if_neg h]
    exact congrArg (min _) (landedV_col _ l i)

theorem held_mono (p : ℕ) : ∀ d, Monotone (held X c l p d) := by
  induction p with
  | zero => intro d; rw [held_zero]; exact sortAscV_mono _ _
  | succ p ih =>
    intro d
    by_cases h : active p d = true
    · rw [held_active X c l p d h]
      refine mergeV_mono _ _ ?_
      rw [kept_col]
      exact pick_descAsc _ _ (ih _) (ih _)
    · rw [held_idle X c l p d (by simpa using h)]; exact ih d

theorem odb_partner (p : ℕ) (d : Dv) (h : active p d = true) : odb (partner p d) = !odb d := by
  rw [active_mod] at h
  rw [partner_mod]
  rcases Nat.mod_two_eq_zero_or_one p with hp | hp <;> rw [hp] at h ⊢ <;> revert d <;> decide

theorem vals_active (t : EReal) (p : ℕ) (d : Dv) (h : active p d = true) : cnt t (vals X c l (p + 1) d)
    = if d < partner p d then cnt t (vals X c l p d) + cnt t (vals X c l p (partner p d)) - 2 ^ 12
      else min (2 ^ 12) (cnt t (vals X c l p d) + cnt t (vals X c l p (partner p d))) := by
  obtain ⟨σ, hσ⟩ := mergeV_perm (kept X c p d) l
  have hk := pick_cnt t (odb d) (decide (d < partner p d)) (held_mono X c l p d) (held_mono X c l p (partner p d))
  unfold vals
  rw [held_active X c l p d h, hσ, sg_comp, cnt_comp, kept_col, hk, odb_partner p d h]
  simp only [decide_eq_true_eq]

theorem vals_idle (t : EReal) (p : ℕ) (d : Dv) (h : active p d = false) : cnt t (vals X c l (p + 1) d) = cnt t (vals X c l p d) := by
  unfold vals
  rw [held_idle X c l p d h]

/-- The column a device ends with. -/
def ends (d : Dv) : Fin (2 ^ 12) → EReal := colOf (finV (od d) (Vs X 16 d c)) l

theorem ends_eq (d : Dv) : ends X c l d = colOf (mergeV (signV (od d) (Vs X 16 d c))) l := by
  unfold ends
  rw [finV_eq, shapeCast_self]

theorem ends_mono (d : Dv) : Monotone (ends X c l d) := by
  rw [ends_eq]
  refine mergeV_mono _ _ ?_
  rw [signV_col]
  exact sg_descAsc _ (held_mono X c l 16 d)

theorem ends_cnt (t : EReal) (d : Dv) : cnt t (ends X c l d) = cnt t (vals X c l 16 d) := by
  obtain ⟨σ, hσ⟩ := mergeV_perm (signV (od d) (Vs X 16 d c)) l
  rw [ends_eq, hσ, cnt_comp, signV_col]
  rfl

theorem starts_cnt (t : EReal) (d : Dv) : cnt t (colOf (colsOf (X d) c) l) = cnt t (vals X c l 0 d) := by
  obtain ⟨σ, hσ⟩ := sortAscV_perm (signV (od d) (colsOf (X d) c)) l
  unfold vals
  rw [held_zero, hσ, sg_comp, cnt_comp, signV_col, sg_sg]

/-- The columns the devices end with, one after the other, ascend and have the values they began with. -/
theorem ends_sorted : Monotone (glue (ends X c l))
    ∧ ∀ t, cnt t (glue (ends X c l)) = cnt t (glue fun d => colOf (colsOf (X d) c) l) :=
  sorted_of_rounds (vals X c l) (vals_active X c l) (vals_idle X c l) _ _ (ends_mono X c l) (ends_cnt X c l) (starts_cnt X c l)

end

end Cert.KernelIdeal.Sort

end
-- ==== Proof.Ref.lean ====
/- The run of the reference: from any memory with zero counters it ends with its result at `refOut` of its argument, the
   argument as it was. -/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceIdeal.Sort

open Cert.ReferenceIdeal Cert.ReferenceIdeal.Gen
open Idealize.ShloMosaic Idealize.ShloMosaic.TcCoe Idealize.ShloMosaic.StableHlo Idealize.SL.Sem

variable {F : FTy → Type} [FloatOps F]

/-- The reference's result: the argument widened, sorted along its first axis, narrowed. -/
def refOut (x : FVec F S65536x1024 .bf16) : FVec F S65536x1024 .bf16 :=
  truncf .bf16 (Host.sort S65536x1024 0 comparator_f32_d0 (extf .f32 x bitsLt_bf16_f32)) bitsLt_bf16_f32

/-- The reference's operations, in order. -/
abbrev ops : List (HloOp τ sig (Elt F)) :=
  [ unary main_arg0 main_v0 ((extf .f32 · bitsLt_bf16_f32) : (⟨S65536x1024, .bf16⟩ : BufTy).Contents (Elt F) → (⟨S65536x1024, .f32⟩ : BufTy).Contents (Elt F)),
    TRef.unary (.of main_v0) (.of main_v1) (fun x => Host.sort S65536x1024 0 comparator_f32_d0 x),
    unary main_v1 main_v2 ((truncf .bf16 · bitsLt_bf16_f32) : (⟨S65536x1024, .f32⟩ : BufTy).Contents (Elt F) → (⟨S65536x1024, .bf16⟩ : BufTy).Contents (Elt F)) ]

theorem main_eq (c : Dev nD) : main (F := F) c = seq ops := rfl

theorem out_eq (V : Valuation τ sig (Elt F)) : after ops V (main_v2 : DevRef τ sig) = refOut (V (main_arg0 : DevRef τ sig)) := by
  after_results
  rfl

theorem arg0_eq (V : Valuation τ sig (Elt F)) : after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub ..⟩

/-- The run. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v2) = refOut (m ((c.tc : Thread nD τ).loc main_arg0))
        ∧ r.2.mem ((c.tc : Thread nD τ).loc main_arg0) = m ((c.tc : Thread nD τ).loc main_arg0) :=
  (θ_run defs _ _).mono (fun _ h c => ⟨(h c main_v2).trans (out_eq _), (h c main_arg0).trans (arg0_eq _)⟩)
    (run_seq scopedRefs_eq scopedSems_eq defs main (fun _ => ops) main_eq (fun _ => ops_sub) m ρ)

/-- Its argument ends unchanged and its counters at zero. -/
theorem frame_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c).2, sem_eq_zero_of_no_sems (by decide) r.2⟩) (run_main m ρ)

end Cert.ReferenceIdeal.Sort

end
-- ==== Proof.Ideal.Final.lean ====
/- The value claim: over the extended reals every device ends with its block of what the reference computes. -/
module

public import proofs.«01_k».proof.Proof.Ideal.Columns
public import proofs.«01_k».proof.Proof.Ideal.Run
public import proofs.«01_k».proof.Proof.Ref
public import Idealize.ShloMosaic.Lib.SortFacts
public import Idealize.ShloMosaic.Lib.Layout

@[expose] public section

set_option maxRecDepth 20000

noncomputable section

namespace Cert.ReferenceIdeal.Sort

open Cert.ReferenceIdeal Cert.ReferenceIdeal.Gen SortK
open Idealize.ShloMosaic Idealize.ShloMosaic.TcCoe

/-- The reference's comparator is the order of the extended reals. -/
theorem comparator_eq (a b : EReal) : comparator_f32_d0 (F := Ideal) a b = BitVec.ofBool (decide (a < b)) := by
  have hz : (FloatOps.ofBits .f32 0x00000000#32 : Ideal .f32) = (0 : EReal) := by
    show Ideal.ofBits .f32 0x00000000#32 = 0
    simp [Ideal.ofBits, Ideal.ieee]
  have key : ∀ u w : EReal, Scalar.select (FloatOps.cmpf (F := Ideal) (φ := .f32) .une u u) w
      (Scalar.select (FloatOps.cmpf (F := Ideal) (φ := .f32) .oeq u (FloatOps.ofBits .f32 0x00000000#32 : Ideal .f32))
        (FloatOps.ofBits .f32 0x00000000#32 : Ideal .f32) u) = u := by
    intro u w
    rw [hz]
    show Scalar.select (BitVec.ofBool (decide (u ≠ u))) w (Scalar.select (BitVec.ofBool (decide (u = 0))) (0 : EReal) u) = u
    rw [decide_eq_false (fun h : u ≠ u => h rfl)]
    by_cases h : u = 0
    · subst h; rw [decide_eq_true rfl]; rfl
    · rw [decide_eq_false h]; rfl
  unfold comparator_f32_d0
  show FloatOps.cmpfTotal (F := Ideal) (φ := .f32) .lt _ _ = _
  rw [key, key]
  rfl

/-- A column sorted by the order ascends and has the values it had. -/
theorem sort_col {n : ℕ} (v : Fin n → EReal) (B : Fin n → Fin n → Bool) (hB : ∀ k k', B k k' = decide (v k < v k')) :
    Monotone (v ∘ sortedFrom B) ∧ ∀ t, cnt t (v ∘ sortedFrom B) = cnt t v := by
  refine ⟨fun i j hij => ?_, fun t => ?_⟩
  · rcases hij.eq_or_lt with rfl | h
    · exact le_rfl
    · have := sortedFrom_noInversion B B
        (fun a b h => by rw [hB] at h ⊢; exact decide_eq_false (not_lt.mpr (of_decide_eq_true h).le)) (fun _ _ h => h)
        (fun a b c h h' => by
          rw [hB] at h h' ⊢
          exact decide_eq_false (not_lt.mpr ((not_lt.mp (of_decide_eq_false h')).trans (not_lt.mp (of_decide_eq_false h))))) i j h
      rw [hB] at this
      exact not_lt.mp (of_decide_eq_false this)
  · exact cnt_comp t v (Equiv.ofBijective (sortedFrom B) ⟨sortedFrom_injective B, sortedFrom_surjective B⟩)

/-- A column of the reference's result. -/
theorem ref_col (x : FVec Ideal S65536x1024 .bf16) (j : Fin 1024) :
    ∃ B : Fin 65536 → Fin 65536 → Bool,
      (∀ k k', B k k' = decide ((x (ix2 (n0 := 65536) (n1 := 1024) k j) : EReal) < x (ix2 k' j)))
      ∧ (fun n => (refOut x (ix2 (n0 := 65536) (n1 := 1024) n j) : EReal)) = (fun k => (x (ix2 (n0 := 65536) (n1 := 1024) k j) : EReal)) ∘ sortedFrom B := by
  have hal : ∀ n k : Fin 65536, Shape.Idx.along (s := S65536x1024) (ix2 (n0 := 65536) (n1 := 1024) n j) (0 : Fin 2) k = ix2 k j := by
    intro n k
    funext a
    match a with
    | ⟨0, _⟩ => rfl
    | ⟨1, _⟩ => rfl
  refine ⟨fun k k' => comparator_f32_d0 (F := Ideal) (x (ix2 (n0 := 65536) (n1 := 1024) k j)) (x (ix2 (n0 := 65536) (n1 := 1024) k' j)) == 1#1, fun k k' => ?_, ?_⟩
  · beta_reduce
    rw [comparator_eq]
    cases decide ((x (ix2 (n0 := 65536) (n1 := 1024) k j) : EReal) < x (ix2 k' j)) <;> rfl
  · funext n
    show x (Shape.Idx.along (s := S65536x1024) (ix2 (n0 := 65536) (n1 := 1024) n j) (0 : Fin 2)
      (sortedFrom (fun k k' : Fin 65536 => comparator_f32_d0 (F := Ideal)
        (x (Shape.Idx.along (s := S65536x1024) (ix2 (n0 := 65536) (n1 := 1024) n j) (0 : Fin 2) k))
        (x (Shape.Idx.along (s := S65536x1024) (ix2 (n0 := 65536) (n1 := 1024) n j) (0 : Fin 2) k')) == 1#1) n)) = _
    simp only [hal]
    exact congrArg x (hal n _)

theorem ref_sorted (x : FVec Ideal S65536x1024 .bf16) (j : Fin 1024) :
    Monotone (fun n => (refOut x (ix2 (n0 := 65536) (n1 := 1024) n j) : EReal))
    ∧ ∀ t, cnt t (fun n => (refOut x (ix2 (n0 := 65536) (n1 := 1024) n j) : EReal)) = cnt t (fun k => (x (ix2 (n0 := 65536) (n1 := 1024) k j) : EReal)) := by
  obtain ⟨B, hB, e⟩ := ref_col x j
  rw [e]
  exact sort_col _ B hB

end Cert.ReferenceIdeal.Sort

namespace Cert.KernelIdeal.Sort

open Cert.KernelIdeal Cert.KernelIdeal.Gen SortK
open Idealize.ShloMosaic Idealize.ShloMosaic.TcCoe
open Cert.ReferenceIdeal.Sort (refOut ref_sorted)

/-- The whole argument and the whole result. -/
abbrev SW : Shape := ⟨2, ![65536, 1024]⟩

/-- A device's block of a whole. -/
abbrev blk (x : FVec Ideal SW .bf16) (d : Dev nD) : FVec Ideal S4096x1024 .bf16 :=
  Layout.block ⟨2, ![4096, 1024]⟩ ⟨2, ![65536, 1024]⟩ 0 16 d x

theorem starts_glue (x : FVec Ideal SW .bf16) (j : Fin 1024) :
    (glue fun d => colOf (colsOf (F := Ideal) (blk x d) (j.val / 128)) ⟨j.val % 128, by omega⟩) = fun n => (x (ix2 (n0 := 65536) (n1 := 1024) n j) : EReal) := by
  funext n
  unfold glue colOf colsOf
  refine congrArg x (funext fun a => Fin.ext ?_)
  rw [Layout.Tiles.idx_val]
  match a with
  | ⟨0, _⟩ =>
    show n.val / 4096 * 4096 + ((rectC (j.val / 128)).emb _ (0 : Fin 2)).val = n.val
    rw [emb_rectC]
    show n.val / 4096 * 4096 + (0 + n.val % 4096) = n.val
    omega
  | ⟨1, _⟩ =>
    show ((rectC (j.val / 128)).emb _ (1 : Fin 2)).val = j.val
    rw [emb_rectC]
    show 128 * (j.val / 128 % 8) + j.val % 128 = j.val
    omega

/-- Every device ends with its block of the reference's result. -/
theorem final_eq (x : FVec Ideal SW .bf16) (d : Dev nD) : finalOf (F := Ideal) (blk x) d = blk (refOut x) d := by
  funext i
  have hr : (i (0 : Fin 2)).val < 4096 := (i (0 : Fin 2)).isLt
  have hq : (i (1 : Fin 2)).val < 1024 := (i (1 : Fin 2)).isLt
  have hd : d.val < 16 := d.isLt
  obtain ⟨h1, h2⟩ := ends_sorted (blk x) ((i (1 : Fin 2)).val / 128) ⟨(i (1 : Fin 2)).val % 128, by omega⟩
  obtain ⟨h3, h4⟩ := ref_sorted x ⟨(i (1 : Fin 2)).val, hq⟩
  have h5 := starts_glue x ⟨(i (1 : Fin 2)).val, hq⟩
  have h6 := eq_of_cnt _ _ h1 h3 fun t => (h2 t).trans ((congrArg (SortK.cnt t) h5).trans (h4 t).symm)
  have h7 := congrFun h6 ⟨d.val * 4096 + (i (0 : Fin 2)).val, by omega⟩
  have e : (glue (ends (blk x) ((i (1 : Fin 2)).val / 128) ⟨(i (1 : Fin 2)).val % 128, by omega⟩)) ⟨d.val * 4096 + (i (0 : Fin 2)).val, by omega⟩
      = ends (blk x) ((i (1 : Fin 2)).val / 128) ⟨(i (1 : Fin 2)).val % 128, by omega⟩ d ⟨(i (0 : Fin 2)).val, hr⟩ :=
    glue_apply _ d ⟨(i (0 : Fin 2)).val, hr⟩ _
  rw [e] at h7
  refine Eq.trans ?_ (h7.trans ?_)
  · unfold finalOf wholeOf ends colOf
    refine congrArg (finV _ _) (funext fun a => ?_)
    match a with
    | ⟨0, _⟩ => rfl
    | ⟨1, _⟩ => rfl
  · refine congrArg (refOut x) (funext fun a => Fin.ext ?_)
    rw [Layout.Tiles.idx_val]
    match a with
    | ⟨0, _⟩ => rfl
    | ⟨1, _⟩ => rfl

/-- Reading a window over its whole array. -/
theorem read_o (f : main_v1.ty.Contents (Elt Ideal)) : (win0_1.blk (0 : Fin 1)).view.read (Elt Ideal) f = f :=
  Memref.read_access_unit_zero (Elt Ideal) main_v1 (funext fun a => by fin_cases a <;> decide) (fun a => by fin_cases a <;> decide) f

theorem read_x (f : main_arg0.ty.Contents (Elt Ideal)) : (win0_0.blk (0 : Fin 1)).view.read (Elt Ideal) f = f :=
  Memref.read_access_unit_zero (Elt Ideal) main_arg0 (funext fun a => by fin_cases a <;> decide) (fun a => by fin_cases a <;> decide) f

/-- The contents of a device's result at the end, the devices' arguments being the blocks of `x`. -/
theorem result_eq (m : (ℓ : Loc nD τ sig) → Buf (Elt Ideal) ℓ) (ρ : Dev nD → PrngReg) (x : FVec Ideal SW .bf16)
    (hm : ∀ c : Dev nD, m ((c.tc : Thread nD τ).loc main_arg0) = blk x c) (c : Dev nD) :
    finalA m ρ c (1 : Fin 2) = blk (refOut x) c := by
  have hx : xb m ρ = blk x := funext fun d => by
    unfold xb
    rw [read_x]
    exact hm d
  have ho := finalA_o m ρ c
  rw [hx, final_eq, read_o] at ho
  exact ho

end Cert.KernelIdeal.Sort

end
-- ==== Proof.lean ====
/- The claims of this certificate, from the run of the kernel at both float instances (Proof/Machine, Proof/Ideal) and the
   run of the reference (Proof/Ref); what the two leave is compared in Proof/Ideal/Final. -/
module

public import proofs.«01_k».proof.Defs
public import proofs.«01_k».proof.Proof.Machine.Run
public import proofs.«01_k».proof.Proof.Ideal.Run
public import proofs.«01_k».proof.Proof.Ideal.Final
public import proofs.«01_k».proof.Proof.Ref

@[expose] public section

noncomputable section

namespace Cert.Proof

open Idealize.ShloMosaic Idealize.ShloMosaic.TcCoe Idealize.SL.Sem

/-- The kernel as printed: it terminates, its argument unchanged, every counter back at zero. -/
theorem frame_kernel : Cert.quiescent_Kernel := fun m ρ _ => Cert.Kernel.Sort.frame_main m ρ

/-- The same of its idealization. -/
theorem frame_ideal : Cert.quiescent_KernelIdeal := fun m ρ _ => Cert.KernelIdeal.Sort.frame_main m ρ

/-- And of the reference. -/
theorem frame_reference : Cert.quiescent_ReferenceIdeal := fun m ρ _ => Cert.ReferenceIdeal.Sort.frame_main m ρ

/-- Over the extended reals every device ends with its block of the reference's result. -/
theorem value : Cert.algebraic_KernelIdeal_ReferenceIdeal := by
  intro m ρ m' ρ' _ hm
  refine ⟨Cert.ReferenceIdeal.Sort.refOut (F := Ideal) (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h.1 c 1).trans (Cert.KernelIdeal.Sort.result_eq m ρ _ hm c), (h.1 c 0).trans (Cert.KernelIdeal.Sort.finalA_x m ρ c)⟩)
      (Cert.KernelIdeal.Sort.run_main m ρ)
  · exact (θ_run Cert.ReferenceIdeal.defs _ _).mono (fun _ h => h 0) (Cert.ReferenceIdeal.Sort.run_main m' ρ')

/-- Everything claimed. -/
theorem claim : Cert.Claim :=
  ⟨Cert.Kernel.Gen.facts, Cert.KernelIdeal.Gen.facts, Cert.ReferenceIdeal.Gen.facts, frame_kernel, frame_ideal, frame_reference, trivial,
    value⟩

end Cert.Proof

end
